-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_all_finite [hPre_all_finite : Cert.Pre_all_finite.Facts] (m : (ℓ : Loc Cert.AttnIdeal.nD Cert.AttnIdeal.τ Cert.AttnIdeal.sig) → Buf (Elt Ideal) ℓ) : Prop :=
  ∀ c : Dev Cert.AttnIdeal.nD,
    (Cert.Pre_all_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_all_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_all_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_all_finite [hPre_all_finite : Cert.Pre_all_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_all_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_all_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_all_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutRefIdeal (m : (ℓ : Loc Cert.SsmOutRefIdeal.nD Cert.SsmOutRefIdeal.τ Cert.SsmOutRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_all_finite [hAttnIdeal : Cert.AttnIdeal.Facts] [hPre_all_finite : Cert.Pre_all_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_all_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_all_finite [hAttnRefIdeal : Cert.AttnRefIdeal.Facts] [hPre_all_finite : Cert.Pre_all_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_all_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1)
      ∧ r.2.mem ((c.tc : Thread Cert.SsmIn.nD Cert.SsmIn.τ).loc Cert.SsmIn.main_arg2) = m ((c.tc : Thread Cert.SsmIn.nD Cert.SsmIn.τ).loc Cert.SsmIn.main_arg2))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1)
      ∧ r.2.mem ((c.tc : Thread Cert.SsmInIdeal.nD Cert.SsmInIdeal.τ).loc Cert.SsmInIdeal.main_arg2) = m ((c.tc : Thread Cert.SsmInIdeal.nD Cert.SsmInIdeal.τ).loc Cert.SsmInIdeal.main_arg2))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1)
      ∧ r.2.mem ((c.tc : Thread Cert.SsmInRefIdeal.nD Cert.SsmInRefIdeal.τ).loc Cert.SsmInRefIdeal.main_arg2) = m ((c.tc : Thread Cert.SsmInRefIdeal.nD Cert.SsmInRefIdeal.τ).loc Cert.SsmInRefIdeal.main_arg2))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1)
      ∧ r.2.mem ((c.tc : Thread Cert.SsmOut.nD Cert.SsmOut.τ).loc Cert.SsmOut.main_arg2) = m ((c.tc : Thread Cert.SsmOut.nD Cert.SsmOut.τ).loc Cert.SsmOut.main_arg2)
      ∧ r.2.mem ((c.tc : Thread Cert.SsmOut.nD Cert.SsmOut.τ).loc Cert.SsmOut.main_arg3) = m ((c.tc : Thread Cert.SsmOut.nD Cert.SsmOut.τ).loc Cert.SsmOut.main_arg3)
      ∧ r.2.mem ((c.tc : Thread Cert.SsmOut.nD Cert.SsmOut.τ).loc Cert.SsmOut.main_arg4) = m ((c.tc : Thread Cert.SsmOut.nD Cert.SsmOut.τ).loc Cert.SsmOut.main_arg4)
      ∧ r.2.mem ((c.tc : Thread Cert.SsmOut.nD Cert.SsmOut.τ).loc Cert.SsmOut.main_arg5) = m ((c.tc : Thread Cert.SsmOut.nD Cert.SsmOut.τ).loc Cert.SsmOut.main_arg5))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
      ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3)
      ∧ r.2.mem ((c.tc : Thread Cert.SsmOutIdeal.nD Cert.SsmOutIdeal.τ).loc Cert.SsmOutIdeal.main_arg4) = m ((c.tc : Thread Cert.SsmOutIdeal.nD Cert.SsmOutIdeal.τ).loc Cert.SsmOutIdeal.main_arg4)
      ∧ r.2.mem ((c.tc : Thread Cert.SsmOutIdeal.nD Cert.SsmOutIdeal.τ).loc Cert.SsmOutIdeal.main_arg5) = m ((c.tc : Thread Cert.SsmOutIdeal.nD Cert.SsmOutIdeal.τ).loc Cert.SsmOutIdeal.main_arg5))
      ∧ r.2.sem = fun _ => 0)

def quiescent_SsmOutRefIdeal [hSsmOutRefIdeal : Cert.SsmOutRefIdeal.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1)
      ∧ r.2.mem ((c.tc : Thread Cert.SsmOutRefIdeal.nD Cert.SsmOutRefIdeal.τ).loc Cert.SsmOutRefIdeal.main_arg2) = m ((c.tc : Thread Cert.SsmOutRefIdeal.nD Cert.SsmOutRefIdeal.τ).loc Cert.SsmOutRefIdeal.main_arg2)
      ∧ r.2.mem ((c.tc : Thread Cert.SsmOutRefIdeal.nD Cert.SsmOutRefIdeal.τ).loc Cert.SsmOutRefIdeal.main_arg3) = m ((c.tc : Thread Cert.SsmOutRefIdeal.nD Cert.SsmOutRefIdeal.τ).loc Cert.SsmOutRefIdeal.main_arg3)
      ∧ r.2.mem ((c.tc : Thread Cert.SsmOutRefIdeal.nD Cert.SsmOutRefIdeal.τ).loc Cert.SsmOutRefIdeal.main_arg4) = m ((c.tc : Thread Cert.SsmOutRefIdeal.nD Cert.SsmOutRefIdeal.τ).loc Cert.SsmOutRefIdeal.main_arg4)
      ∧ r.2.mem ((c.tc : Thread Cert.SsmOutRefIdeal.nD Cert.SsmOutRefIdeal.τ).loc Cert.SsmOutRefIdeal.main_arg5) = m ((c.tc : Thread Cert.SsmOutRefIdeal.nD Cert.SsmOutRefIdeal.τ).loc Cert.SsmOutRefIdeal.main_arg5))
      ∧ r.2.sem = fun _ => 0)

def preserves_Attn_AttnIdeal : Prop :=
  IdealRules.named_const.Statement Cert.AttnIdeal.κ "log2_e" .f32 0x3FB8AA3B#32 (((Real.log 2)⁻¹ : ℝ) : EReal)
  ∧ IdealRules.named_const.Statement Cert.AttnIdeal.κ "query_scale" .f32 0x3E38AA3B#32 (((8 * (Real.log 2))⁻¹ : ℝ) : EReal)

def algebraic_AttnIdeal_AttnRefIdeal_pre_all_finite [hAttnIdeal : Cert.AttnIdeal.Facts] [hAttnRefIdeal : Cert.AttnRefIdeal.Facts] [hPre_all_finite : Cert.Pre_all_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_all_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v53)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v53) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v102) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v48) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v14) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)
      ∧ m' ((c.tc : Thread Cert.SsmInRefIdeal.nD Cert.SsmInRefIdeal.τ).loc Cert.SsmInRefIdeal.main_arg2) = m ((c.tc : Thread Cert.SsmInIdeal.nD Cert.SsmInIdeal.τ).loc Cert.SsmInIdeal.main_arg2)) →
    ∃ (v0 : (c : Dev Cert.SsmInIdeal.nD) → Buf (Elt Ideal) ((c.tc : Thread Cert.SsmInIdeal.nD Cert.SsmInIdeal.τ).loc Cert.SsmInIdeal.main_v8_0)) (v1 : (c : Dev Cert.SsmInIdeal.nD) → Buf (Elt Ideal) ((c.tc : Thread Cert.SsmInIdeal.nD Cert.SsmInIdeal.τ).loc Cert.SsmInIdeal.main_v8_1)) (v2 : (c : Dev Cert.SsmInIdeal.nD) → Buf (Elt Ideal) ((c.tc : Thread Cert.SsmInIdeal.nD Cert.SsmInIdeal.τ).loc Cert.SsmInIdeal.main_v8_2)) (v3 : (c : Dev Cert.SsmInIdeal.nD) → Buf (Elt Ideal) ((c.tc : Thread Cert.SsmInIdeal.nD Cert.SsmInIdeal.τ).loc Cert.SsmInIdeal.main_v8_3)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v8_0) = v0 c
          ∧ r.2.mem ((c.tc : Thread Cert.SsmInIdeal.nD Cert.SsmInIdeal.τ).loc Cert.SsmInIdeal.main_v8_1) = v1 c
          ∧ r.2.mem ((c.tc : Thread Cert.SsmInIdeal.nD Cert.SsmInIdeal.τ).loc Cert.SsmInIdeal.main_v8_2) = v2 c
          ∧ r.2.mem ((c.tc : Thread Cert.SsmInIdeal.nD Cert.SsmInIdeal.τ).loc Cert.SsmInIdeal.main_v8_3) = v3 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1)
          ∧ r.2.mem ((c.tc : Thread Cert.SsmInIdeal.nD Cert.SsmInIdeal.τ).loc Cert.SsmInIdeal.main_arg2) = m ((c.tc : Thread Cert.SsmInIdeal.nD Cert.SsmInIdeal.τ).loc Cert.SsmInIdeal.main_arg2))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v17) = v0 c
          ∧ r.2.mem ((c.tc : Thread Cert.SsmInRefIdeal.nD Cert.SsmInRefIdeal.τ).loc Cert.SsmInRefIdeal.main_v18) = v1 c
          ∧ r.2.mem ((c.tc : Thread Cert.SsmInRefIdeal.nD Cert.SsmInRefIdeal.τ).loc Cert.SsmInRefIdeal.main_v16) = v2 c
          ∧ r.2.mem ((c.tc : Thread Cert.SsmInRefIdeal.nD Cert.SsmInRefIdeal.τ).loc Cert.SsmInRefIdeal.main_v19) = v3 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1)
          ∧ r.2.mem ((c.tc : Thread Cert.SsmInRefIdeal.nD Cert.SsmInRefIdeal.τ).loc Cert.SsmInRefIdeal.main_arg2) = m' ((c.tc : Thread Cert.SsmInRefIdeal.nD Cert.SsmInRefIdeal.τ).loc Cert.SsmInRefIdeal.main_arg2))

def preserves_SsmOut_SsmOutIdeal : Prop :=
  True

def algebraic_SsmOutIdeal_SsmOutRefIdeal [hSsmOutIdeal : Cert.SsmOutIdeal.Facts] [hSsmOutRefIdeal : Cert.SsmOutRefIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutRefIdeal.nD Cert.SsmOutRefIdeal.τ Cert.SsmOutRefIdeal.sig) → Buf (Elt Ideal) ℓ) (g' : Dev Cert.SsmOutRefIdeal.nD → PrngReg), Pre_SsmOutIdeal m →
    (∀ c : Dev Cert.SsmOutIdeal.nD,
      m' ((c.tc : Thread Cert.SsmOutRefIdeal.nD Cert.SsmOutRefIdeal.τ).loc Cert.SsmOutRefIdeal.main_arg0) = m ((c.tc : Thread Cert.SsmOutIdeal.nD Cert.SsmOutIdeal.τ).loc Cert.SsmOutIdeal.main_arg0)
      ∧ m' ((c.tc : Thread Cert.SsmOutRefIdeal.nD Cert.SsmOutRefIdeal.τ).loc Cert.SsmOutRefIdeal.main_arg1) = m ((c.tc : Thread Cert.SsmOutIdeal.nD Cert.SsmOutIdeal.τ).loc Cert.SsmOutIdeal.main_arg1)
      ∧ m' ((c.tc : Thread Cert.SsmOutRefIdeal.nD Cert.SsmOutRefIdeal.τ).loc Cert.SsmOutRefIdeal.main_arg2) = m ((c.tc : Thread Cert.SsmOutIdeal.nD Cert.SsmOutIdeal.τ).loc Cert.SsmOutIdeal.main_arg2)
      ∧ m' ((c.tc : Thread Cert.SsmOutRefIdeal.nD Cert.SsmOutRefIdeal.τ).loc Cert.SsmOutRefIdeal.main_arg3) = m ((c.tc : Thread Cert.SsmOutIdeal.nD Cert.SsmOutIdeal.τ).loc Cert.SsmOutIdeal.main_arg3)
      ∧ m' ((c.tc : Thread Cert.SsmOutRefIdeal.nD Cert.SsmOutRefIdeal.τ).loc Cert.SsmOutRefIdeal.main_arg4) = m ((c.tc : Thread Cert.SsmOutIdeal.nD Cert.SsmOutIdeal.τ).loc Cert.SsmOutIdeal.main_arg4)
      ∧ m' ((c.tc : Thread Cert.SsmOutRefIdeal.nD Cert.SsmOutRefIdeal.τ).loc Cert.SsmOutRefIdeal.main_arg5) = m ((c.tc : Thread Cert.SsmOutIdeal.nD Cert.SsmOutIdeal.τ).loc Cert.SsmOutIdeal.main_arg5)) →
    ∃ (v0 : (c : Dev Cert.SsmOutIdeal.nD) → Buf (Elt Ideal) ((c.tc : Thread Cert.SsmOutIdeal.nD Cert.SsmOutIdeal.τ).loc Cert.SsmOutIdeal.main_v5)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v5) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
          ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
          ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3)
          ∧ r.2.mem ((c.tc : Thread Cert.SsmOutIdeal.nD Cert.SsmOutIdeal.τ).loc Cert.SsmOutIdeal.main_arg4) = m ((c.tc : Thread Cert.SsmOutIdeal.nD Cert.SsmOutIdeal.τ).loc Cert.SsmOutIdeal.main_arg4)
          ∧ r.2.mem ((c.tc : Thread Cert.SsmOutIdeal.nD Cert.SsmOutIdeal.τ).loc Cert.SsmOutIdeal.main_arg5) = m ((c.tc : Thread Cert.SsmOutIdeal.nD Cert.SsmOutIdeal.τ).loc Cert.SsmOutIdeal.main_arg5))
      ∧ θ_run (Cert.SsmOutRefIdeal.defs (F := Ideal)) (onTc (τ := Cert.SsmOutRefIdeal.τ) (Cert.SsmOutRefIdeal.main (F := Ideal))) ⟨m', fun _ => 0, g'⟩ (fun r => ∀ c : Dev Cert.SsmOutRefIdeal.nD,
          r.2.mem ((c.tc : Thread Cert.SsmOutRefIdeal.nD Cert.SsmOutRefIdeal.τ).loc Cert.SsmOutRefIdeal.main_v31) = v0 c
          ∧ r.2.mem ((c.tc : Thread Cert.SsmOutRefIdeal.nD Cert.SsmOutRefIdeal.τ).loc Cert.SsmOutRefIdeal.main_arg0) = m' ((c.tc : Thread Cert.SsmOutRefIdeal.nD Cert.SsmOutRefIdeal.τ).loc Cert.SsmOutRefIdeal.main_arg0)
          ∧ r.2.mem ((c.tc : Thread Cert.SsmOutRefIdeal.nD Cert.SsmOutRefIdeal.τ).loc Cert.SsmOutRefIdeal.main_arg1) = m' ((c.tc : Thread Cert.SsmOutRefIdeal.nD Cert.SsmOutRefIdeal.τ).loc Cert.SsmOutRefIdeal.main_arg1)
          ∧ r.2.mem ((c.tc : Thread Cert.SsmOutRefIdeal.nD Cert.SsmOutRefIdeal.τ).loc Cert.SsmOutRefIdeal.main_arg2) = m' ((c.tc : Thread Cert.SsmOutRefIdeal.nD Cert.SsmOutRefIdeal.τ).loc Cert.SsmOutRefIdeal.main_arg2)
          ∧ r.2.mem ((c.tc : Thread Cert.SsmOutRefIdeal.nD Cert.SsmOutRefIdeal.τ).loc Cert.SsmOutRefIdeal.main_arg3) = m' ((c.tc : Thread Cert.SsmOutRefIdeal.nD Cert.SsmOutRefIdeal.τ).loc Cert.SsmOutRefIdeal.main_arg3)
          ∧ r.2.mem ((c.tc : Thread Cert.SsmOutRefIdeal.nD Cert.SsmOutRefIdeal.τ).loc Cert.SsmOutRefIdeal.main_arg4) = m' ((c.tc : Thread Cert.SsmOutRefIdeal.nD Cert.SsmOutRefIdeal.τ).loc Cert.SsmOutRefIdeal.main_arg4)
          ∧ r.2.mem ((c.tc : Thread Cert.SsmOutRefIdeal.nD Cert.SsmOutRefIdeal.τ).loc Cert.SsmOutRefIdeal.main_arg5) = m' ((c.tc : Thread Cert.SsmOutRefIdeal.nD Cert.SsmOutRefIdeal.τ).loc Cert.SsmOutRefIdeal.main_arg5))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hQkv : Cert.Qkv.Facts) (hQkvIdeal : Cert.QkvIdeal.Facts) (hQkvRefIdeal : Cert.QkvRefIdeal.Facts) (hSsmIn : Cert.SsmIn.Facts) (hSsmInIdeal : Cert.SsmInIdeal.Facts) (hSsmInRefIdeal : Cert.SsmInRefIdeal.Facts) (hSsmOut : Cert.SsmOut.Facts) (hSsmOutIdeal : Cert.SsmOutIdeal.Facts) (hSsmOutRefIdeal : Cert.SsmOutRefIdeal.Facts) (hPre_all_finite : Cert.Pre_all_finite.Facts),
    quiescent_Attn (hAttn := hAttn)
    ∧ quiescent_AttnIdeal (hAttnIdeal := hAttnIdeal)
    ∧ quiescent_AttnIdeal_pre_all_finite (hAttnIdeal := hAttnIdeal) (hPre_all_finite := hPre_all_finite)
    ∧ quiescent_AttnRefIdeal (hAttnRefIdeal := hAttnRefIdeal)
    ∧ quiescent_AttnRefIdeal_pre_all_finite (hAttnRefIdeal := hAttnRefIdeal) (hPre_all_finite := hPre_all_finite)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Qkv (hQkv := hQkv)
    ∧ quiescent_QkvIdeal (hQkvIdeal := hQkvIdeal)
    ∧ quiescent_QkvRefIdeal (hQkvRefIdeal := hQkvRefIdeal)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_SsmOut (hSsmOut := hSsmOut)
    ∧ quiescent_SsmOutIdeal (hSsmOutIdeal := hSsmOutIdeal)
    ∧ quiescent_SsmOutRefIdeal (hSsmOutRefIdeal := hSsmOutRefIdeal)
    ∧ preserves_Attn_AttnIdeal
    ∧ algebraic_AttnIdeal_AttnRefIdeal_pre_all_finite (hAttnIdeal := hAttnIdeal) (hAttnRefIdeal := hAttnRefIdeal) (hPre_all_finite := hPre_all_finite)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Qkv_QkvIdeal
    ∧ algebraic_QkvIdeal_QkvRefIdeal (hQkvIdeal := hQkvIdeal) (hQkvRefIdeal := hQkvRefIdeal)
    ∧ preserves_SsmIn_SsmInIdeal
    ∧ algebraic_SsmInIdeal_SsmInRefIdeal (hSsmInIdeal := hSsmInIdeal) (hSsmInRefIdeal := hSsmInRefIdeal)
    ∧ preserves_SsmOut_SsmOutIdeal
    ∧ algebraic_SsmOutIdeal_SsmOutRefIdeal (hSsmOutIdeal := hSsmOutIdeal) (hSsmOutRefIdeal := hSsmOutRefIdeal)
-- ==== Pre_all_finite.lean ====
abbrev S32x2048x3072 : Shape := ⟨3, ![32, 2048, 3072]⟩
abbrev S4x64 : Shape := ⟨2, ![4, 64]⟩
abbrev S128 : Shape := ⟨1, ![128]⟩
abbrev S32x8 : Shape := ⟨2, ![32, 8]⟩
abbrev S_ : Shape := ⟨0, ![]⟩

class Facts : Prop where
  bcast_S_S32x2048x3072 : S_.BroadcastsInDim S32x2048x3072 (![] : Fin 0 → Fin S32x2048x3072.rank)
  bcast_S_S4x64 : S_.BroadcastsInDim S4x64 (![] : Fin 0 → Fin S4x64.rank)
  bcast_S_S32x8 : S_.BroadcastsInDim S32x8 (![] : Fin 0 → Fin S32x8.rank)

variable [Facts]

def fn {F : FTy → Type} [FloatOps F] (main_arg0 : FVec F S32x2048x3072 .f32) (main_arg1 : FVec F S4x64 .f32) (main_arg2 : FVec F S128 .f32) (main_arg3 : FVec F S32x8 .f32) : IVec S32x2048x3072 1 × IVec S4x64 1 × IVec S32x8 1 :=
  let main_v0 : FVec F S32x2048x3072 .f32 := Host.absf main_arg0
  let main_cst : FVec F S_ .f32 := constant S_ .f32 0x7F800000#32
  let main_v1 : FVec F S32x2048x3072 .f32 := broadcastInDim S32x2048x3072 ![] bcast_S_S32x2048x3072 main_cst
  let main_v2 : IVec S32x2048x3072 1 := cmpf .olt main_v0 main_v1
  let main_v3 : FVec F S4x64 .f32 := Host.absf main_arg1
  let main_cst_0 : FVec F S_ .f32 := constant S_ .f32 0x7F800000#32
  let main_v4 : FVec F S4x64 .f32 := broadcastInDim S4x64 ![] bcast_S_S4x64 main_cst_0
  let main_v5 : IVec S4x64 1 := cmpf .olt main_v3 main_v4
  let main_v6 : FVec F S32x8 .f32 := Host.absf main_arg3
  let main_cst_1 : FVec F S_ .f32 := constant S_ .f32 0x7F800000#32
  let main_v7 : FVec F S32x8 .f32 := broadcastInDim S32x8 ![] bcast_S_S32x8 main_cst_1
  let main_v8 : IVec S32x8 1 := cmpf .olt main_v6 main_v7
  (main_v2, main_v5, main_v8)
-- ==== Attn.lean ====
abbrev S32x2048x3072 : Shape := ⟨3, ![32, 2048, 3072]⟩
abbrev S4x64 : Shape := ⟨2, ![4, 64]⟩
abbrev S128 : Shape := ⟨1, ![128]⟩
abbrev S32x8 : Shape := ⟨2, ![32, 8]⟩
abbrev S1x64 : Shape := ⟨2, ![1, 64]⟩
abbrev S64 : Shape := ⟨1, ![64]⟩
abbrev S_ : Shape := ⟨0, ![]⟩
abbrev S8x32 : Shape := ⟨2, ![8, 32]⟩
abbrev S1 : Shape := ⟨1, ![1]⟩
abbrev S512 : Shape := ⟨1, ![512]⟩
abbrev S512x1 : Shape := ⟨2, ![512, 1]⟩
abbrev S2560 : Shape := ⟨1, ![2560]⟩
abbrev S1x2560 : Shape := ⟨2, ![1, 2560]⟩
abbrev S512x2560 : Shape := ⟨2, ![512, 2560]⟩
abbrev S1x128 : Shape := ⟨2, ![1, 128]⟩
abbrev S32x2048x1024 : Shape := ⟨3, ![32, 2048, 1024]⟩
abbrev S1x2048x128 : Shape := ⟨3, ![1, 2048, 128]⟩
abbrev S1024x2048 : Shape := ⟨2, ![1024, 2048]⟩
abbrev S2048x256 : Shape := ⟨2, ![2048, 256]⟩
abbrev S1024x128 : Shape := ⟨2, ![1024, 128]⟩
abbrev S1x1 : Shape := ⟨2, ![1, 1]⟩
abbrev S2048x128 : Shape := ⟨2, ![2048, 128]⟩
abbrev S1x512x128 : Shape := ⟨3, ![1, 512, 128]⟩
abbrev S512x128 : Shape := ⟨2, ![512, 128]⟩
abbrev S128x128 : Shape := ⟨2, ![128, 128]⟩
abbrev S128x512 : Shape := ⟨2, ![128, 512]⟩
abbrev S128x1024 : Shape := ⟨2, ![128, 1024]⟩
abbrev S1x1024x128 : Shape := ⟨3, ![1, 1024, 128]⟩
abbrev S128x1 : Shape := ⟨2, ![128, 1]⟩
abbrev S1024x1 : Shape := ⟨2, ![1024, 1]⟩
abbrev S512x2048 : Shape := ⟨2, ![512, 2048]⟩
abbrev S512x256 : Shape := ⟨2, ![512, 256]⟩

abbrev nBuf : Space → Nat
  | .hbm => 74
  | .vmem => 15
  | .smem => 2
  | _ => 0

abbrev bufTy : (tb : Table) → Fin (tcTables nBuf tb) → BufTy
  | .hbm, ⟨0, _⟩ => ⟨S32x2048x3072, .f32⟩
  | .hbm, ⟨1, _⟩ => ⟨S4x64, .f32⟩
  | .hbm, ⟨2, _⟩ => ⟨S128, .f32⟩
  | .hbm, ⟨3, _⟩ => ⟨S32x8, .f32⟩
  | .hbm, ⟨4, _⟩ => ⟨S32x2048x3072, .bf16⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x32, .f32⟩
  | .hbm, ⟨25, _⟩ => ⟨S1, .f32⟩
  | .hbm, ⟨26, _⟩ => ⟨S512, .i32⟩
  | .hbm, ⟨27, _⟩ => ⟨S512x1, .i32⟩
  | .hbm, ⟨28, _⟩ => ⟨S2560, .i32⟩
  | .hbm, ⟨29, _⟩ => ⟨S1x2560, .i32⟩
  | .hbm, ⟨30, _⟩ => ⟨S512x2560, .i32⟩
  | .hbm, ⟨31, _⟩ => ⟨S512x2560, .i32⟩
  | .hbm, ⟨32, _⟩ => ⟨S512x2560, .i32⟩
  | .hbm, ⟨33, _⟩ => ⟨S_, .i32⟩
  | .hbm, ⟨34, _⟩ => ⟨S512x2560, .i32⟩
  | .hbm, ⟨35, _⟩ => ⟨S512x2560, .i32⟩
  | .hbm, ⟨36, _⟩ => ⟨S_, .i32⟩
  | .hbm, ⟨37, _⟩ => ⟨S512x2560, .i32⟩
  | .hbm, ⟨38, _⟩ => ⟨S512x2560, .i1⟩
  | .hbm, ⟨39, _⟩ => ⟨S_, .i32⟩
  | .hbm, ⟨40, _⟩ => ⟨S_, .i32⟩
  | .hbm, ⟨41, _⟩ => ⟨S512x2560, .i32⟩
  | .hbm, ⟨42, _⟩ => ⟨S512x2560, .i32⟩
  | .hbm, ⟨43, _⟩ => ⟨S512x2560, .i32⟩
  | .hbm, ⟨44, _⟩ => ⟨S512x2560, .i32⟩
  | .hbm, ⟨45, _⟩ => ⟨S_, .i32⟩
  | .hbm, ⟨46, _⟩ => ⟨S512x2560, .i32⟩
  | .hbm, ⟨47, _⟩ => ⟨S512x2560, .i32⟩
  | .hbm, ⟨48, _⟩ => ⟨S512x2560, .f32⟩
  | .hbm, ⟨49, _⟩ => ⟨S_, .f32⟩
  | .hbm, ⟨50, _⟩ => ⟨S512x2560, .f32⟩
  | .hbm, ⟨51, _⟩ => ⟨S512x2560, .f32⟩
  | .hbm, ⟨52, _⟩ => ⟨S512x2560, .f32⟩
  | .hbm, ⟨53, _⟩ => ⟨S_, .f32⟩
  | .hbm, ⟨54, _⟩ => ⟨S512x2560, .f32⟩
  | .hbm, ⟨55, _⟩ => ⟨S512x2560, .f32⟩
  | .hbm, ⟨56, _⟩ => ⟨S_, .f32⟩
  | .hbm, ⟨57, _⟩ => ⟨S512x2560, .f32⟩
  | .hbm, ⟨58, _⟩ => ⟨S512x2560, .f32⟩
  | .hbm, ⟨59, _⟩ => ⟨S512x2560, .i32⟩
  | .hbm, ⟨60, _⟩ => ⟨S_, .i32⟩
  | .hbm, ⟨61, _⟩ => ⟨S512x2560, .i32⟩
  | .hbm, ⟨62, _⟩ => ⟨S512x2560, .i32⟩
  | .hbm, ⟨63, _⟩ => ⟨S_, .i32⟩
  | .hbm, ⟨64, _⟩ => ⟨S512x2560, .i32⟩
  | .hbm, ⟨65, _⟩ => ⟨S512x2560, .i32⟩
  | .hbm, ⟨66, _⟩ => ⟨S_, .i32⟩
  | .hbm, ⟨67, _⟩ => ⟨S512x2560, .i32⟩
  | .hbm, ⟨68, _⟩ => ⟨S512x2560, .i1⟩
  | .hbm, ⟨69, _⟩ => ⟨S512x2560, .i32⟩
  | .hbm, ⟨70, _⟩ => ⟨S512x2560, .i32⟩
  | .hbm, ⟨71, _⟩ => ⟨S512x2560, .i32⟩
  | .hbm, ⟨72, _⟩ => ⟨S1x128, .f32⟩
  | .hbm, ⟨73, _⟩ => ⟨S32x2048x1024, .bf16⟩
  | .local _ .vmem, ⟨0, _⟩ => ⟨S512x2560, .i32⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x128, .f32⟩
  | .local _ .vmem, ⟨8, _⟩ => ⟨S1x2048x128, .bf16⟩
  | .local _ .vmem, ⟨9, _⟩ => ⟨S1x2048x128, .bf16⟩
  | .local _ .vmem, ⟨10, _⟩ => ⟨S512x2560, .f32⟩
  | .local _ .vmem, ⟨11, _⟩ => ⟨S1024x2048, .f32⟩
  | .local _ .vmem, ⟨12, _⟩ => ⟨S1024x2048, .bf16⟩
  | .local _ .vmem, ⟨13, _⟩ => ⟨S2048x256, .bf16⟩
  | .local _ .vmem, ⟨14, _⟩ => ⟨S1024x128, .bf16⟩
  | .local _ .smem, ⟨0, _⟩ => ⟨S1, .f32⟩
  | .local _ .smem, ⟨1, _⟩ => ⟨S8x32, .f32⟩
  | _, _ => ⟨S32x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_c_4 : Ref sig .tc := ⟨.hbm, 40, rfl⟩
abbrev main_call0_v0 : Ref sig .tc := ⟨.hbm, 41, rfl⟩
abbrev main_call0_v1 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_c_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v3006 : Index := Scalar.indexCast arg0
  let c0_1462 : Index := 0#32
  ![v3006.toNat, 0]
def k0_off2 (i : grid0.Coords) : Fin 2 → Nat :=
  let arg0 : BitVec 32 := BitVec.ofNat 32 (i 0).val
  let v3012 : Index := Scalar.indexCast arg0
  let c1 : Index := 1#32
  ![v3012.toNat, 1]
def k0_off3 (i : grid0.Coords) : Fin 2 → Nat :=
  let arg0 : BitVec 32 := BitVec.ofNat 32 (i 0).val
  let v3018 : Index := Scalar.indexCast arg0
  let c2 : Index := 2#32
  ![v3018.toNat, 2]
def k0_off4 (i : grid0.Coords) : Fin 2 → Nat :=
  let arg0 : BitVec 32 := BitVec.ofNat 32 (i 0).val
  let v3024 : Index := Scalar.indexCast arg0
  let c3 : Index := 3#32
  ![v3024.toNat, 3]
def k0_off5 (i : grid0.Coords) : Fin 2 → Nat :=
  let arg0 : BitVec 32 := BitVec.ofNat 32 (i 0).val
  let v3030 : Index := Scalar.indexCast arg0
  let c4 : Index := 4#32
  ![v3030.toNat, 4]
def k0_off6 (i : grid0.Coords) : Fin 2 → Nat :=
  let arg0 : BitVec 32 := BitVec.ofNat 32 (i 0).val
  let v3036 : Index := Scalar.indexCast arg0
  let c5 : Index := 5#32
  ![v3036.toNat, 5]
def k0_off7 (i : grid0.Coords) : Fin 2 → Nat :=
  let arg0 : BitVec 32 := BitVec.ofNat 32 (i 0).val
  let v3042 : Index := Scalar.indexCast arg0
  let c6 : Index := 6#32
  ![v3042.toNat, 6]
def k0_off8 (i : grid0.Coords) : Fin 2 → Nat :=
  let arg0 : BitVec 32 := BitVec.ofNat 32 (i 0).val
  let v3048 : Index := Scalar.indexCast arg0
  let c7 : Index := 7#32
  ![v3048.toNat, 7]
def k0_off9 (i : grid0.Coords) : Fin 2 → Nat :=
  let arg0 : BitVec 32 := BitVec.ofNat 32 (i 0).val
  let v3054 : Index := Scalar.indexCast arg0
  let c8 : Index := 8#32
  ![v3054.toNat, 8]
def k0_off10 (i : grid0.Coords) : Fin 2 → Nat :=
  let arg0 : BitVec 32 := BitVec.ofNat 32 (i 0).val
  let v3060 : Index := Scalar.indexCast arg0
  let c9 : Index := 9#32
  ![v3060.toNat, 9]
def k0_off11 (i : grid0.Coords) : Fin 2 → Nat :=
  let arg0 : BitVec 32 := BitVec.ofNat 32 (i 0).val
  let v3066 : Index := Scalar.indexCast arg0
  let c10 : Index := 10#32
  ![v3066.toNat, 10]
def k0_off12 (i : grid0.Coords) : Fin 2 → Nat :=
  let arg0 : BitVec 32 := BitVec.ofNat 32 (i 0).val
  let v3072 : Index := Scalar.indexCast arg0
  let c11 : Index := 11#32
  ![v3072.toNat, 11]
def k0_off13 (i : grid0.Coords) : Fin 2 → Nat :=
  let arg0 : BitVec 32 := BitVec.ofNat 32 (i 0).val
  let v3078 : Index := Scalar.indexCast arg0
  let c12 : Index := 12#32
  ![v3078.toNat, 12]
def k0_off14 (i : grid0.Coords) : Fin 2 → Nat :=
  let arg0 : BitVec 32 := BitVec.ofNat 32 (i 0).val
  let v3084 : Index := Scalar.indexCast arg0
  let c13 : Index := 13#32
  ![v3084.toNat, 13]
def k0_off15 (i : grid0.Coords) : Fin 2 → Nat :=
  let arg0 : BitVec 32 := BitVec.ofNat 32 (i 0).val
  let v3090 : Index := Scalar.indexCast arg0
  let c14 : Index := 14#32
  ![v3090.toNat, 14]
def k0_off16 (i : grid0.Coords) : Fin 2 → Nat :=
  let arg0 : BitVec 32 := BitVec.ofNat 32 (i 0).val
  let v3096 : Index := Scalar.indexCast arg0
  let c15 : Index := 15#32
  ![v3096.toNat, 15]
def k0_off17 (i : grid0.Coords) : Fin 2 → Nat :=
  let arg0 : BitVec 32 := BitVec.ofNat 32 (i 0).val
  let v3102 : Index := Scalar.indexCast arg0
  let c16 : Index := 16#32
  ![v3102.toNat, 16]
def k0_off18 (i : grid0.Coords) : Fin 2 → Nat :=
  let arg0 : BitVec 32 := BitVec.ofNat 32 (i 0).val
  let v3108 : Index := Scalar.indexCast arg0
  let c17 : Index := 17#32
  ![v3108.toNat, 17]
def k0_off19 (i : grid0.Coords) : Fin 2 → Nat :=
  let arg0 : BitVec 32 := BitVec.ofNat 32 (i 0).val
  let v3114 : Index := Scalar.indexCast arg0
  let c18 : Index := 18#32
  ![v3114.toNat, 18]
def k0_off20 (i : grid0.Coords) : Fin 2 → Nat :=
  let arg0 : BitVec 32 := BitVec.ofNat 32 (i 0).val
  let v3120 : Index := Scalar.indexCast arg0
  let c19 : Index := 19#32
  ![v3120.toNat, 19]
def k0_off21 (i : grid0.Coords) : Fin 2 → Nat :=
  let arg0 : BitVec 32 := BitVec.ofNat 32 (i 0).val
  let v3126 : Index := Scalar.indexCast arg0
  let c20 : Index := 20#32
  ![v3126.toNat, 20]
def k0_off22 (i : grid0.Coords) : Fin 2 → Nat :=
  let arg0 : BitVec 32 := BitVec.ofNat 32 (i 0).val
  let v3132 : Index := Scalar.indexCast arg0
  let c21 : Index := 21#32
  ![v3132.toNat, 21]
def k0_off23 (i : grid0.Coords) : Fin 2 → Nat :=
  let arg0 : BitVec 32 := BitVec.ofNat 32 (i 0).val
  let v3138 : Index := Scalar.indexCast arg0
  let c22 : Index := 22#32
  ![v3138.toNat, 22]
def k0_off24 (i : grid0.Coords) : Fin 2 → Nat :=
  let arg0 : BitVec 32 := BitVec.ofNat 32 (i 0).val
  let v3144 : Index := Scalar.indexCast arg0
  let c23 : Index := 23#32
  ![v3144.toNat, 23]
def k0_off25 (i : grid0.Coords) : Fin 2 → Nat :=
  let arg0 : BitVec 32 := BitVec.ofNat 32 (i 0).val
  let v3150 : Index := Scalar.indexCast arg0
  let c24 : Index := 24#32
  ![v3150.toNat, 24]
def k0_off26 (i : grid0.Coords) : Fin 2 → Nat :=
  let arg0 : BitVec 32 := BitVec.ofNat 32 (i 0).val
  let v3156 : Index := Scalar.indexCast arg0
  let c25 : Index := 25#32
  ![v3156.toNat, 25]
def k0_off27 (i : grid0.Coords) : Fin 2 → Nat :=
  let arg0 : BitVec 32 := BitVec.ofNat 32 (i 0).val
  let v3162 : Index := Scalar.indexCast arg0
  let c26 : Index := 26#32
  ![v3162.toNat, 26]
def k0_off28 (i : grid0.Coords) : Fin 2 → Nat :=
  let arg0 : BitVec 32 := BitVec.ofNat 32 (i 0).val
  let v3168 : Index := Scalar.indexCast arg0
  let c27 : Index := 27#32
  ![v3168.toNat, 27]
def k0_off29 (i : grid0.Coords) : Fin 2 → Nat :=
  let arg0 : BitVec 32 := BitVec.ofNat 32 (i 0).val
  let v3174 : Index := Scalar.indexCast arg0
  let c28 : Index := 28#32
  ![v3174.toNat, 28]
def k0_off30 (i : grid0.Coords) : Fin 2 → Nat :=
  let arg0 : BitVec 32 := BitVec.ofNat 32 (i 0).val
  let v3180 : Index := Scalar.indexCast arg0
  let c29 : Index := 29#32
  ![v3180.toNat, 29]
def k0_off31 (i : grid0.Coords) : Fin 2 → Nat :=
  let arg0 : BitVec 32 := BitVec.ofNat 32 (i 0).val
  let v3186 : Index := Scalar.indexCast arg0
  let c30 : Index := 30#32
  ![v3186.toNat, 30]
def k0_off32 (i : grid0.Coords) : Fin 2 → Nat :=
  let arg0 : BitVec 32 := BitVec.ofNat 32 (i 0).val
  let v3192 : Index := Scalar.indexCast arg0
  let c31 : Index := 31#32
  ![v3192.toNat, 31]
def k0_mult1 : BitVec 32 :=
  let c0_i32_8 : BitVec 32 := 0#32
  let c512_i32 : BitVec 32 := 512#32
  let v13 : BitVec 32 := Scalar.muli c0_i32_8 c512_i32
  v13
def k0_off33 (c0_i32_8 : BitVec 32) : Fin 3 → Nat :=
  let c0_9 : Index := 0#32
  let c512_i32 : BitVec 32 := 512#32
  let v13 : BitVec 32 := Scalar.muli c0_i32_8 c512_i32
  let v14 : BitVec 32 := v13
  let v15 : Index := Scalar.indexCast v14
  let c0_10 : Index := 0#32
  ![0, v15.toNat, 0]
def k0_mult2 : BitVec 32 :=
  let c2_i32 : BitVec 32 := 2#32
  let c_m2_i32 : BitVec 32 := 4294967294#32
  let c0_i32_18 : BitVec 32 := 0#32
  let c0_i32_8 : BitVec 32 := 0#32
  let v37 : BitVec 32 := Scalar.subi c0_i32_18 c0_i32_8
  let v38 : BitVec 32 := Scalar.maxsi c_m2_i32 v37
  let v39 : BitVec 32 := Scalar.minsi c2_i32 v38
  let c2_i32_19 : BitVec 32 := 2#32
  let v40 : BitVec 32 := Scalar.addi v39 c2_i32_19
  let c512_i32_20 : BitVec 32 := 512#32
  let v41 : BitVec 32 := Scalar.muli v40 c512_i32_20
  v41
def k0_off34 (c0_i32_18 : BitVec 32) (c0_i32_8 : BitVec 32) : Fin 2 → Nat :=
  let c0_21 : Index := 0#32
  let c2_i32 : BitVec 32 := 2#32
  let c_m2_i32 : BitVec 32 := 4294967294#32
  let v37 : BitVec 32 := Scalar.subi c0_i32_18 c0_i32_8
  let v38 : BitVec 32 := Scalar.maxsi c_m2_i32 v37
  let v39 : BitVec 32 := Scalar.minsi c2_i32 v38
  let c2_i32_19 : BitVec 32 := 2#32
  let v40 : BitVec 32 := Scalar.addi v39 c2_i32_19
  let c512_i32_20 : BitVec 32 := 512#32
  let v41 : BitVec 32 := Scalar.muli v40 c512_i32_20
  let v42 : BitVec 32 := v41
  let v43 : Index := Scalar.indexCast v42
  ![0, v43.toNat]
def k0_mult3 : BitVec 32 :=
  let c2_i32_23 : BitVec 32 := 2#32
  let c_m2_i32_22 : BitVec 32 := 4294967294#32
  let c1_i32 : BitVec 32 := 1#32
  let c0_i32_8 : BitVec 32 := 0#32
  let v45 : BitVec 32 := Scalar.subi c1_i32 c0_i32_8
  let v46 : BitVec 32 := Scalar.maxsi c_m2_i32_22 v45
  let v47 : BitVec 32 := Scalar.minsi c2_i32_23 v46
  let c2_i32_24 : BitVec 32 := 2#32
  let v48 : BitVec 32 := Scalar.addi v47 c2_i32_24
  let c512_i32_25 : BitVec 32 := 512#32
  let v49 : BitVec 32 := Scalar.muli v48 c512_i32_25
  v49
def k0_mult4 : BitVec 32 :=
  let c2_i32_37 : BitVec 32 := 2#32
  let c_m2_i32_36 : BitVec 32 := 4294967294#32
  let c2_i32_35 : BitVec 32 := 2#32
  let c0_i32_8 : BitVec 32 := 0#32
  let v78 : BitVec 32 := Scalar.subi c2_i32_35 c0_i32_8
  let v79 : BitVec 32 := Scalar.maxsi c_m2_i32_36 v78
  let v80 : BitVec 32 := Scalar.minsi c2_i32_37 v79
  let c2_i32_38 : BitVec 32 := 2#32
  let v81 : BitVec 32 := Scalar.addi v80 c2_i32_38
  let c512_i32_39 : BitVec 32 := 512#32
  let v82 : BitVec 32 := Scalar.muli v81 c512_i32_39
  v82
def k0_mult5 : BitVec 32 :=
  let c2_i32_42 : BitVec 32 := 2#32
  let c_m2_i32_41 : BitVec 32 := 4294967294#32
  let c3_i32 : BitVec 32 := 3#32
  let c0_i32_8 : BitVec 32 := 0#32
  let v86 : BitVec 32 := Scalar.subi c3_i32 c0_i32_8
  let v87 : BitVec 32 := Scalar.maxsi c_m2_i32_41 v86
  let v88 : BitVec 32 := Scalar.minsi c2_i32_42 v87
  let c2_i32_43 : BitVec 32 := 2#32
  let v89 : BitVec 32 := Scalar.addi v88 c2_i32_43
  let c512_i32_44 : BitVec 32 := 512#32
  let v90 : BitVec 32 := Scalar.muli v89 c512_i32_44
  v90
def k0_mult6 : BitVec 32 :=
  let c2_i32_57 : BitVec 32 := 2#32
  let c_m2_i32_56 : BitVec 32 := 4294967294#32
  let c0_i32_55 : BitVec 32 := 0#32
  let c0_i32_8 : BitVec 32 := 0#32
  let v122 : BitVec 32 := Scalar.subi c0_i32_55 c0_i32_8
  let v123 : BitVec 32 := Scalar.maxsi c_m2_i32_56 v122
  let v124 : BitVec 32 := Scalar.minsi c2_i32_57 v123
  let c2_i32_58 : BitVec 32 := 2#32
  let v125 : BitVec 32 := Scalar.addi v124 c2_i32_58
  let c512_i32_59 : BitVec 32 := 512#32
  let v126 : BitVec 32 := Scalar.muli v125 c512_i32_59
  v126
def k0_off35 (c0_i32_55 : BitVec 32) (c0_i32_8 : BitVec 32) : Fin 2 → Nat :=
  let c128 : Index := 128#32
  let c2_i32_57 : BitVec 32 := 2#32
  let c_m2_i32_56 : BitVec 32 := 4294967294#32
  let v122 : BitVec 32 := Scalar.subi c0_i32_55 c0_i32_8
  let v123 : BitVec 32 := Scalar.maxsi c_m2_i32_56 v122
  let v124 : BitVec 32 := Scalar.minsi c2_i32_57 v123
  let c2_i32_58 : BitVec 32 := 2#32
  let v125 : BitVec 32 := Scalar.addi v124 c2_i32_58
  let c512_i32_59 : BitVec 32 := 512#32
  let v126 : BitVec 32 := Scalar.muli v125 c512_i32_59
  let v127 : BitVec 32 := v126
  let v128 : Index := Scalar.indexCast v127
  ![128, v128.toNat]
def k0_mult7 : BitVec 32 :=
  let c2_i32_62 : BitVec 32 := 2#32
  let c_m2_i32_61 : BitVec 32 := 4294967294#32
  let c1_i32_60 : BitVec 32 := 1#32
  let c0_i32_8 : BitVec 32 := 0#32
  let v130 : BitVec 32 := Scalar.subi c1_i32_60 c0_i32_8
  let v131 : BitVec 32 := Scalar.maxsi c_m2_i32_61 v130
  let v132 : BitVec 32 := Scalar.minsi c2_i32_62 v131
  let c2_i32_63 : BitVec 32 := 2#32
  let v133 : BitVec 32 := Scalar.addi v132 c2_i32_63
  let c512_i32_64 : BitVec 32 := 512#32
  let v134 : BitVec 32 := Scalar.muli v133 c512_i32_64
  v134
def k0_mult8 : BitVec 32 :=
  let c2_i32_76 : BitVec 32 := 2#32
  let c_m2_i32_75 : BitVec 32 := 4294967294#32
  let c2_i32_74 : BitVec 32 := 2#32
  let c0_i32_8 : BitVec 32 := 0#32
  let v163 : BitVec 32 := Scalar.subi c2_i32_74 c0_i32_8
  let v164 : BitVec 32 := Scalar.maxsi c_m2_i32_75 v163
  let v165 : BitVec 32 := Scalar.minsi c2_i32_76 v164
  let c2_i32_77 : BitVec 32 := 2#32
  let v166 : BitVec 32 := Scalar.addi v165 c2_i32_77
  let c512_i32_78 : BitVec 32 := 512#32
  let v167 : BitVec 32 := Scalar.muli v166 c512_i32_78
  v167
def k0_mult9 : BitVec 32 :=
  let c2_i32_82 : BitVec 32 := 2#32
  let c_m2_i32_81 : BitVec 32 := 4294967294#32
  let c3_i32_80 : BitVec 32 := 3#32
  let c0_i32_8 : BitVec 32 := 0#32
  let v171 : BitVec 32 := Scalar.subi c3_i32_80 c0_i32_8
  let v172 : BitVec 32 := Scalar.maxsi c_m2_i32_81 v171
  let v173 : BitVec 32 := Scalar.minsi c2_i32_82 v172
  let c2_i32_83 : BitVec 32 := 2#32
  let v174 : BitVec 32 := Scalar.addi v173 c2_i32_83
  let c512_i32_84 : BitVec 32 := 512#32
  let v175 : BitVec 32 := Scalar.muli v174 c512_i32_84
  v175
def k0_mult10 : BitVec 32 :=
  let c2_i32_98 : BitVec 32 := 2#32
  let c_m2_i32_97 : BitVec 32 := 4294967294#32
  let c0_i32_96 : BitVec 32 := 0#32
  let c0_i32_8 : BitVec 32 := 0#32
  let v207 : BitVec 32 := Scalar.subi c0_i32_96 c0_i32_8
  let v208 : BitVec 32 := Scalar.maxsi c_m2_i32_97 v207
  let v209 : BitVec 32 := Scalar.minsi c2_i32_98 v208
  let c2_i32_99 : BitVec 32 := 2#32
  let v210 : BitVec 32 := Scalar.addi v209 c2_i32_99
  let c512_i32_100 : BitVec 32 := 512#32
  let v211 : BitVec 32 := Scalar.muli v210 c512_i32_100
  v211
def k0_off36 (c0_i32_96 : BitVec 32) (c0_i32_8 : BitVec 32) : Fin 2 → Nat :=
  let c256 : Index := 256#32
  let c2_i32_98 : BitVec 32 := 2#32
  let c_m2_i32_97 : BitVec 32 := 4294967294#32
  let v207 : BitVec 32 := Scalar.subi c0_i32_96 c0_i32_8
  let v208 : BitVec 32 := Scalar.maxsi c_m2_i32_97 v207
  let v209 : BitVec 32 := Scalar.minsi c2_i32_98 v208
  let c2_i32_99 : BitVec 32 := 2#32
  let v210 : BitVec 32 := Scalar.addi v209 c2_i32_99
  let c512_i32_100 : BitVec 32 := 512#32
  let v211 : BitVec 32 := Scalar.muli v210 c512_i32_100
  let v212 : BitVec 32 := v211
  let v213 : Index := Scalar.indexCast v212
  ![256, v213.toNat]
def k0_mult11 : BitVec 32 :=
  let c2_i32_103 : BitVec 32 := 2#32
  let c_m2_i32_102 : BitVec 32 := 4294967294#32
  let c1_i32_101 : BitVec 32 := 1#32
  let c0_i32_8 : BitVec 32 := 0#32
  let v215 : BitVec 32 := Scalar.subi c1_i32_101 c0_i32_8
  let v216 : BitVec 32 := Scalar.maxsi c_m2_i32_102 v215
  let v217 : BitVec 32 := Scalar.minsi c2_i32_103 v216
  let c2_i32_104 : BitVec 32 := 2#32
  let v218 : BitVec 32 := Scalar.addi v217 c2_i32_104
  let c512_i32_105 : BitVec 32 := 512#32
  let v219 : BitVec 32 := Scalar.muli v218 c512_i32_105
  v219
def k0_mult12 : BitVec 32 :=
  let c2_i32_117 : BitVec 32 := 2#32
  let c_m2_i32_116 : BitVec 32 := 4294967294#32
  let c2_i32_115 : BitVec 32 := 2#32
  let c0_i32_8 : BitVec 32 := 0#32
  let v248 : BitVec 32 := Scalar.subi c2_i32_115 c0_i32_8
  let v249 : BitVec 32 := Scalar.maxsi c_m2_i32_116 v248
  let v250 : BitVec 32 := Scalar.minsi c2_i32_117 v249
  let c2_i32_118 : BitVec 32 := 2#32
  let v251 : BitVec 32 := Scalar.addi v250 c2_i32_118
  let c512_i32_119 : BitVec 32 := 512#32
  let v252 : BitVec 32 := Scalar.muli v251 c512_i32_119
  v252
def k0_mult13 : BitVec 32 :=
  let c2_i32_123 : BitVec 32 := 2#32
  let c_m2_i32_122 : BitVec 32 := 4294967294#32
  let c3_i32_121 : BitVec 32 := 3#32
  let c0_i32_8 : BitVec 32 := 0#32
  let v256 : BitVec 32 := Scalar.subi c3_i32_121 c0_i32_8
  let v257 : BitVec 32 := Scalar.maxsi c_m2_i32_122 v256
  let v258 : BitVec 32 := Scalar.minsi c2_i32_123 v257
  let c2_i32_124 : BitVec 32 := 2#32
  let v259 : BitVec 32 := Scalar.addi v258 c2_i32_124
  let c512_i32_125 : BitVec 32 := 512#32
  let v260 : BitVec 32 := Scalar.muli v259 c512_i32_125
  v260
def k0_mult14 : BitVec 32 :=
  let c2_i32_139 : BitVec 32 := 2#32
  let c_m2_i32_138 : BitVec 32 := 4294967294#32
  let c0_i32_137 : BitVec 32 := 0#32
  let c0_i32_8 : BitVec 32 := 0#32
  let v292 : BitVec 32 := Scalar.subi c0_i32_137 c0_i32_8
  let v293 : BitVec 32 := Scalar.maxsi c_m2_i32_138 v292
  let v294 : BitVec 32 := Scalar.minsi c2_i32_139 v293
  let c2_i32_140 : BitVec 32 := 2#32
  let v295 : BitVec 32 := Scalar.addi v294 c2_i32_140
  let c512_i32_141 : BitVec 32 := 512#32
  let v296 : BitVec 32 := Scalar.muli v295 c512_i32_141
  v296
def k0_off37 (c0_i32_137 : BitVec 32) (c0_i32_8 : BitVec 32) : Fin 2 → Nat :=
  let c384 : Index := 384#32
  let c2_i32_139 : BitVec 32 := 2#32
  let c_m2_i32_138 : BitVec 32 := 4294967294#32
  let v292 : BitVec 32 := Scalar.subi c0_i32_137 c0_i32_8
  let v293 : BitVec 32 := Scalar.maxsi c_m2_i32_138 v292
  let v294 : BitVec 32 := Scalar.minsi c2_i32_139 v293
  let c2_i32_140 : BitVec 32 := 2#32
  let v295 : BitVec 32 := Scalar.addi v294 c2_i32_140
  let c512_i32_141 : BitVec 32 := 512#32
  let v296 : BitVec 32 := Scalar.muli v295 c512_i32_141
  let v297 : BitVec 32 := v296
  let v298 : Index := Scalar.indexCast v297
  ![384, v298.toNat]
def k0_mult15 : BitVec 32 :=
  let c2_i32_144 : BitVec 32 := 2#32
  let c_m2_i32_143 : BitVec 32 := 4294967294#32
  let c1_i32_142 : BitVec 32 := 1#32
  let c0_i32_8 : BitVec 32 := 0#32
  let v300 : BitVec 32 := Scalar.subi c1_i32_142 c0_i32_8
  let v301 : BitVec 32 := Scalar.maxsi c_m2_i32_143 v300
  let v302 : BitVec 32 := Scalar.minsi c2_i32_144 v301
  let c2_i32_145 : BitVec 32 := 2#32
  let v303 : BitVec 32 := Scalar.addi v302 c2_i32_145
  let c512_i32_146 : BitVec 32 := 512#32
  let v304 : BitVec 32 := Scalar.muli v303 c512_i32_146
  v304
def k0_mult16 : BitVec 32 :=
  let c2_i32_158 : BitVec 32 := 2#32
  let c_m2_i32_157 : BitVec 32 := 4294967294#32
  let c2_i32_156 : BitVec 32 := 2#32
  let c0_i32_8 : BitVec 32 := 0#32
  let v333 : BitVec 32 := Scalar.subi c2_i32_156 c0_i32_8
  let v334 : BitVec 32 := Scalar.maxsi c_m2_i32_157 v333
  let v335 : BitVec 32 := Scalar.minsi c2_i32_158 v334
  let c2_i32_159 : BitVec 32 := 2#32
  let v336 : BitVec 32 := Scalar.addi v335 c2_i32_159
  let c512_i32_160 : BitVec 32 := 512#32
  let v337 : BitVec 32 := Scalar.muli v336 c512_i32_160
  v337
def k0_mult17 : BitVec 32 :=
  let c2_i32_164 : BitVec 32 := 2#32
  let c_m2_i32_163 : BitVec 32 := 4294967294#32
  let c3_i32_162 : BitVec 32 := 3#32
  let c0_i32_8 : BitVec 32 := 0#32
  let v341 : BitVec 32 := Scalar.subi c3_i32_162 c0_i32_8
  let v342 : BitVec 32 := Scalar.maxsi c_m2_i32_163 v341
  let v343 : BitVec 32 := Scalar.minsi c2_i32_164 v342
  let c2_i32_165 : BitVec 32 := 2#32
  let v344 : BitVec 32 := Scalar.addi v343 c2_i32_165
  let c512_i32_166 : BitVec 32 := 512#32
  let v345 : BitVec 32 := Scalar.muli v344 c512_i32_166
  v345
def k0_mult18 : BitVec 32 :=
  let c2_i32_180 : BitVec 32 := 2#32
  let c_m2_i32_179 : BitVec 32 := 4294967294#32
  let c0_i32_178 : BitVec 32 := 0#32
  let c0_i32_8 : BitVec 32 := 0#32
  let v377 : BitVec 32 := Scalar.subi c0_i32_178 c0_i32_8
  let v378 : BitVec 32 := Scalar.maxsi c_m2_i32_179 v377
  let v379 : BitVec 32 := Scalar.minsi c2_i32_180 v378
  let c2_i32_181 : BitVec 32 := 2#32
  let v380 : BitVec 32 := Scalar.addi v379 c2_i32_181
  let c512_i32_182 : BitVec 32 := 512#32
  let v381 : BitVec 32 := Scalar.muli v380 c512_i32_182
  v381
def k0_mult19 : BitVec 32 :=
  let c2_i32_186 : BitVec 32 := 2#32
  let c_m2_i32_185 : BitVec 32 := 4294967294#32
  let c1_i32_184 : BitVec 32 := 1#32
  let c0_i32_8 : BitVec 32 := 0#32
  let v385 : BitVec 32 := Scalar.subi c1_i32_184 c0_i32_8
  let v386 : BitVec 32 := Scalar.maxsi c_m2_i32_185 v385
  let v387 : BitVec 32 := Scalar.minsi c2_i32_186 v386
  let c2_i32_187 : BitVec 32 := 2#32
  let v388 : BitVec 32 := Scalar.addi v387 c2_i32_187
  let c512_i32_188 : BitVec 32 := 512#32
  let v389 : BitVec 32 := Scalar.muli v388 c512_i32_188
  v389
def k0_mult20 : BitVec 32 :=
  let c2_i32_200 : BitVec 32 := 2#32
  let c_m2_i32_199 : BitVec 32 := 4294967294#32
  let c2_i32_198 : BitVec 32 := 2#32
  let c0_i32_8 : BitVec 32 := 0#32
  let v418 : BitVec 32 := Scalar.subi c2_i32_198 c0_i32_8
  let v419 : BitVec 32 := Scalar.maxsi c_m2_i32_199 v418
  let v420 : BitVec 32 := Scalar.minsi c2_i32_200 v419
  let c2_i32_201 : BitVec 32 := 2#32
  let v421 : BitVec 32 := Scalar.addi v420 c2_i32_201
  let c512_i32_202 : BitVec 32 := 512#32
  let v422 : BitVec 32 := Scalar.muli v421 c512_i32_202
  v422
def k0_mult21 : BitVec 32 :=
  let c2_i32_206 : BitVec 32 := 2#32
  let c_m2_i32_205 : BitVec 32 := 4294967294#32
  let c3_i32_204 : BitVec 32 := 3#32
  let c0_i32_8 : BitVec 32 := 0#32
  let v426 : BitVec 32 := Scalar.subi c3_i32_204 c0_i32_8
  let v427 : BitVec 32 := Scalar.maxsi c_m2_i32_205 v426
  let v428 : BitVec 32 := Scalar.minsi c2_i32_206 v427
  let c2_i32_207 : BitVec 32 := 2#32
  let v429 : BitVec 32 := Scalar.addi v428 c2_i32_207
  let c512_i32_208 : BitVec 32 := 512#32
  let v430 : BitVec 32 := Scalar.muli v429 c512_i32_208
  v430
def k0_mult22 : BitVec 32 :=
  let c2_i32_222 : BitVec 32 := 2#32
  let c_m2_i32_221 : BitVec 32 := 4294967294#32
  let c0_i32_220 : BitVec 32 := 0#32
  let c0_i32_8 : BitVec 32 := 0#32
  let v462 : BitVec 32 := Scalar.subi c0_i32_220 c0_i32_8
  let v463 : BitVec 32 := Scalar.maxsi c_m2_i32_221 v462
  let v464 : BitVec 32 := Scalar.minsi c2_i32_222 v463
  let c2_i32_223 : BitVec 32 := 2#32
  let v465 : BitVec 32 := Scalar.addi v464 c2_i32_223
  let c512_i32_224 : BitVec 32 := 512#32
  let v466 : BitVec 32 := Scalar.muli v465 c512_i32_224
  v466
def k0_mult23 : BitVec 32 :=
  let c2_i32_228 : BitVec 32 := 2#32
  let c_m2_i32_227 : BitVec 32 := 4294967294#32
  let c1_i32_226 : BitVec 32 := 1#32
  let c0_i32_8 : BitVec 32 := 0#32
  let v470 : BitVec 32 := Scalar.subi c1_i32_226 c0_i32_8
  let v471 : BitVec 32 := Scalar.maxsi c_m2_i32_227 v470
  let v472 : BitVec 32 := Scalar.minsi c2_i32_228 v471
  let c2_i32_229 : BitVec 32 := 2#32
  let v473 : BitVec 32 := Scalar.addi v472 c2_i32_229
  let c512_i32_230 : BitVec 32 := 512#32
  let v474 : BitVec 32 := Scalar.muli v473 c512_i32_230
  v474
def k0_mult24 : BitVec 32 :=
  let c2_i32_241 : BitVec 32 := 2#32
  let c_m2_i32_240 : BitVec 32 := 4294967294#32
  let c2_i32_239 : BitVec 32 := 2#32
  let c0_i32_8 : BitVec 32 := 0#32
  let v503 : BitVec 32 := Scalar.subi c2_i32_239 c0_i32_8
  let v504 : BitVec 32 := Scalar.maxsi c_m2_i32_240 v503
  let v505 : BitVec 32 := Scalar.minsi c2_i32_241 v504
  let c2_i32_242 : BitVec 32 := 2#32
  let v506 : BitVec 32 := Scalar.addi v505 c2_i32_242
  let c512_i32_243 : BitVec 32 := 512#32
  let v507 : BitVec 32 := Scalar.muli v506 c512_i32_243
  v507
def k0_mult25 : BitVec 32 :=
  let c2_i32_247 : BitVec 32 := 2#32
  let c_m2_i32_246 : BitVec 32 := 4294967294#32
  let c3_i32_245 : BitVec 32 := 3#32
  let c0_i32_8 : BitVec 32 := 0#32
  let v511 : BitVec 32 := Scalar.subi c3_i32_245 c0_i32_8
  let v512 : BitVec 32 := Scalar.maxsi c_m2_i32_246 v511
  let v513 : BitVec 32 := Scalar.minsi c2_i32_247 v512
  let c2_i32_248 : BitVec 32 := 2#32
  let v514 : BitVec 32 := Scalar.addi v513 c2_i32_248
  let c512_i32_249 : BitVec 32 := 512#32
  let v515 : BitVec 32 := Scalar.muli v514 c512_i32_249
  v515
def k0_mult26 : BitVec 32 :=
  let c2_i32_263 : BitVec 32 := 2#32
  let c_m2_i32_262 : BitVec 32 := 4294967294#32
  let c0_i32_261 : BitVec 32 := 0#32
  let c0_i32_8 : BitVec 32 := 0#32
  let v547 : BitVec 32 := Scalar.subi c0_i32_261 c0_i32_8
  let v548 : BitVec 32 := Scalar.maxsi c_m2_i32_262 v547
  let v549 : BitVec 32 := Scalar.minsi c2_i32_263 v548
  let c2_i32_264 : BitVec 32 := 2#32
  let v550 : BitVec 32 := Scalar.addi v549 c2_i32_264
  let c512_i32_265 : BitVec 32 := 512#32
  let v551 : BitVec 32 := Scalar.muli v550 c512_i32_265
  v551
def k0_mult27 : BitVec 32 :=
  let c2_i32_269 : BitVec 32 := 2#32
  let c_m2_i32_268 : BitVec 32 := 4294967294#32
  let c1_i32_267 : BitVec 32 := 1#32
  let c0_i32_8 : BitVec 32 := 0#32
  let v555 : BitVec 32 := Scalar.subi c1_i32_267 c0_i32_8
  let v556 : BitVec 32 := Scalar.maxsi c_m2_i32_268 v555
  let v557 : BitVec 32 := Scalar.minsi c2_i32_269 v556
  let c2_i32_270 : BitVec 32 := 2#32
  let v558 : BitVec 32 := Scalar.addi v557 c2_i32_270
  let c512_i32_271 : BitVec 32 := 512#32
  let v559 : BitVec 32 := Scalar.muli v558 c512_i32_271
  v559
def k0_mult28 : BitVec 32 :=
  let c2_i32_282 : BitVec 32 := 2#32
  let c_m2_i32_281 : BitVec 32 := 4294967294#32
  let c2_i32_280 : BitVec 32 := 2#32
  let c0_i32_8 : BitVec 32 := 0#32
  let v588 : BitVec 32 := Scalar.subi c2_i32_280 c0_i32_8
  let v589 : BitVec 32 := Scalar.maxsi c_m2_i32_281 v588
  let v590 : BitVec 32 := Scalar.minsi c2_i32_282 v589
  let c2_i32_283 : BitVec 32 := 2#32
  let v591 : BitVec 32 := Scalar.addi v590 c2_i32_283
  let c512_i32_284 : BitVec 32 := 512#32
  let v592 : BitVec 32 := Scalar.muli v591 c512_i32_284
  v592
def k0_mult29 : BitVec 32 :=
  let c2_i32_288 : BitVec 32 := 2#32
  let c_m2_i32_287 : BitVec 32 := 4294967294#32
  let c3_i32_286 : BitVec 32 := 3#32
  let c0_i32_8 : BitVec 32 := 0#32
  let v596 : BitVec 32 := Scalar.subi c3_i32_286 c0_i32_8
  let v597 : BitVec 32 := Scalar.maxsi c_m2_i32_287 v596
  let v598 : BitVec 32 := Scalar.minsi c2_i32_288 v597
  let c2_i32_289 : BitVec 32 := 2#32
  let v599 : BitVec 32 := Scalar.addi v598 c2_i32_289
  let c512_i32_290 : BitVec 32 := 512#32
  let v600 : BitVec 32 := Scalar.muli v599 c512_i32_290
  v600
def k0_mult30 : BitVec 32 :=
  let c2_i32_304 : BitVec 32 := 2#32
  let c_m2_i32_303 : BitVec 32 := 4294967294#32
  let c0_i32_302 : BitVec 32 := 0#32
  let c0_i32_8 : BitVec 32 := 0#32
  let v632 : BitVec 32 := Scalar.subi c0_i32_302 c0_i32_8
  let v633 : BitVec 32 := Scalar.maxsi c_m2_i32_303 v632
  let v634 : BitVec 32 := Scalar.minsi c2_i32_304 v633
  let c2_i32_305 : BitVec 32 := 2#32
  let v635 : BitVec 32 := Scalar.addi v634 c2_i32_305
  let c512_i32_306 : BitVec 32 := 512#32
  let v636 : BitVec 32 := Scalar.muli v635 c512_i32_306
  v636
def k0_mult31 : BitVec 32 :=
  let c2_i32_310 : BitVec 32 := 2#32
  let c_m2_i32_309 : BitVec 32 := 4294967294#32
  let c1_i32_308 : BitVec 32 := 1#32
  let c0_i32_8 : BitVec 32 := 0#32
  let v640 : BitVec 32 := Scalar.subi c1_i32_308 c0_i32_8
  let v641 : BitVec 32 := Scalar.maxsi c_m2_i32_309 v640
  let v642 : BitVec 32 := Scalar.minsi c2_i32_310 v641
  let c2_i32_311 : BitVec 32 := 2#32
  let v643 : BitVec 32 := Scalar.addi v642 c2_i32_311
  let c512_i32_312 : BitVec 32 := 512#32
  let v644 : BitVec 32 := Scalar.muli v643 c512_i32_312
  v644
def k0_mult32 : BitVec 32 :=
  let c2_i32_323 : BitVec 32 := 2#32
  let c_m2_i32_322 : BitVec 32 := 4294967294#32
  let c2_i32_321 : BitVec 32 := 2#32
  let c0_i32_8 : BitVec 32 := 0#32
  let v673 : BitVec 32 := Scalar.subi c2_i32_321 c0_i32_8
  let v674 : BitVec 32 := Scalar.maxsi c_m2_i32_322 v673
  let v675 : BitVec 32 := Scalar.minsi c2_i32_323 v674
  let c2_i32_324 : BitVec 32 := 2#32
  let v676 : BitVec 32 := Scalar.addi v675 c2_i32_324
  let c512_i32_325 : BitVec 32 := 512#32
  let v677 : BitVec 32 := Scalar.muli v676 c512_i32_325
  v677
def k0_mult33 : BitVec 32 :=
  let c2_i32_329 : BitVec 32 := 2#32
  let c_m2_i32_328 : BitVec 32 := 4294967294#32
  let c3_i32_327 : BitVec 32 := 3#32
  let c0_i32_8 : BitVec 32 := 0#32
  let v681 : BitVec 32 := Scalar.subi c3_i32_327 c0_i32_8
  let v682 : BitVec 32 := Scalar.maxsi c_m2_i32_328 v681
  let v683 : BitVec 32 := Scalar.minsi c2_i32_329 v682
  let c2_i32_330 : BitVec 32 := 2#32
  let v684 : BitVec 32 := Scalar.addi v683 c2_i32_330
  let c512_i32_331 : BitVec 32 := 512#32
  let v685 : BitVec 32 := Scalar.muli v684 c512_i32_331
  v685
def k0_mult34 : BitVec 32 :=
  let c1_i32_360 : BitVec 32 := 1#32
  let c512_i32_361 : BitVec 32 := 512#32
  let v760 : BitVec 32 := Scalar.muli c1_i32_360 c512_i32_361
  v760
def k0_mult35 : BitVec 32 :=
  let c2_i32_375 : BitVec 32 := 2#32
  let c_m2_i32_374 : BitVec 32 := 4294967294#32
  let c0_i32_373 : BitVec 32 := 0#32
  let c1_i32_360 : BitVec 32 := 1#32
  let v784 : BitVec 32 := Scalar.subi c0_i32_373 c1_i32_360
  let v785 : BitVec 32 := Scalar.maxsi c_m2_i32_374 v784
  let v786 : BitVec 32 := Scalar.minsi c2_i32_375 v785
  let c2_i32_376 : BitVec 32 := 2#32
  let v787 : BitVec 32 := Scalar.addi v786 c2_i32_376
  let c512_i32_377 : BitVec 32 := 512#32
  let v788 : BitVec 32 := Scalar.muli v787 c512_i32_377
  v788
def k0_mult36 : BitVec 32 :=
  let c2_i32_381 : BitVec 32 := 2#32
  let c_m2_i32_380 : BitVec 32 := 4294967294#32
  let c1_i32_379 : BitVec 32 := 1#32
  let c1_i32_360 : BitVec 32 := 1#32
  let v792 : BitVec 32 := Scalar.subi c1_i32_379 c1_i32_360
  let v793 : BitVec 32 := Scalar.maxsi c_m2_i32_380 v792
  let v794 : BitVec 32 := Scalar.minsi c2_i32_381 v793
  let c2_i32_382 : BitVec 32 := 2#32
  let v795 : BitVec 32 := Scalar.addi v794 c2_i32_382
  let c512_i32_383 : BitVec 32 := 512#32
  let v796 : BitVec 32 := Scalar.muli v795 c512_i32_383
  v796
def k0_mult37 : BitVec 32 :=
  let c2_i32_395 : BitVec 32 := 2#32
  let c_m2_i32_394 : BitVec 32 := 4294967294#32
  let c2_i32_393 : BitVec 32 := 2#32
  let c1_i32_360 : BitVec 32 := 1#32
  let v825 : BitVec 32 := Scalar.subi c2_i32_393 c1_i32_360
  let v826 : BitVec 32 := Scalar.maxsi c_m2_i32_394 v825
  let v827 : BitVec 32 := Scalar.minsi c2_i32_395 v826
  let c2_i32_396 : BitVec 32 := 2#32
  let v828 : BitVec 32 := Scalar.addi v827 c2_i32_396
  let c512_i32_397 : BitVec 32 := 512#32
  let v829 : BitVec 32 := Scalar.muli v828 c512_i32_397
  v829
def k0_mult38 : BitVec 32 :=
  let c2_i32_401 : BitVec 32 := 2#32
  let c_m2_i32_400 : BitVec 32 := 4294967294#32
  let c3_i32_399 : BitVec 32 := 3#32
  let c1_i32_360 : BitVec 32 := 1#32
  let v833 : BitVec 32 := Scalar.subi c3_i32_399 c1_i32_360
  let v834 : BitVec 32 := Scalar.maxsi c_m2_i32_400 v833
  let v835 : BitVec 32 := Scalar.minsi c2_i32_401 v834
  let c2_i32_402 : BitVec 32 := 2#32
  let v836 : BitVec 32 := Scalar.addi v835 c2_i32_402
  let c512_i32_403 : BitVec 32 := 512#32
  let v837 : BitVec 32 := Scalar.muli v836 c512_i32_403
  v837
def k0_mult39 : BitVec 32 :=
  let c2_i32_417 : BitVec 32 := 2#32
  let c_m2_i32_416 : BitVec 32 := 4294967294#32
  let c0_i32_415 : BitVec 32 := 0#32
  let c1_i32_360 : BitVec 32 := 1#32
  let v869 : BitVec 32 := Scalar.subi c0_i32_415 c1_i32_360
  let v870 : BitVec 32 := Scalar.maxsi c_m2_i32_416 v869
  let v871 : BitVec 32 := Scalar.minsi c2_i32_417 v870
  let c2_i32_418 : BitVec 32 := 2#32
  let v872 : BitVec 32 := Scalar.addi v871 c2_i32_418
  let c512_i32_419 : BitVec 32 := 512#32
  let v873 : BitVec 32 := Scalar.muli v872 c512_i32_419
  v873
def k0_mult40 : BitVec 32 :=
  let c2_i32_423 : BitVec 32 := 2#32
  let c_m2_i32_422 : BitVec 32 := 4294967294#32
  let c1_i32_421 : BitVec 32 := 1#32
  let c1_i32_360 : BitVec 32 := 1#32
  let v877 : BitVec 32 := Scalar.subi c1_i32_421 c1_i32_360
  let v878 : BitVec 32 := Scalar.maxsi c_m2_i32_422 v877
  let v879 : BitVec 32 := Scalar.minsi c2_i32_423 v878
  let c2_i32_424 : BitVec 32 := 2#32
  let v880 : BitVec 32 := Scalar.addi v879 c2_i32_424
  let c512_i32_425 : BitVec 32 := 512#32
  let v881 : BitVec 32 := Scalar.muli v880 c512_i32_425
  v881
def k0_mult41 : BitVec 32 :=
  let c2_i32_437 : BitVec 32 := 2#32
  let c_m2_i32_436 : BitVec 32 := 4294967294#32
  let c2_i32_435 : BitVec 32 := 2#32
  let c1_i32_360 : BitVec 32 := 1#32
  let v910 : BitVec 32 := Scalar.subi c2_i32_435 c1_i32_360
  let v911 : BitVec 32 := Scalar.maxsi c_m2_i32_436 v910
  let v912 : BitVec 32 := Scalar.minsi c2_i32_437 v911
  let c2_i32_438 : BitVec 32 := 2#32
  let v913 : BitVec 32 := Scalar.addi v912 c2_i32_438
  let c512_i32_439 : BitVec 32 := 512#32
  let v914 : BitVec 32 := Scalar.muli v913 c512_i32_439
  v914
def k0_mult42 : BitVec 32 :=
  let c2_i32_443 : BitVec 32 := 2#32
  let c_m2_i32_442 : BitVec 32 := 4294967294#32
  let c3_i32_441 : BitVec 32 := 3#32
  let c1_i32_360 : BitVec 32 := 1#32
  let v918 : BitVec 32 := Scalar.subi c3_i32_441 c1_i32_360
  let v919 : BitVec 32 := Scalar.maxsi c_m2_i32_442 v918
  let v920 : BitVec 32 := Scalar.minsi c2_i32_443 v919
  let c2_i32_444 : BitVec 32 := 2#32
  let v921 : BitVec 32 := Scalar.addi v920 c2_i32_444
  let c512_i32_445 : BitVec 32 := 512#32
  let v922 : BitVec 32 := Scalar.muli v921 c512_i32_445
  v922
def k0_mult43 : BitVec 32 :=
  let c2_i32_459 : BitVec 32 := 2#32
  let c_m2_i32_458 : BitVec 32 := 4294967294#32
  let c0_i32_457 : BitVec 32 := 0#32
  let c1_i32_360 : BitVec 32 := 1#32
  let v954 : BitVec 32 := Scalar.subi c0_i32_457 c1_i32_360
  let v955 : BitVec 32 := Scalar.maxsi c_m2_i32_458 v954
  let v956 : BitVec 32 := Scalar.minsi c2_i32_459 v955
  let c2_i32_460 : BitVec 32 := 2#32
  let v957 : BitVec 32 := Scalar.addi v956 c2_i32_460
  let c512_i32_461 : BitVec 32 := 512#32
  let v958 : BitVec 32 := Scalar.muli v957 c512_i32_461
  v958
def k0_mult44 : BitVec 32 :=
  let c2_i32_465 : BitVec 32 := 2#32
  let c_m2_i32_464 : BitVec 32 := 4294967294#32
  let c1_i32_463 : BitVec 32 := 1#32
  let c1_i32_360 : BitVec 32 := 1#32
  let v962 : BitVec 32 := Scalar.subi c1_i32_463 c1_i32_360
  let v963 : BitVec 32 := Scalar.maxsi c_m2_i32_464 v962
  let v964 : BitVec 32 := Scalar.minsi c2_i32_465 v963
  let c2_i32_466 : BitVec 32 := 2#32
  let v965 : BitVec 32 := Scalar.addi v964 c2_i32_466
  let c512_i32_467 : BitVec 32 := 512#32
  let v966 : BitVec 32 := Scalar.muli v965 c512_i32_467
  v966
def k0_mult45 : BitVec 32 :=
  let c2_i32_479 : BitVec 32 := 2#32
  let c_m2_i32_478 : BitVec 32 := 4294967294#32
  let c2_i32_477 : BitVec 32 := 2#32
  let c1_i32_360 : BitVec 32 := 1#32
  let v995 : BitVec 32 := Scalar.subi c2_i32_477 c1_i32_360
  let v996 : BitVec 32 := Scalar.maxsi c_m2_i32_478 v995
  let v997 : BitVec 32 := Scalar.minsi c2_i32_479 v996
  let c2_i32_480 : BitVec 32 := 2#32
  let v998 : BitVec 32 := Scalar.addi v997 c2_i32_480
  let c512_i32_481 : BitVec 32 := 512#32
  let v999 : BitVec 32 := Scalar.muli v998 c512_i32_481
  v999
def k0_mult46 : BitVec 32 :=
  let c2_i32_485 : BitVec 32 := 2#32
  let c_m2_i32_484 : BitVec 32 := 4294967294#32
  let c3_i32_483 : BitVec 32 := 3#32
  let c1_i32_360 : BitVec 32 := 1#32
  let v1003 : BitVec 32 := Scalar.subi c3_i32_483 c1_i32_360
  let v1004 : BitVec 32 := Scalar.maxsi c_m2_i32_484 v1003
  let v1005 : BitVec 32 := Scalar.minsi c2_i32_485 v1004
  let c2_i32_486 : BitVec 32 := 2#32
  let v1006 : BitVec 32 := Scalar.addi v1005 c2_i32_486
  let c512_i32_487 : BitVec 32 := 512#32
  let v1007 : BitVec 32 := Scalar.muli v1006 c512_i32_487
  v1007
def k0_mult47 : BitVec 32 :=
  let c2_i32_501 : BitVec 32 := 2#32
  let c_m2_i32_500 : BitVec 32 := 4294967294#32
  let c0_i32_499 : BitVec 32 := 0#32
  let c1_i32_360 : BitVec 32 := 1#32
  let v1039 : BitVec 32 := Scalar.subi c0_i32_499 c1_i32_360
  let v1040 : BitVec 32 := Scalar.maxsi c_m2_i32_500 v1039
  let v1041 : BitVec 32 := Scalar.minsi c2_i32_501 v1040
  let c2_i32_502 : BitVec 32 := 2#32
  let v1042 : BitVec 32 := Scalar.addi v1041 c2_i32_502
  let c512_i32_503 : BitVec 32 := 512#32
  let v1043 : BitVec 32 := Scalar.muli v1042 c512_i32_503
  v1043
def k0_mult48 : BitVec 32 :=
  let c2_i32_507 : BitVec 32 := 2#32
  let c_m2_i32_506 : BitVec 32 := 4294967294#32
  let c1_i32_505 : BitVec 32 := 1#32
  let c1_i32_360 : BitVec 32 := 1#32
  let v1047 : BitVec 32 := Scalar.subi c1_i32_505 c1_i32_360
  let v1048 : BitVec 32 := Scalar.maxsi c_m2_i32_506 v1047
  let v1049 : BitVec 32 := Scalar.minsi c2_i32_507 v1048
  let c2_i32_508 : BitVec 32 := 2#32
  let v1050 : BitVec 32 := Scalar.addi v1049 c2_i32_508
  let c512_i32_509 : BitVec 32 := 512#32
  let v1051 : BitVec 32 := Scalar.muli v1050 c512_i32_509
  v1051
def k0_mult49 : BitVec 32 :=
  let c2_i32_521 : BitVec 32 := 2#32
  let c_m2_i32_520 : BitVec 32 := 4294967294#32
  let c2_i32_519 : BitVec 32 := 2#32
  let c1_i32_360 : BitVec 32 := 1#32
  let v1080 : BitVec 32 := Scalar.subi c2_i32_519 c1_i32_360
  let v1081 : BitVec 32 := Scalar.maxsi c_m2_i32_520 v1080
  let v1082 : BitVec 32 := Scalar.minsi c2_i32_521 v1081
  let c2_i32_522 : BitVec 32 := 2#32
  let v1083 : BitVec 32 := Scalar.addi v1082 c2_i32_522
  let c512_i32_523 : BitVec 32 := 512#32
  let v1084 : BitVec 32 := Scalar.muli v1083 c512_i32_523
  v1084
def k0_mult50 : BitVec 32 :=
  let c2_i32_527 : BitVec 32 := 2#32
  let c_m2_i32_526 : BitVec 32 := 4294967294#32
  let c3_i32_525 : BitVec 32 := 3#32
  let c1_i32_360 : BitVec 32 := 1#32
  let v1088 : BitVec 32 := Scalar.subi c3_i32_525 c1_i32_360
  let v1089 : BitVec 32 := Scalar.maxsi c_m2_i32_526 v1088
  let v1090 : BitVec 32 := Scalar.minsi c2_i32_527 v1089
  let c2_i32_528 : BitVec 32 := 2#32
  let v1091 : BitVec 32 := Scalar.addi v1090 c2_i32_528
  let c512_i32_529 : BitVec 32 := 512#32
  let v1092 : BitVec 32 := Scalar.muli v1091 c512_i32_529
  v1092
def k0_mult51 : BitVec 32 :=
  let c2_i32_543 : BitVec 32 := 2#32
  let c_m2_i32_542 : BitVec 32 := 4294967294#32
  let c0_i32_541 : BitVec 32 := 0#32
  let c1_i32_360 : BitVec 32 := 1#32
  let v1124 : BitVec 32 := Scalar.subi c0_i32_541 c1_i32_360
  let v1125 : BitVec 32 := Scalar.maxsi c_m2_i32_542 v1124
  let v1126 : BitVec 32 := Scalar.minsi c2_i32_543 v1125
  let c2_i32_544 : BitVec 32 := 2#32
  let v1127 : BitVec 32 := Scalar.addi v1126 c2_i32_544
  let c512_i32_545 : BitVec 32 := 512#32
  let v1128 : BitVec 32 := Scalar.muli v1127 c512_i32_545
  v1128
def k0_mult52 : BitVec 32 :=
  let c2_i32_549 : BitVec 32 := 2#32
  let c_m2_i32_548 : BitVec 32 := 4294967294#32
  let c1_i32_547 : BitVec 32 := 1#32
  let c1_i32_360 : BitVec 32 := 1#32
  let v1132 : BitVec 32 := Scalar.subi c1_i32_547 c1_i32_360
  let v1133 : BitVec 32 := Scalar.maxsi c_m2_i32_548 v1132
  let v1134 : BitVec 32 := Scalar.minsi c2_i32_549 v1133
  let c2_i32_550 : BitVec 32 := 2#32
  let v1135 : BitVec 32 := Scalar.addi v1134 c2_i32_550
  let c512_i32_551 : BitVec 32 := 512#32
  let v1136 : BitVec 32 := Scalar.muli v1135 c512_i32_551
  v1136
def k0_mult53 : BitVec 32 :=
  let c2_i32_563 : BitVec 32 := 2#32
  let c_m2_i32_562 : BitVec 32 := 4294967294#32
  let c2_i32_561 : BitVec 32 := 2#32
  let c1_i32_360 : BitVec 32 := 1#32
  let v1165 : BitVec 32 := Scalar.subi c2_i32_561 c1_i32_360
  let v1166 : BitVec 32 := Scalar.maxsi c_m2_i32_562 v1165
  let v1167 : BitVec 32 := Scalar.minsi c2_i32_563 v1166
  let c2_i32_564 : BitVec 32 := 2#32
  let v1168 : BitVec 32 := Scalar.addi v1167 c2_i32_564
  let c512_i32_565 : BitVec 32 := 512#32
  let v1169 : BitVec 32 := Scalar.muli v1168 c512_i32_565
  v1169
def k0_mult54 : BitVec 32 :=
  let c2_i32_569 : BitVec 32 := 2#32
  let c_m2_i32_568 : BitVec 32 := 4294967294#32
  let c3_i32_567 : BitVec 32 := 3#32
  let c1_i32_360 : BitVec 32 := 1#32
  let v1173 : BitVec 32 := Scalar.subi c3_i32_567 c1_i32_360
  let v1174 : BitVec 32 := Scalar.maxsi c_m2_i32_568 v1173
  let v1175 : BitVec 32 := Scalar.minsi c2_i32_569 v1174
  let c2_i32_570 : BitVec 32 := 2#32
  let v1176 : BitVec 32 := Scalar.addi v1175 c2_i32_570
  let c512_i32_571 : BitVec 32 := 512#32
  let v1177 : BitVec 32 := Scalar.muli v1176 c512_i32_571
  v1177
def k0_mult55 : BitVec 32 :=
  let c2_i32_585 : BitVec 32 := 2#32
  let c_m2_i32_584 : BitVec 32 := 4294967294#32
  let c0_i32_583 : BitVec 32 := 0#32
  let c1_i32_360 : BitVec 32 := 1#32
  let v1209 : BitVec 32 := Scalar.subi c0_i32_583 c1_i32_360
  let v1210 : BitVec 32 := Scalar.maxsi c_m2_i32_584 v1209
  let v1211 : BitVec 32 := Scalar.minsi c2_i32_585 v1210
  let c2_i32_586 : BitVec 32 := 2#32
  let v1212 : BitVec 32 := Scalar.addi v1211 c2_i32_586
  let c512_i32_587 : BitVec 32 := 512#32
  let v1213 : BitVec 32 := Scalar.muli v1212 c512_i32_587
  v1213
def k0_mult56 : BitVec 32 :=
  let c2_i32_591 : BitVec 32 := 2#32
  let c_m2_i32_590 : BitVec 32 := 4294967294#32
  let c1_i32_589 : BitVec 32 := 1#32
  let c1_i32_360 : BitVec 32 := 1#32
  let v1217 : BitVec 32 := Scalar.subi c1_i32_589 c1_i32_360
  let v1218 : BitVec 32 := Scalar.maxsi c_m2_i32_590 v1217
  let v1219 : BitVec 32 := Scalar.minsi c2_i32_591 v1218
  let c2_i32_592 : BitVec 32 := 2#32
  let v1220 : BitVec 32 := Scalar.addi v1219 c2_i32_592
  let c512_i32_593 : BitVec 32 := 512#32
  let v1221 : BitVec 32 := Scalar.muli v1220 c512_i32_593
  v1221
def k0_mult57 : BitVec 32 :=
  let c2_i32_605 : BitVec 32 := 2#32
  let c_m2_i32_604 : BitVec 32 := 4294967294#32
  let c2_i32_603 : BitVec 32 := 2#32
  let c1_i32_360 : BitVec 32 := 1#32
  let v1250 : BitVec 32 := Scalar.subi c2_i32_603 c1_i32_360
  let v1251 : BitVec 32 := Scalar.maxsi c_m2_i32_604 v1250
  let v1252 : BitVec 32 := Scalar.minsi c2_i32_605 v1251
  let c2_i32_606 : BitVec 32 := 2#32
  let v1253 : BitVec 32 := Scalar.addi v1252 c2_i32_606
  let c512_i32_607 : BitVec 32 := 512#32
  let v1254 : BitVec 32 := Scalar.muli v1253 c512_i32_607
  v1254
def k0_mult58 : BitVec 32 :=
  let c2_i32_611 : BitVec 32 := 2#32
  let c_m2_i32_610 : BitVec 32 := 4294967294#32
  let c3_i32_609 : BitVec 32 := 3#32
  let c1_i32_360 : BitVec 32 := 1#32
  let v1258 : BitVec 32 := Scalar.subi c3_i32_609 c1_i32_360
  let v1259 : BitVec 32 := Scalar.maxsi c_m2_i32_610 v1258
  let v1260 : BitVec 32 := Scalar.minsi c2_i32_611 v1259
  let c2_i32_612 : BitVec 32 := 2#32
  let v1261 : BitVec 32 := Scalar.addi v1260 c2_i32_612
  let c512_i32_613 : BitVec 32 := 512#32
  let v1262 : BitVec 32 := Scalar.muli v1261 c512_i32_613
  v1262
def k0_mult59 : BitVec 32 :=
  let c2_i32_627 : BitVec 32 := 2#32
  let c_m2_i32_626 : BitVec 32 := 4294967294#32
  let c0_i32_625 : BitVec 32 := 0#32
  let c1_i32_360 : BitVec 32 := 1#32
  let v1294 : BitVec 32 := Scalar.subi c0_i32_625 c1_i32_360
  let v1295 : BitVec 32 := Scalar.maxsi c_m2_i32_626 v1294
  let v1296 : BitVec 32 := Scalar.minsi c2_i32_627 v1295
  let c2_i32_628 : BitVec 32 := 2#32
  let v1297 : BitVec 32 := Scalar.addi v1296 c2_i32_628
  let c512_i32_629 : BitVec 32 := 512#32
  let v1298 : BitVec 32 := Scalar.muli v1297 c512_i32_629
  v1298
def k0_mult60 : BitVec 32 :=
  let c2_i32_633 : BitVec 32 := 2#32
  let c_m2_i32_632 : BitVec 32 := 4294967294#32
  let c1_i32_631 : BitVec 32 := 1#32
  let c1_i32_360 : BitVec 32 := 1#32
  let v1302 : BitVec 32 := Scalar.subi c1_i32_631 c1_i32_360
  let v1303 : BitVec 32 := Scalar.maxsi c_m2_i32_632 v1302
  let v1304 : BitVec 32 := Scalar.minsi c2_i32_633 v1303
  let c2_i32_634 : BitVec 32 := 2#32
  let v1305 : BitVec 32 := Scalar.addi v1304 c2_i32_634
  let c512_i32_635 : BitVec 32 := 512#32
  let v1306 : BitVec 32 := Scalar.muli v1305 c512_i32_635
  v1306
def k0_mult61 : BitVec 32 :=
  let c2_i32_647 : BitVec 32 := 2#32
  let c_m2_i32_646 : BitVec 32 := 4294967294#32
  let c2_i32_645 : BitVec 32 := 2#32
  let c1_i32_360 : BitVec 32 := 1#32
  let v1335 : BitVec 32 := Scalar.subi c2_i32_645 c1_i32_360
  let v1336 : BitVec 32 := Scalar.maxsi c_m2_i32_646 v1335
  let v1337 : BitVec 32 := Scalar.minsi c2_i32_647 v1336
  let c2_i32_648 : BitVec 32 := 2#32
  let v1338 : BitVec 32 := Scalar.addi v1337 c2_i32_648
  let c512_i32_649 : BitVec 32 := 512#32
  let v1339 : BitVec 32 := Scalar.muli v1338 c512_i32_649
  v1339
def k0_mult62 : BitVec 32 :=
  let c2_i32_653 : BitVec 32 := 2#32
  let c_m2_i32_652 : BitVec 32 := 4294967294#32
  let c3_i32_651 : BitVec 32 := 3#32
  let c1_i32_360 : BitVec 32 := 1#32
  let v1343 : BitVec 32 := Scalar.subi c3_i32_651 c1_i32_360
  let v1344 : BitVec 32 := Scalar.maxsi c_m2_i32_652 v1343
  let v1345 : BitVec 32 := Scalar.minsi c2_i32_653 v1344
  let c2_i32_654 : BitVec 32 := 2#32
  let v1346 : BitVec 32 := Scalar.addi v1345 c2_i32_654
  let c512_i32_655 : BitVec 32 := 512#32
  let v1347 : BitVec 32 := Scalar.muli v1346 c512_i32_655
  v1347
def k0_mult63 : BitVec 32 :=
  let c2_i32_669 : BitVec 32 := 2#32
  let c_m2_i32_668 : BitVec 32 := 4294967294#32
  let c0_i32_667 : BitVec 32 := 0#32
  let c1_i32_360 : BitVec 32 := 1#32
  let v1379 : BitVec 32 := Scalar.subi c0_i32_667 c1_i32_360
  let v1380 : BitVec 32 := Scalar.maxsi c_m2_i32_668 v1379
  let v1381 : BitVec 32 := Scalar.minsi c2_i32_669 v1380
  let c2_i32_670 : BitVec 32 := 2#32
  let v1382 : BitVec 32 := Scalar.addi v1381 c2_i32_670
  let c512_i32_671 : BitVec 32 := 512#32
  let v1383 : BitVec 32 := Scalar.muli v1382 c512_i32_671
  v1383
def k0_mult64 : BitVec 32 :=
  let c2_i32_675 : BitVec 32 := 2#32
  let c_m2_i32_674 : BitVec 32 := 4294967294#32
  let c1_i32_673 : BitVec 32 := 1#32
  let c1_i32_360 : BitVec 32 := 1#32
  let v1387 : BitVec 32 := Scalar.subi c1_i32_673 c1_i32_360
  let v1388 : BitVec 32 := Scalar.maxsi c_m2_i32_674 v1387
  let v1389 : BitVec 32 := Scalar.minsi c2_i32_675 v1388
  let c2_i32_676 : BitVec 32 := 2#32
  let v1390 : BitVec 32 := Scalar.addi v1389 c2_i32_676
  let c512_i32_677 : BitVec 32 := 512#32
  let v1391 : BitVec 32 := Scalar.muli v1390 c512_i32_677
  v1391
def k0_mult65 : BitVec 32 :=
  let c2_i32_689 : BitVec 32 := 2#32
  let c_m2_i32_688 : BitVec 32 := 4294967294#32
  let c2_i32_687 : BitVec 32 := 2#32
  let c1_i32_360 : BitVec 32 := 1#32
  let v1420 : BitVec 32 := Scalar.subi c2_i32_687 c1_i32_360
  let v1421 : BitVec 32 := Scalar.maxsi c_m2_i32_688 v1420
  let v1422 : BitVec 32 := Scalar.minsi c2_i32_689 v1421
  let c2_i32_690 : BitVec 32 := 2#32
  let v1423 : BitVec 32 := Scalar.addi v1422 c2_i32_690
  let c512_i32_691 : BitVec 32 := 512#32
  let v1424 : BitVec 32 := Scalar.muli v1423 c512_i32_691
  v1424
def k0_mult66 : BitVec 32 :=
  let c2_i32_695 : BitVec 32 := 2#32
  let c_m2_i32_694 : BitVec 32 := 4294967294#32
  let c3_i32_693 : BitVec 32 := 3#32
  let c1_i32_360 : BitVec 32 := 1#32
  let v1428 : BitVec 32 := Scalar.subi c3_i32_693 c1_i32_360
  let v1429 : BitVec 32 := Scalar.maxsi c_m2_i32_694 v1428
  let v1430 : BitVec 32 := Scalar.minsi c2_i32_695 v1429
  let c2_i32_696 : BitVec 32 := 2#32
  let v1431 : BitVec 32 := Scalar.addi v1430 c2_i32_696
  let c512_i32_697 : BitVec 32 := 512#32
  let v1432 : BitVec 32 := Scalar.muli v1431 c512_i32_697
  v1432
def k0_mult67 : BitVec 32 :=
  let c2_i32_726 : BitVec 32 := 2#32
  let c512_i32_727 : BitVec 32 := 512#32
  let v1507 : BitVec 32 := Scalar.muli c2_i32_726 c512_i32_727
  v1507
def k0_mult68 : BitVec 32 :=
  let c2_i32_741 : BitVec 32 := 2#32
  let c_m2_i32_740 : BitVec 32 := 4294967294#32
  let c0_i32_739 : BitVec 32 := 0#32
  let c2_i32_726 : BitVec 32 := 2#32
  let v1531 : BitVec 32 := Scalar.subi c0_i32_739 c2_i32_726
  let v1532 : BitVec 32 := Scalar.maxsi c_m2_i32_740 v1531
  let v1533 : BitVec 32 := Scalar.minsi c2_i32_741 v1532
  let c2_i32_742 : BitVec 32 := 2#32
  let v1534 : BitVec 32 := Scalar.addi v1533 c2_i32_742
  let c512_i32_743 : BitVec 32 := 512#32
  let v1535 : BitVec 32 := Scalar.muli v1534 c512_i32_743
  v1535
def k0_mult69 : BitVec 32 :=
  let c2_i32_747 : BitVec 32 := 2#32
  let c_m2_i32_746 : BitVec 32 := 4294967294#32
  let c1_i32_745 : BitVec 32 := 1#32
  let c2_i32_726 : BitVec 32 := 2#32
  let v1539 : BitVec 32 := Scalar.subi c1_i32_745 c2_i32_726
  let v1540 : BitVec 32 := Scalar.maxsi c_m2_i32_746 v1539
  let v1541 : BitVec 32 := Scalar.minsi c2_i32_747 v1540
  let c2_i32_748 : BitVec 32 := 2#32
  let v1542 : BitVec 32 := Scalar.addi v1541 c2_i32_748
  let c512_i32_749 : BitVec 32 := 512#32
  let v1543 : BitVec 32 := Scalar.muli v1542 c512_i32_749
  v1543
def k0_mult70 : BitVec 32 :=
  let c2_i32_761 : BitVec 32 := 2#32
  let c_m2_i32_760 : BitVec 32 := 4294967294#32
  let c2_i32_759 : BitVec 32 := 2#32
  let c2_i32_726 : BitVec 32 := 2#32
  let v1572 : BitVec 32 := Scalar.subi c2_i32_759 c2_i32_726
  let v1573 : BitVec 32 := Scalar.maxsi c_m2_i32_760 v1572
  let v1574 : BitVec 32 := Scalar.minsi c2_i32_761 v1573
  let c2_i32_762 : BitVec 32 := 2#32
  let v1575 : BitVec 32 := Scalar.addi v1574 c2_i32_762
  let c512_i32_763 : BitVec 32 := 512#32
  let v1576 : BitVec 32 := Scalar.muli v1575 c512_i32_763
  v1576
def k0_mult71 : BitVec 32 :=
  let c2_i32_767 : BitVec 32 := 2#32
  let c_m2_i32_766 : BitVec 32 := 4294967294#32
  let c3_i32_765 : BitVec 32 := 3#32
  let c2_i32_726 : BitVec 32 := 2#32
  let v1580 : BitVec 32 := Scalar.subi c3_i32_765 c2_i32_726
  let v1581 : BitVec 32 := Scalar.maxsi c_m2_i32_766 v1580
  let v1582 : BitVec 32 := Scalar.minsi c2_i32_767 v1581
  let c2_i32_768 : BitVec 32 := 2#32
  let v1583 : BitVec 32 := Scalar.addi v1582 c2_i32_768
  let c512_i32_769 : BitVec 32 := 512#32
  let v1584 : BitVec 32 := Scalar.muli v1583 c512_i32_769
  v1584
def k0_mult72 : BitVec 32 :=
  let c2_i32_783 : BitVec 32 := 2#32
  let c_m2_i32_782 : BitVec 32 := 4294967294#32
  let c0_i32_781 : BitVec 32 := 0#32
  let c2_i32_726 : BitVec 32 := 2#32
  let v1616 : BitVec 32 := Scalar.subi c0_i32_781 c2_i32_726
  let v1617 : BitVec 32 := Scalar.maxsi c_m2_i32_782 v1616
  let v1618 : BitVec 32 := Scalar.minsi c2_i32_783 v1617
  let c2_i32_784 : BitVec 32 := 2#32
  let v1619 : BitVec 32 := Scalar.addi v1618 c2_i32_784
  let c512_i32_785 : BitVec 32 := 512#32
  let v1620 : BitVec 32 := Scalar.muli v1619 c512_i32_785
  v1620
def k0_mult73 : BitVec 32 :=
  let c2_i32_789 : BitVec 32 := 2#32
  let c_m2_i32_788 : BitVec 32 := 4294967294#32
  let c1_i32_787 : BitVec 32 := 1#32
  let c2_i32_726 : BitVec 32 := 2#32
  let v1624 : BitVec 32 := Scalar.subi c1_i32_787 c2_i32_726
  let v1625 : BitVec 32 := Scalar.maxsi c_m2_i32_788 v1624
  let v1626 : BitVec 32 := Scalar.minsi c2_i32_789 v1625
  let c2_i32_790 : BitVec 32 := 2#32
  let v1627 : BitVec 32 := Scalar.addi v1626 c2_i32_790
  let c512_i32_791 : BitVec 32 := 512#32
  let v1628 : BitVec 32 := Scalar.muli v1627 c512_i32_791
  v1628
def k0_mult74 : BitVec 32 :=
  let c2_i32_803 : BitVec 32 := 2#32
  let c_m2_i32_802 : BitVec 32 := 4294967294#32
  let c2_i32_801 : BitVec 32 := 2#32
  let c2_i32_726 : BitVec 32 := 2#32
  let v1657 : BitVec 32 := Scalar.subi c2_i32_801 c2_i32_726
  let v1658 : BitVec 32 := Scalar.maxsi c_m2_i32_802 v1657
  let v1659 : BitVec 32 := Scalar.minsi c2_i32_803 v1658
  let c2_i32_804 : BitVec 32 := 2#32
  let v1660 : BitVec 32 := Scalar.addi v1659 c2_i32_804
  let c512_i32_805 : BitVec 32 := 512#32
  let v1661 : BitVec 32 := Scalar.muli v1660 c512_i32_805
  v1661
def k0_mult75 : BitVec 32 :=
  let c2_i32_809 : BitVec 32 := 2#32
  let c_m2_i32_808 : BitVec 32 := 4294967294#32
  let c3_i32_807 : BitVec 32 := 3#32
  let c2_i32_726 : BitVec 32 := 2#32
  let v1665 : BitVec 32 := Scalar.subi c3_i32_807 c2_i32_726
  let v1666 : BitVec 32 := Scalar.maxsi c_m2_i32_808 v1665
  let v1667 : BitVec 32 := Scalar.minsi c2_i32_809 v1666
  let c2_i32_810 : BitVec 32 := 2#32
  let v1668 : BitVec 32 := Scalar.addi v1667 c2_i32_810
  let c512_i32_811 : BitVec 32 := 512#32
  let v1669 : BitVec 32 := Scalar.muli v1668 c512_i32_811
  v1669
def k0_mult76 : BitVec 32 :=
  let c2_i32_825 : BitVec 32 := 2#32
  let c_m2_i32_824 : BitVec 32 := 4294967294#32
  let c0_i32_823 : BitVec 32 := 0#32
  let c2_i32_726 : BitVec 32 := 2#32
  let v1701 : BitVec 32 := Scalar.subi c0_i32_823 c2_i32_726
  let v1702 : BitVec 32 := Scalar.maxsi c_m2_i32_824 v1701
  let v1703 : BitVec 32 := Scalar.minsi c2_i32_825 v1702
  let c2_i32_826 : BitVec 32 := 2#32
  let v1704 : BitVec 32 := Scalar.addi v1703 c2_i32_826
  let c512_i32_827 : BitVec 32 := 512#32
  let v1705 : BitVec 32 := Scalar.muli v1704 c512_i32_827
  v1705
def k0_mult77 : BitVec 32 :=
  let c2_i32_831 : BitVec 32 := 2#32
  let c_m2_i32_830 : BitVec 32 := 4294967294#32
  let c1_i32_829 : BitVec 32 := 1#32
  let c2_i32_726 : BitVec 32 := 2#32
  let v1709 : BitVec 32 := Scalar.subi c1_i32_829 c2_i32_726
  let v1710 : BitVec 32 := Scalar.maxsi c_m2_i32_830 v1709
  let v1711 : BitVec 32 := Scalar.minsi c2_i32_831 v1710
  let c2_i32_832 : BitVec 32 := 2#32
  let v1712 : BitVec 32 := Scalar.addi v1711 c2_i32_832
  let c512_i32_833 : BitVec 32 := 512#32
  let v1713 : BitVec 32 := Scalar.muli v1712 c512_i32_833
  v1713
def k0_mult78 : BitVec 32 :=
  let c2_i32_845 : BitVec 32 := 2#32
  let c_m2_i32_844 : BitVec 32 := 4294967294#32
  let c2_i32_843 : BitVec 32 := 2#32
  let c2_i32_726 : BitVec 32 := 2#32
  let v1742 : BitVec 32 := Scalar.subi c2_i32_843 c2_i32_726
  let v1743 : BitVec 32 := Scalar.maxsi c_m2_i32_844 v1742
  let v1744 : BitVec 32 := Scalar.minsi c2_i32_845 v1743
  let c2_i32_846 : BitVec 32 := 2#32
  let v1745 : BitVec 32 := Scalar.addi v1744 c2_i32_846
  let c512_i32_847 : BitVec 32 := 512#32
  let v1746 : BitVec 32 := Scalar.muli v1745 c512_i32_847
  v1746
def k0_mult79 : BitVec 32 :=
  let c2_i32_851 : BitVec 32 := 2#32
  let c_m2_i32_850 : BitVec 32 := 4294967294#32
  let c3_i32_849 : BitVec 32 := 3#32
  let c2_i32_726 : BitVec 32 := 2#32
  let v1750 : BitVec 32 := Scalar.subi c3_i32_849 c2_i32_726
  let v1751 : BitVec 32 := Scalar.maxsi c_m2_i32_850 v1750
  let v1752 : BitVec 32 := Scalar.minsi c2_i32_851 v1751
  let c2_i32_852 : BitVec 32 := 2#32
  let v1753 : BitVec 32 := Scalar.addi v1752 c2_i32_852
  let c512_i32_853 : BitVec 32 := 512#32
  let v1754 : BitVec 32 := Scalar.muli v1753 c512_i32_853
  v1754
def k0_mult80 : BitVec 32 :=
  let c2_i32_867 : BitVec 32 := 2#32
  let c_m2_i32_866 : BitVec 32 := 4294967294#32
  let c0_i32_865 : BitVec 32 := 0#32
  let c2_i32_726 : BitVec 32 := 2#32
  let v1786 : BitVec 32 := Scalar.subi c0_i32_865 c2_i32_726
  let v1787 : BitVec 32 := Scalar.maxsi c_m2_i32_866 v1786
  let v1788 : BitVec 32 := Scalar.minsi c2_i32_867 v1787
  let c2_i32_868 : BitVec 32 := 2#32
  let v1789 : BitVec 32 := Scalar.addi v1788 c2_i32_868
  let c512_i32_869 : BitVec 32 := 512#32
  let v1790 : BitVec 32 := Scalar.muli v1789 c512_i32_869
  v1790
def k0_mult81 : BitVec 32 :=
  let c2_i32_873 : BitVec 32 := 2#32
  let c_m2_i32_872 : BitVec 32 := 4294967294#32
  let c1_i32_871 : BitVec 32 := 1#32
  let c2_i32_726 : BitVec 32 := 2#32
  let v1794 : BitVec 32 := Scalar.subi c1_i32_871 c2_i32_726
  let v1795 : BitVec 32 := Scalar.maxsi c_m2_i32_872 v1794
  let v1796 : BitVec 32 := Scalar.minsi c2_i32_873 v1795
  let c2_i32_874 : BitVec 32 := 2#32
  let v1797 : BitVec 32 := Scalar.addi v1796 c2_i32_874
  let c512_i32_875 : BitVec 32 := 512#32
  let v1798 : BitVec 32 := Scalar.muli v1797 c512_i32_875
  v1798
def k0_mult82 : BitVec 32 :=
  let c2_i32_887 : BitVec 32 := 2#32
  let c_m2_i32_886 : BitVec 32 := 4294967294#32
  let c2_i32_885 : BitVec 32 := 2#32
  let c2_i32_726 : BitVec 32 := 2#32
  let v1827 : BitVec 32 := Scalar.subi c2_i32_885 c2_i32_726
  let v1828 : BitVec 32 := Scalar.maxsi c_m2_i32_886 v1827
  let v1829 : BitVec 32 := Scalar.minsi c2_i32_887 v1828
  let c2_i32_888 : BitVec 32 := 2#32
  let v1830 : BitVec 32 := Scalar.addi v1829 c2_i32_888
  let c512_i32_889 : BitVec 32 := 512#32
  let v1831 : BitVec 32 := Scalar.muli v1830 c512_i32_889
  v1831
def k0_mult83 : BitVec 32 :=
  let c2_i32_893 : BitVec 32 := 2#32
  let c_m2_i32_892 : BitVec 32 := 4294967294#32
  let c3_i32_891 : BitVec 32 := 3#32
  let c2_i32_726 : BitVec 32 := 2#32
  let v1835 : BitVec 32 := Scalar.subi c3_i32_891 c2_i32_726
  let v1836 : BitVec 32 := Scalar.maxsi c_m2_i32_892 v1835
  let v1837 : BitVec 32 := Scalar.minsi c2_i32_893 v1836
  let c2_i32_894 : BitVec 32 := 2#32
  let v1838 : BitVec 32 := Scalar.addi v1837 c2_i32_894
  let c512_i32_895 : BitVec 32 := 512#32
  let v1839 : BitVec 32 := Scalar.muli v1838 c512_i32_895
  v1839
def k0_mult84 : BitVec 32 :=
  let c2_i32_909 : BitVec 32 := 2#32
  let c_m2_i32_908 : BitVec 32 := 4294967294#32
  let c0_i32_907 : BitVec 32 := 0#32
  let c2_i32_726 : BitVec 32 := 2#32
  let v1871 : BitVec 32 := Scalar.subi c0_i32_907 c2_i32_726
  let v1872 : BitVec 32 := Scalar.maxsi c_m2_i32_908 v1871
  let v1873 : BitVec 32 := Scalar.minsi c2_i32_909 v1872
  let c2_i32_910 : BitVec 32 := 2#32
  let v1874 : BitVec 32 := Scalar.addi v1873 c2_i32_910
  let c512_i32_911 : BitVec 32 := 512#32
  let v1875 : BitVec 32 := Scalar.muli v1874 c512_i32_911
  v1875
def k0_mult85 : BitVec 32 :=
  let c2_i32_915 : BitVec 32 := 2#32
  let c_m2_i32_914 : BitVec 32 := 4294967294#32
  let c1_i32_913 : BitVec 32 := 1#32
  let c2_i32_726 : BitVec 32 := 2#32
  let v1879 : BitVec 32 := Scalar.subi c1_i32_913 c2_i32_726
  let v1880 : BitVec 32 := Scalar.maxsi c_m2_i32_914 v1879
  let v1881 : BitVec 32 := Scalar.minsi c2_i32_915 v1880
  let c2_i32_916 : BitVec 32 := 2#32
  let v1882 : BitVec 32 := Scalar.addi v1881 c2_i32_916
  let c512_i32_917 : BitVec 32 := 512#32
  let v1883 : BitVec 32 := Scalar.muli v1882 c512_i32_917
  v1883
def k0_mult86 : BitVec 32 :=
  let c2_i32_929 : BitVec 32 := 2#32
  let c_m2_i32_928 : BitVec 32 := 4294967294#32
  let c2_i32_927 : BitVec 32 := 2#32
  let c2_i32_726 : BitVec 32 := 2#32
  let v1912 : BitVec 32 := Scalar.subi c2_i32_927 c2_i32_726
  let v1913 : BitVec 32 := Scalar.maxsi c_m2_i32_928 v1912
  let v1914 : BitVec 32 := Scalar.minsi c2_i32_929 v1913
  let c2_i32_930 : BitVec 32 := 2#32
  let v1915 : BitVec 32 := Scalar.addi v1914 c2_i32_930
  let c512_i32_931 : BitVec 32 := 512#32
  let v1916 : BitVec 32 := Scalar.muli v1915 c512_i32_931
  v1916
def k0_mult87 : BitVec 32 :=
  let c2_i32_935 : BitVec 32 := 2#32
  let c_m2_i32_934 : BitVec 32 := 4294967294#32
  let c3_i32_933 : BitVec 32 := 3#32
  let c2_i32_726 : BitVec 32 := 2#32
  let v1920 : BitVec 32 := Scalar.subi c3_i32_933 c2_i32_726
  let v1921 : BitVec 32 := Scalar.maxsi c_m2_i32_934 v1920
  let v1922 : BitVec 32 := Scalar.minsi c2_i32_935 v1921
  let c2_i32_936 : BitVec 32 := 2#32
  let v1923 : BitVec 32 := Scalar.addi v1922 c2_i32_936
  let c512_i32_937 : BitVec 32 := 512#32
  let v1924 : BitVec 32 := Scalar.muli v1923 c512_i32_937
  v1924
def k0_mult88 : BitVec 32 :=
  let c2_i32_951 : BitVec 32 := 2#32
  let c_m2_i32_950 : BitVec 32 := 4294967294#32
  let c0_i32_949 : BitVec 32 := 0#32
  let c2_i32_726 : BitVec 32 := 2#32
  let v1956 : BitVec 32 := Scalar.subi c0_i32_949 c2_i32_726
  let v1957 : BitVec 32 := Scalar.maxsi c_m2_i32_950 v1956
  let v1958 : BitVec 32 := Scalar.minsi c2_i32_951 v1957
  let c2_i32_952 : BitVec 32 := 2#32
  let v1959 : BitVec 32 := Scalar.addi v1958 c2_i32_952
  let c512_i32_953 : BitVec 32 := 512#32
  let v1960 : BitVec 32 := Scalar.muli v1959 c512_i32_953
  v1960
def k0_mult89 : BitVec 32 :=
  let c2_i32_957 : BitVec 32 := 2#32
  let c_m2_i32_956 : BitVec 32 := 4294967294#32
  let c1_i32_955 : BitVec 32 := 1#32
  let c2_i32_726 : BitVec 32 := 2#32
  let v1964 : BitVec 32 := Scalar.subi c1_i32_955 c2_i32_726
  let v1965 : BitVec 32 := Scalar.maxsi c_m2_i32_956 v1964
  let v1966 : BitVec 32 := Scalar.minsi c2_i32_957 v1965
  let c2_i32_958 : BitVec 32 := 2#32
  let v1967 : BitVec 32 := Scalar.addi v1966 c2_i32_958
  let c512_i32_959 : BitVec 32 := 512#32
  let v1968 : BitVec 32 := Scalar.muli v1967 c512_i32_959
  v1968
def k0_mult90 : BitVec 32 :=
  let c2_i32_971 : BitVec 32 := 2#32
  let c_m2_i32_970 : BitVec 32 := 4294967294#32
  let c2_i32_969 : BitVec 32 := 2#32
  let c2_i32_726 : BitVec 32 := 2#32
  let v1997 : BitVec 32 := Scalar.subi c2_i32_969 c2_i32_726
  let v1998 : BitVec 32 := Scalar.maxsi c_m2_i32_970 v1997
  let v1999 : BitVec 32 := Scalar.minsi c2_i32_971 v1998
  let c2_i32_972 : BitVec 32 := 2#32
  let v2000 : BitVec 32 := Scalar.addi v1999 c2_i32_972
  let c512_i32_973 : BitVec 32 := 512#32
  let v2001 : BitVec 32 := Scalar.muli v2000 c512_i32_973
  v2001
def k0_mult91 : BitVec 32 :=
  let c2_i32_977 : BitVec 32 := 2#32
  let c_m2_i32_976 : BitVec 32 := 4294967294#32
  let c3_i32_975 : BitVec 32 := 3#32
  let c2_i32_726 : BitVec 32 := 2#32
  let v2005 : BitVec 32 := Scalar.subi c3_i32_975 c2_i32_726
  let v2006 : BitVec 32 := Scalar.maxsi c_m2_i32_976 v2005
  let v2007 : BitVec 32 := Scalar.minsi c2_i32_977 v2006
  let c2_i32_978 : BitVec 32 := 2#32
  let v2008 : BitVec 32 := Scalar.addi v2007 c2_i32_978
  let c512_i32_979 : BitVec 32 := 512#32
  let v2009 : BitVec 32 := Scalar.muli v2008 c512_i32_979
  v2009
def k0_mult92 : BitVec 32 :=
  let c2_i32_993 : BitVec 32 := 2#32
  let c_m2_i32_992 : BitVec 32 := 4294967294#32
  let c0_i32_991 : BitVec 32 := 0#32
  let c2_i32_726 : BitVec 32 := 2#32
  let v2041 : BitVec 32 := Scalar.subi c0_i32_991 c2_i32_726
  let v2042 : BitVec 32 := Scalar.maxsi c_m2_i32_992 v2041
  let v2043 : BitVec 32 := Scalar.minsi c2_i32_993 v2042
  let c2_i32_994 : BitVec 32 := 2#32
  let v2044 : BitVec 32 := Scalar.addi v2043 c2_i32_994
  let c512_i32_995 : BitVec 32 := 512#32
  let v2045 : BitVec 32 := Scalar.muli v2044 c512_i32_995
  v2045
def k0_mult93 : BitVec 32 :=
  let c2_i32_999 : BitVec 32 := 2#32
  let c_m2_i32_998 : BitVec 32 := 4294967294#32
  let c1_i32_997 : BitVec 32 := 1#32
  let c2_i32_726 : BitVec 32 := 2#32
  let v2049 : BitVec 32 := Scalar.subi c1_i32_997 c2_i32_726
  let v2050 : BitVec 32 := Scalar.maxsi c_m2_i32_998 v2049
  let v2051 : BitVec 32 := Scalar.minsi c2_i32_999 v2050
  let c2_i32_1000 : BitVec 32 := 2#32
  let v2052 : BitVec 32 := Scalar.addi v2051 c2_i32_1000
  let c512_i32_1001 : BitVec 32 := 512#32
  let v2053 : BitVec 32 := Scalar.muli v2052 c512_i32_1001
  v2053
def k0_mult94 : BitVec 32 :=
  let c2_i32_1013 : BitVec 32 := 2#32
  let c_m2_i32_1012 : BitVec 32 := 4294967294#32
  let c2_i32_1011 : BitVec 32 := 2#32
  let c2_i32_726 : BitVec 32 := 2#32
  let v2082 : BitVec 32 := Scalar.subi c2_i32_1011 c2_i32_726
  let v2083 : BitVec 32 := Scalar.maxsi c_m2_i32_1012 v2082
  let v2084 : BitVec 32 := Scalar.minsi c2_i32_1013 v2083
  let c2_i32_1014 : BitVec 32 := 2#32
  let v2085 : BitVec 32 := Scalar.addi v2084 c2_i32_1014
  let c512_i32_1015 : BitVec 32 := 512#32
  let v2086 : BitVec 32 := Scalar.muli v2085 c512_i32_1015
  v2086
def k0_mult95 : BitVec 32 :=
  let c2_i32_1019 : BitVec 32 := 2#32
  let c_m2_i32_1018 : BitVec 32 := 4294967294#32
  let c3_i32_1017 : BitVec 32 := 3#32
  let c2_i32_726 : BitVec 32 := 2#32
  let v2090 : BitVec 32 := Scalar.subi c3_i32_1017 c2_i32_726
  let v2091 : BitVec 32 := Scalar.maxsi c_m2_i32_1018 v2090
  let v2092 : BitVec 32 := Scalar.minsi c2_i32_1019 v2091
  let c2_i32_1020 : BitVec 32 := 2#32
  let v2093 : BitVec 32 := Scalar.addi v2092 c2_i32_1020
  let c512_i32_1021 : BitVec 32 := 512#32
  let v2094 : BitVec 32 := Scalar.muli v2093 c512_i32_1021
  v2094
def k0_mult96 : BitVec 32 :=
  let c2_i32_1035 : BitVec 32 := 2#32
  let c_m2_i32_1034 : BitVec 32 := 4294967294#32
  let c0_i32_1033 : BitVec 32 := 0#32
  let c2_i32_726 : BitVec 32 := 2#32
  let v2126 : BitVec 32 := Scalar.subi c0_i32_1033 c2_i32_726
  let v2127 : BitVec 32 := Scalar.maxsi c_m2_i32_1034 v2126
  let v2128 : BitVec 32 := Scalar.minsi c2_i32_1035 v2127
  let c2_i32_1036 : BitVec 32 := 2#32
  let v2129 : BitVec 32 := Scalar.addi v2128 c2_i32_1036
  let c512_i32_1037 : BitVec 32 := 512#32
  let v2130 : BitVec 32 := Scalar.muli v2129 c512_i32_1037
  v2130
def k0_mult97 : BitVec 32 :=
  let c2_i32_1041 : BitVec 32 := 2#32
  let c_m2_i32_1040 : BitVec 32 := 4294967294#32
  let c1_i32_1039 : BitVec 32 := 1#32
  let c2_i32_726 : BitVec 32 := 2#32
  let v2134 : BitVec 32 := Scalar.subi c1_i32_1039 c2_i32_726
  let v2135 : BitVec 32 := Scalar.maxsi c_m2_i32_1040 v2134
  let v2136 : BitVec 32 := Scalar.minsi c2_i32_1041 v2135
  let c2_i32_1042 : BitVec 32 := 2#32
  let v2137 : BitVec 32 := Scalar.addi v2136 c2_i32_1042
  let c512_i32_1043 : BitVec 32 := 512#32
  let v2138 : BitVec 32 := Scalar.muli v2137 c512_i32_1043
  v2138
def k0_mult98 : BitVec 32 :=
  let c2_i32_1055 : BitVec 32 := 2#32
  let c_m2_i32_1054 : BitVec 32 := 4294967294#32
  let c2_i32_1053 : BitVec 32 := 2#32
  let c2_i32_726 : BitVec 32 := 2#32
  let v2167 : BitVec 32 := Scalar.subi c2_i32_1053 c2_i32_726
  let v2168 : BitVec 32 := Scalar.maxsi c_m2_i32_1054 v2167
  let v2169 : BitVec 32 := Scalar.minsi c2_i32_1055 v2168
  let c2_i32_1056 : BitVec 32 := 2#32
  let v2170 : BitVec 32 := Scalar.addi v2169 c2_i32_1056
  let c512_i32_1057 : BitVec 32 := 512#32
  let v2171 : BitVec 32 := Scalar.muli v2170 c512_i32_1057
  v2171
def k0_mult99 : BitVec 32 :=
  let c2_i32_1061 : BitVec 32 := 2#32
  let c_m2_i32_1060 : BitVec 32 := 4294967294#32
  let c3_i32_1059 : BitVec 32 := 3#32
  let c2_i32_726 : BitVec 32 := 2#32
  let v2175 : BitVec 32 := Scalar.subi c3_i32_1059 c2_i32_726
  let v2176 : BitVec 32 := Scalar.maxsi c_m2_i32_1060 v2175
  let v2177 : BitVec 32 := Scalar.minsi c2_i32_1061 v2176
  let c2_i32_1062 : BitVec 32 := 2#32
  let v2178 : BitVec 32 := Scalar.addi v2177 c2_i32_1062
  let c512_i32_1063 : BitVec 32 := 512#32
  let v2179 : BitVec 32 := Scalar.muli v2178 c512_i32_1063
  v2179
def k0_mult100 : BitVec 32 :=
  let c3_i32_1092 : BitVec 32 := 3#32
  let c512_i32_1093 : BitVec 32 := 512#32
  let v2254 : BitVec 32 := Scalar.muli c3_i32_1092 c512_i32_1093
  v2254
def k0_mult101 : BitVec 32 :=
  let c2_i32_1107 : BitVec 32 := 2#32
  let c_m2_i32_1106 : BitVec 32 := 4294967294#32
  let c0_i32_1105 : BitVec 32 := 0#32
  let c3_i32_1092 : BitVec 32 := 3#32
  let v2278 : BitVec 32 := Scalar.subi c0_i32_1105 c3_i32_1092
  let v2279 : BitVec 32 := Scalar.maxsi c_m2_i32_1106 v2278
  let v2280 : BitVec 32 := Scalar.minsi c2_i32_1107 v2279
  let c2_i32_1108 : BitVec 32 := 2#32
  let v2281 : BitVec 32 := Scalar.addi v2280 c2_i32_1108
  let c512_i32_1109 : BitVec 32 := 512#32
  let v2282 : BitVec 32 := Scalar.muli v2281 c512_i32_1109
  v2282
def k0_mult102 : BitVec 32 :=
  let c2_i32_1113 : BitVec 32 := 2#32
  let c_m2_i32_1112 : BitVec 32 := 4294967294#32
  let c1_i32_1111 : BitVec 32 := 1#32
  let c3_i32_1092 : BitVec 32 := 3#32
  let v2286 : BitVec 32 := Scalar.subi c1_i32_1111 c3_i32_1092
  let v2287 : BitVec 32 := Scalar.maxsi c_m2_i32_1112 v2286
  let v2288 : BitVec 32 := Scalar.minsi c2_i32_1113 v2287
  let c2_i32_1114 : BitVec 32 := 2#32
  let v2289 : BitVec 32 := Scalar.addi v2288 c2_i32_1114
  let c512_i32_1115 : BitVec 32 := 512#32
  let v2290 : BitVec 32 := Scalar.muli v2289 c512_i32_1115
  v2290
def k0_mult103 : BitVec 32 :=
  let c2_i32_1127 : BitVec 32 := 2#32
  let c_m2_i32_1126 : BitVec 32 := 4294967294#32
  let c2_i32_1125 : BitVec 32 := 2#32
  let c3_i32_1092 : BitVec 32 := 3#32
  let v2319 : BitVec 32 := Scalar.subi c2_i32_1125 c3_i32_1092
  let v2320 : BitVec 32 := Scalar.maxsi c_m2_i32_1126 v2319
  let v2321 : BitVec 32 := Scalar.minsi c2_i32_1127 v2320
  let c2_i32_1128 : BitVec 32 := 2#32
  let v2322 : BitVec 32 := Scalar.addi v2321 c2_i32_1128
  let c512_i32_1129 : BitVec 32 := 512#32
  let v2323 : BitVec 32 := Scalar.muli v2322 c512_i32_1129
  v2323
def k0_mult104 : BitVec 32 :=
  let c2_i32_1133 : BitVec 32 := 2#32
  let c_m2_i32_1132 : BitVec 32 := 4294967294#32
  let c3_i32_1131 : BitVec 32 := 3#32
  let c3_i32_1092 : BitVec 32 := 3#32
  let v2327 : BitVec 32 := Scalar.subi c3_i32_1131 c3_i32_1092
  let v2328 : BitVec 32 := Scalar.maxsi c_m2_i32_1132 v2327
  let v2329 : BitVec 32 := Scalar.minsi c2_i32_1133 v2328
  let c2_i32_1134 : BitVec 32 := 2#32
  let v2330 : BitVec 32 := Scalar.addi v2329 c2_i32_1134
  let c512_i32_1135 : BitVec 32 := 512#32
  let v2331 : BitVec 32 := Scalar.muli v2330 c512_i32_1135
  v2331
def k0_mult105 : BitVec 32 :=
  let c2_i32_1149 : BitVec 32 := 2#32
  let c_m2_i32_1148 : BitVec 32 := 4294967294#32
  let c0_i32_1147 : BitVec 32 := 0#32
  let c3_i32_1092 : BitVec 32 := 3#32
  let v2363 : BitVec 32 := Scalar.subi c0_i32_1147 c3_i32_1092
  let v2364 : BitVec 32 := Scalar.maxsi c_m2_i32_1148 v2363
  let v2365 : BitVec 32 := Scalar.minsi c2_i32_1149 v2364
  let c2_i32_1150 : BitVec 32 := 2#32
  let v2366 : BitVec 32 := Scalar.addi v2365 c2_i32_1150
  let c512_i32_1151 : BitVec 32 := 512#32
  let v2367 : BitVec 32 := Scalar.muli v2366 c512_i32_1151
  v2367
def k0_mult106 : BitVec 32 :=
  let c2_i32_1155 : BitVec 32 := 2#32
  let c_m2_i32_1154 : BitVec 32 := 4294967294#32
  let c1_i32_1153 : BitVec 32 := 1#32
  let c3_i32_1092 : BitVec 32 := 3#32
  let v2371 : BitVec 32 := Scalar.subi c1_i32_1153 c3_i32_1092
  let v2372 : BitVec 32 := Scalar.maxsi c_m2_i32_1154 v2371
  let v2373 : BitVec 32 := Scalar.minsi c2_i32_1155 v2372
  let c2_i32_1156 : BitVec 32 := 2#32
  let v2374 : BitVec 32 := Scalar.addi v2373 c2_i32_1156
  let c512_i32_1157 : BitVec 32 := 512#32
  let v2375 : BitVec 32 := Scalar.muli v2374 c512_i32_1157
  v2375
def k0_mult107 : BitVec 32 :=
  let c2_i32_1169 : BitVec 32 := 2#32
  let c_m2_i32_1168 : BitVec 32 := 4294967294#32
  let c2_i32_1167 : BitVec 32 := 2#32
  let c3_i32_1092 : BitVec 32 := 3#32
  let v2404 : BitVec 32 := Scalar.subi c2_i32_1167 c3_i32_1092
  let v2405 : BitVec 32 := Scalar.maxsi c_m2_i32_1168 v2404
  let v2406 : BitVec 32 := Scalar.minsi c2_i32_1169 v2405
  let c2_i32_1170 : BitVec 32 := 2#32
  let v2407 : BitVec 32 := Scalar.addi v2406 c2_i32_1170
  let c512_i32_1171 : BitVec 32 := 512#32
  let v2408 : BitVec 32 := Scalar.muli v2407 c512_i32_1171
  v2408
def k0_mult108 : BitVec 32 :=
  let c2_i32_1175 : BitVec 32 := 2#32
  let c_m2_i32_1174 : BitVec 32 := 4294967294#32
  let c3_i32_1173 : BitVec 32 := 3#32
  let c3_i32_1092 : BitVec 32 := 3#32
  let v2412 : BitVec 32 := Scalar.subi c3_i32_1173 c3_i32_1092
  let v2413 : BitVec 32 := Scalar.maxsi c_m2_i32_1174 v2412
  let v2414 : BitVec 32 := Scalar.minsi c2_i32_1175 v2413
  let c2_i32_1176 : BitVec 32 := 2#32
  let v2415 : BitVec 32 := Scalar.addi v2414 c2_i32_1176
  let c512_i32_1177 : BitVec 32 := 512#32
  let v2416 : BitVec 32 := Scalar.muli v2415 c512_i32_1177
  v2416
def k0_mult109 : BitVec 32 :=
  let c2_i32_1191 : BitVec 32 := 2#32
  let c_m2_i32_1190 : BitVec 32 := 4294967294#32
  let c0_i32_1189 : BitVec 32 := 0#32
  let c3_i32_1092 : BitVec 32 := 3#32
  let v2448 : BitVec 32 := Scalar.subi c0_i32_1189 c3_i32_1092
  let v2449 : BitVec 32 := Scalar.maxsi c_m2_i32_1190 v2448
  let v2450 : BitVec 32 := Scalar.minsi c2_i32_1191 v2449
  let c2_i32_1192 : BitVec 32 := 2#32
  let v2451 : BitVec 32 := Scalar.addi v2450 c2_i32_1192
  let c512_i32_1193 : BitVec 32 := 512#32
  let v2452 : BitVec 32 := Scalar.muli v2451 c512_i32_1193
  v2452
def k0_mult110 : BitVec 32 :=
  let c2_i32_1197 : BitVec 32 := 2#32
  let c_m2_i32_1196 : BitVec 32 := 4294967294#32
  let c1_i32_1195 : BitVec 32 := 1#32
  let c3_i32_1092 : BitVec 32 := 3#32
  let v2456 : BitVec 32 := Scalar.subi c1_i32_1195 c3_i32_1092
  let v2457 : BitVec 32 := Scalar.maxsi c_m2_i32_1196 v2456
  let v2458 : BitVec 32 := Scalar.minsi c2_i32_1197 v2457
  let c2_i32_1198 : BitVec 32 := 2#32
  let v2459 : BitVec 32 := Scalar.addi v2458 c2_i32_1198
  let c512_i32_1199 : BitVec 32 := 512#32
  let v2460 : BitVec 32 := Scalar.muli v2459 c512_i32_1199
  v2460
def k0_mult111 : BitVec 32 :=
  let c2_i32_1211 : BitVec 32 := 2#32
  let c_m2_i32_1210 : BitVec 32 := 4294967294#32
  let c2_i32_1209 : BitVec 32 := 2#32
  let c3_i32_1092 : BitVec 32 := 3#32
  let v2489 : BitVec 32 := Scalar.subi c2_i32_1209 c3_i32_1092
  let v2490 : BitVec 32 := Scalar.maxsi c_m2_i32_1210 v2489
  let v2491 : BitVec 32 := Scalar.minsi c2_i32_1211 v2490
  let c2_i32_1212 : BitVec 32 := 2#32
  let v2492 : BitVec 32 := Scalar.addi v2491 c2_i32_1212
  let c512_i32_1213 : BitVec 32 := 512#32
  let v2493 : BitVec 32 := Scalar.muli v2492 c512_i32_1213
  v2493
def k0_mult112 : BitVec 32 :=
  let c2_i32_1217 : BitVec 32 := 2#32
  let c_m2_i32_1216 : BitVec 32 := 4294967294#32
  let c3_i32_1215 : BitVec 32 := 3#32
  let c3_i32_1092 : BitVec 32 := 3#32
  let v2497 : BitVec 32 := Scalar.subi c3_i32_1215 c3_i32_1092
  let v2498 : BitVec 32 := Scalar.maxsi c_m2_i32_1216 v2497
  let v2499 : BitVec 32 := Scalar.minsi c2_i32_1217 v2498
  let c2_i32_1218 : BitVec 32 := 2#32
  let v2500 : BitVec 32 := Scalar.addi v2499 c2_i32_1218
  let c512_i32_1219 : BitVec 32 := 512#32
  let v2501 : BitVec 32 := Scalar.muli v2500 c512_i32_1219
  v2501
def k0_mult113 : BitVec 32 :=
  let c2_i32_1233 : BitVec 32 := 2#32
  let c_m2_i32_1232 : BitVec 32 := 4294967294#32
  let c0_i32_1231 : BitVec 32 := 0#32
  let c3_i32_1092 : BitVec 32 := 3#32
  let v2533 : BitVec 32 := Scalar.subi c0_i32_1231 c3_i32_1092
  let v2534 : BitVec 32 := Scalar.maxsi c_m2_i32_1232 v2533
  let v2535 : BitVec 32 := Scalar.minsi c2_i32_1233 v2534
  let c2_i32_1234 : BitVec 32 := 2#32
  let v2536 : BitVec 32 := Scalar.addi v2535 c2_i32_1234
  let c512_i32_1235 : BitVec 32 := 512#32
  let v2537 : BitVec 32 := Scalar.muli v2536 c512_i32_1235
  v2537
def k0_mult114 : BitVec 32 :=
  let c2_i32_1239 : BitVec 32 := 2#32
  let c_m2_i32_1238 : BitVec 32 := 4294967294#32
  let c1_i32_1237 : BitVec 32 := 1#32
  let c3_i32_1092 : BitVec 32 := 3#32
  let v2541 : BitVec 32 := Scalar.subi c1_i32_1237 c3_i32_1092
  let v2542 : BitVec 32 := Scalar.maxsi c_m2_i32_1238 v2541
  let v2543 : BitVec 32 := Scalar.minsi c2_i32_1239 v2542
  let c2_i32_1240 : BitVec 32 := 2#32
  let v2544 : BitVec 32 := Scalar.addi v2543 c2_i32_1240
  let c512_i32_1241 : BitVec 32 := 512#32
  let v2545 : BitVec 32 := Scalar.muli v2544 c512_i32_1241
  v2545
def k0_mult115 : BitVec 32 :=
  let c2_i32_1253 : BitVec 32 := 2#32
  let c_m2_i32_1252 : BitVec 32 := 4294967294#32
  let c2_i32_1251 : BitVec 32 := 2#32
  let c3_i32_1092 : BitVec 32 := 3#32
  let v2574 : BitVec 32 := Scalar.subi c2_i32_1251 c3_i32_1092
  let v2575 : BitVec 32 := Scalar.maxsi c_m2_i32_1252 v2574
  let v2576 : BitVec 32 := Scalar.minsi c2_i32_1253 v2575
  let c2_i32_1254 : BitVec 32 := 2#32
  let v2577 : BitVec 32 := Scalar.addi v2576 c2_i32_1254
  let c512_i32_1255 : BitVec 32 := 512#32
  let v2578 : BitVec 32 := Scalar.muli v2577 c512_i32_1255
  v2578
def k0_mult116 : BitVec 32 :=
  let c2_i32_1259 : BitVec 32 := 2#32
  let c_m2_i32_1258 : BitVec 32 := 4294967294#32
  let c3_i32_1257 : BitVec 32 := 3#32
  let c3_i32_1092 : BitVec 32 := 3#32
  let v2582 : BitVec 32 := Scalar.subi c3_i32_1257 c3_i32_1092
  let v2583 : BitVec 32 := Scalar.maxsi c_m2_i32_1258 v2582
  let v2584 : BitVec 32 := Scalar.minsi c2_i32_1259 v2583
  let c2_i32_1260 : BitVec 32 := 2#32
  let v2585 : BitVec 32 := Scalar.addi v2584 c2_i32_1260
  let c512_i32_1261 : BitVec 32 := 512#32
  let v2586 : BitVec 32 := Scalar.muli v2585 c512_i32_1261
  v2586
def k0_mult117 : BitVec 32 :=
  let c2_i32_1275 : BitVec 32 := 2#32
  let c_m2_i32_1274 : BitVec 32 := 4294967294#32
  let c0_i32_1273 : BitVec 32 := 0#32
  let c3_i32_1092 : BitVec 32 := 3#32
  let v2618 : BitVec 32 := Scalar.subi c0_i32_1273 c3_i32_1092
  let v2619 : BitVec 32 := Scalar.maxsi c_m2_i32_1274 v2618
  let v2620 : BitVec 32 := Scalar.minsi c2_i32_1275 v2619
  let c2_i32_1276 : BitVec 32 := 2#32
  let v2621 : BitVec 32 := Scalar.addi v2620 c2_i32_1276
  let c512_i32_1277 : BitVec 32 := 512#32
  let v2622 : BitVec 32 := Scalar.muli v2621 c512_i32_1277
  v2622
def k0_mult118 : BitVec 32 :=
  let c2_i32_1281 : BitVec 32 := 2#32
  let c_m2_i32_1280 : BitVec 32 := 4294967294#32
  let c1_i32_1279 : BitVec 32 := 1#32
  let c3_i32_1092 : BitVec 32 := 3#32
  let v2626 : BitVec 32 := Scalar.subi c1_i32_1279 c3_i32_1092
  let v2627 : BitVec 32 := Scalar.maxsi c_m2_i32_1280 v2626
  let v2628 : BitVec 32 := Scalar.minsi c2_i32_1281 v2627
  let c2_i32_1282 : BitVec 32 := 2#32
  let v2629 : BitVec 32 := Scalar.addi v2628 c2_i32_1282
  let c512_i32_1283 : BitVec 32 := 512#32
  let v2630 : BitVec 32 := Scalar.muli v2629 c512_i32_1283
  v2630
def k0_mult119 : BitVec 32 :=
  let c2_i32_1295 : BitVec 32 := 2#32
  let c_m2_i32_1294 : BitVec 32 := 4294967294#32
  let c2_i32_1293 : BitVec 32 := 2#32
  let c3_i32_1092 : BitVec 32 := 3#32
  let v2659 : BitVec 32 := Scalar.subi c2_i32_1293 c3_i32_1092
  let v2660 : BitVec 32 := Scalar.maxsi c_m2_i32_1294 v2659
  let v2661 : BitVec 32 := Scalar.minsi c2_i32_1295 v2660
  let c2_i32_1296 : BitVec 32 := 2#32
  let v2662 : BitVec 32 := Scalar.addi v2661 c2_i32_1296
  let c512_i32_1297 : BitVec 32 := 512#32
  let v2663 : BitVec 32 := Scalar.muli v2662 c512_i32_1297
  v2663
def k0_mult120 : BitVec 32 :=
  let c2_i32_1301 : BitVec 32 := 2#32
  let c_m2_i32_1300 : BitVec 32 := 4294967294#32
  let c3_i32_1299 : BitVec 32 := 3#32
  let c3_i32_1092 : BitVec 32 := 3#32
  let v2667 : BitVec 32 := Scalar.subi c3_i32_1299 c3_i32_1092
  let v2668 : BitVec 32 := Scalar.maxsi c_m2_i32_1300 v2667
  let v2669 : BitVec 32 := Scalar.minsi c2_i32_1301 v2668
  let c2_i32_1302 : BitVec 32 := 2#32
  let v2670 : BitVec 32 := Scalar.addi v2669 c2_i32_1302
  let c512_i32_1303 : BitVec 32 := 512#32
  let v2671 : BitVec 32 := Scalar.muli v2670 c512_i32_1303
  v2671
def k0_mult121 : BitVec 32 :=
  let c2_i32_1317 : BitVec 32 := 2#32
  let c_m2_i32_1316 : BitVec 32 := 4294967294#32
  let c0_i32_1315 : BitVec 32 := 0#32
  let c3_i32_1092 : BitVec 32 := 3#32
  let v2703 : BitVec 32 := Scalar.subi c0_i32_1315 c3_i32_1092
  let v2704 : BitVec 32 := Scalar.maxsi c_m2_i32_1316 v2703
  let v2705 : BitVec 32 := Scalar.minsi c2_i32_1317 v2704
  let c2_i32_1318 : BitVec 32 := 2#32
  let v2706 : BitVec 32 := Scalar.addi v2705 c2_i32_1318
  let c512_i32_1319 : BitVec 32 := 512#32
  let v2707 : BitVec 32 := Scalar.muli v2706 c512_i32_1319
  v2707
def k0_mult122 : BitVec 32 :=
  let c2_i32_1323 : BitVec 32 := 2#32
  let c_m2_i32_1322 : BitVec 32 := 4294967294#32
  let c1_i32_1321 : BitVec 32 := 1#32
  let c3_i32_1092 : BitVec 32 := 3#32
  let v2711 : BitVec 32 := Scalar.subi c1_i32_1321 c3_i32_1092
  let v2712 : BitVec 32 := Scalar.maxsi c_m2_i32_1322 v2711
  let v2713 : BitVec 32 := Scalar.minsi c2_i32_1323 v2712
  let c2_i32_1324 : BitVec 32 := 2#32
  let v2714 : BitVec 32 := Scalar.addi v2713 c2_i32_1324
  let c512_i32_1325 : BitVec 32 := 512#32
  let v2715 : BitVec 32 := Scalar.muli v2714 c512_i32_1325
  v2715
def k0_mult123 : BitVec 32 :=
  let c2_i32_1337 : BitVec 32 := 2#32
  let c_m2_i32_1336 : BitVec 32 := 4294967294#32
  let c2_i32_1335 : BitVec 32 := 2#32
  let c3_i32_1092 : BitVec 32 := 3#32
  let v2744 : BitVec 32 := Scalar.subi c2_i32_1335 c3_i32_1092
  let v2745 : BitVec 32 := Scalar.maxsi c_m2_i32_1336 v2744
  let v2746 : BitVec 32 := Scalar.minsi c2_i32_1337 v2745
  let c2_i32_1338 : BitVec 32 := 2#32
  let v2747 : BitVec 32 := Scalar.addi v2746 c2_i32_1338
  let c512_i32_1339 : BitVec 32 := 512#32
  let v2748 : BitVec 32 := Scalar.muli v2747 c512_i32_1339
  v2748
def k0_mult124 : BitVec 32 :=
  let c2_i32_1343 : BitVec 32 := 2#32
  let c_m2_i32_1342 : BitVec 32 := 4294967294#32
  let c3_i32_1341 : BitVec 32 := 3#32
  let c3_i32_1092 : BitVec 32 := 3#32
  let v2752 : BitVec 32 := Scalar.subi c3_i32_1341 c3_i32_1092
  let v2753 : BitVec 32 := Scalar.maxsi c_m2_i32_1342 v2752
  let v2754 : BitVec 32 := Scalar.minsi c2_i32_1343 v2753
  let c2_i32_1344 : BitVec 32 := 2#32
  let v2755 : BitVec 32 := Scalar.addi v2754 c2_i32_1344
  let c512_i32_1345 : BitVec 32 := 512#32
  let v2756 : BitVec 32 := Scalar.muli v2755 c512_i32_1345
  v2756
def k0_mult125 : BitVec 32 :=
  let c2_i32_1359 : BitVec 32 := 2#32
  let c_m2_i32_1358 : BitVec 32 := 4294967294#32
  let c0_i32_1357 : BitVec 32 := 0#32
  let c3_i32_1092 : BitVec 32 := 3#32
  let v2788 : BitVec 32 := Scalar.subi c0_i32_1357 c3_i32_1092
  let v2789 : BitVec 32 := Scalar.maxsi c_m2_i32_1358 v2788
  let v2790 : BitVec 32 := Scalar.minsi c2_i32_1359 v2789
  let c2_i32_1360 : BitVec 32 := 2#32
  let v2791 : BitVec 32 := Scalar.addi v2790 c2_i32_1360
  let c512_i32_1361 : BitVec 32 := 512#32
  let v2792 : BitVec 32 := Scalar.muli v2791 c512_i32_1361
  v2792
def k0_mult126 : BitVec 32 :=
  let c2_i32_1365 : BitVec 32 := 2#32
  let c_m2_i32_1364 : BitVec 32 := 4294967294#32
  let c1_i32_1363 : BitVec 32 := 1#32
  let c3_i32_1092 : BitVec 32 := 3#32
  let v2796 : BitVec 32 := Scalar.subi c1_i32_1363 c3_i32_1092
  let v2797 : BitVec 32 := Scalar.maxsi c_m2_i32_1364 v2796
  let v2798 : BitVec 32 := Scalar.minsi c2_i32_1365 v2797
  let c2_i32_1366 : BitVec 32 := 2#32
  let v2799 : BitVec 32 := Scalar.addi v2798 c2_i32_1366
  let c512_i32_1367 : BitVec 32 := 512#32
  let v2800 : BitVec 32 := Scalar.muli v2799 c512_i32_1367
  v2800
def k0_mult127 : BitVec 32 :=
  let c2_i32_1379 : BitVec 32 := 2#32
  let c_m2_i32_1378 : BitVec 32 := 4294967294#32
  let c2_i32_1377 : BitVec 32 := 2#32
  let c3_i32_1092 : BitVec 32 := 3#32
  let v2829 : BitVec 32 := Scalar.subi c2_i32_1377 c3_i32_1092
  let v2830 : BitVec 32 := Scalar.maxsi c_m2_i32_1378 v2829
  let v2831 : BitVec 32 := Scalar.minsi c2_i32_1379 v2830
  let c2_i32_1380 : BitVec 32 := 2#32
  let v2832 : BitVec 32 := Scalar.addi v2831 c2_i32_1380
  let c512_i32_1381 : BitVec 32 := 512#32
  let v2833 : BitVec 32 := Scalar.muli v2832 c512_i32_1381
  v2833
def k0_mult128 : BitVec 32 :=
  let c2_i32_1385 : BitVec 32 := 2#32
  let c_m2_i32_1384 : BitVec 32 := 4294967294#32
  let c3_i32_1383 : BitVec 32 := 3#32
  let c3_i32_1092 : BitVec 32 := 3#32
  let v2837 : BitVec 32 := Scalar.subi c3_i32_1383 c3_i32_1092
  let v2838 : BitVec 32 := Scalar.maxsi c_m2_i32_1384 v2837
  let v2839 : BitVec 32 := Scalar.minsi c2_i32_1385 v2838
  let c2_i32_1386 : BitVec 32 := 2#32
  let v2840 : BitVec 32 := Scalar.addi v2839 c2_i32_1386
  let c512_i32_1387 : BitVec 32 := 512#32
  let v2841 : BitVec 32 := Scalar.muli v2840 c512_i32_1387
  v2841
def k0_mult129 : BitVec 32 :=
  let c2_i32_1401 : BitVec 32 := 2#32
  let c_m2_i32_1400 : BitVec 32 := 4294967294#32
  let c0_i32_1399 : BitVec 32 := 0#32
  let c3_i32_1092 : BitVec 32 := 3#32
  let v2873 : BitVec 32 := Scalar.subi c0_i32_1399 c3_i32_1092
  let v2874 : BitVec 32 := Scalar.maxsi c_m2_i32_1400 v2873
  let v2875 : BitVec 32 := Scalar.minsi c2_i32_1401 v2874
  let c2_i32_1402 : BitVec 32 := 2#32
  let v2876 : BitVec 32 := Scalar.addi v2875 c2_i32_1402
  let c512_i32_1403 : BitVec 32 := 512#32
  let v2877 : BitVec 32 := Scalar.muli v2876 c512_i32_1403
  v2877
def k0_mult130 : BitVec 32 :=
  let c2_i32_1407 : BitVec 32 := 2#32
  let c_m2_i32_1406 : BitVec 32 := 4294967294#32
  let c1_i32_1405 : BitVec 32 := 1#32
  let c3_i32_1092 : BitVec 32 := 3#32
  let v2881 : BitVec 32 := Scalar.subi c1_i32_1405 c3_i32_1092
  let v2882 : BitVec 32 := Scalar.maxsi c_m2_i32_1406 v2881
  let v2883 : BitVec 32 := Scalar.minsi c2_i32_1407 v2882
  let c2_i32_1408 : BitVec 32 := 2#32
  let v2884 : BitVec 32 := Scalar.addi v2883 c2_i32_1408
  let c512_i32_1409 : BitVec 32 := 512#32
  let v2885 : BitVec 32 := Scalar.muli v2884 c512_i32_1409
  v2885
def k0_mult131 : BitVec 32 :=
  let c2_i32_1421 : BitVec 32 := 2#32
  let c_m2_i32_1420 : BitVec 32 := 4294967294#32
  let c2_i32_1419 : BitVec 32 := 2#32
  let c3_i32_1092 : BitVec 32 := 3#32
  let v2914 : BitVec 32 := Scalar.subi c2_i32_1419 c3_i32_1092
  let v2915 : BitVec 32 := Scalar.maxsi c_m2_i32_1420 v2914
  let v2916 : BitVec 32 := Scalar.minsi c2_i32_1421 v2915
  let c2_i32_1422 : BitVec 32 := 2#32
  let v2917 : BitVec 32 := Scalar.addi v2916 c2_i32_1422
  let c512_i32_1423 : BitVec 32 := 512#32
  let v2918 : BitVec 32 := Scalar.muli v2917 c512_i32_1423
  v2918
def k0_mult132 : BitVec 32 :=
  let c2_i32_1427 : BitVec 32 := 2#32
  let c_m2_i32_1426 : BitVec 32 := 4294967294#32
  let c3_i32_1425 : BitVec 32 := 3#32
  let c3_i32_1092 : BitVec 32 := 3#32
  let v2922 : BitVec 32 := Scalar.subi c3_i32_1425 c3_i32_1092
  let v2923 : BitVec 32 := Scalar.maxsi c_m2_i32_1426 v2922
  let v2924 : BitVec 32 := Scalar.minsi c2_i32_1427 v2923
  let c2_i32_1428 : BitVec 32 := 2#32
  let v2925 : BitVec 32 := Scalar.addi v2924 c2_i32_1428
  let c512_i32_1429 : BitVec 32 := 512#32
  let v2926 : BitVec 32 := Scalar.muli v2925 c512_i32_1429
  v2926
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x2560 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnIdeal.lean ====
variable {F : FTy → Type} [FloatOps F] [Named F]
def κ : String → Option EReal := fun
  | "log2_e" => some (((Real.log 2)⁻¹ : ℝ) : EReal)
  | "query_scale" => some (((8 * (Real.log 2))⁻¹ : ℝ) : EReal)
  | _ => none
-- ==== AttnRefIdeal.lean ====
abbrev S32x2048x3072 : Shape := ⟨3, ![32, 2048, 3072]⟩
abbrev S4x64 : Shape := ⟨2, ![4, 64]⟩
abbrev S128 : Shape := ⟨1, ![128]⟩
abbrev S32x8 : Shape := ⟨2, ![32, 8]⟩
abbrev S32x2048x1024 : Shape := ⟨3, ![32, 2048, 1024]⟩
abbrev S32x2048x8x2x64 : Shape := ⟨5, ![32, 2048, 8, 2, 64]⟩
abbrev S32x2048x8x128 : Shape := ⟨4, ![32, 2048, 8, 128]⟩
abbrev S1x64 : Shape := ⟨2, ![1, 64]⟩
abbrev S64 : Shape := ⟨1, ![64]⟩
abbrev S_ : Shape := ⟨0, ![]⟩
abbrev S2048 : Shape := ⟨1, ![2048]⟩
abbrev S8x32 : Shape := ⟨2, ![8, 32]⟩
abbrev S1x2048 : Shape := ⟨2, ![1, 2048]⟩
abbrev S2048x1 : Shape := ⟨2, ![2048, 1]⟩
abbrev S2048x2048 : Shape := ⟨2, ![2048, 2048]⟩
abbrev S2048x2048x1 : Shape := ⟨3, ![2048, 2048, 1]⟩
abbrev S8x2048x2048 : Shape := ⟨3, ![8, 2048, 2048]⟩
abbrev S32x8x2x2048x2048 : Shape := ⟨5, ![32, 8, 2, 2048, 2048]⟩
abbrev S1x8x1x2048x2048 : Shape := ⟨5, ![1, 8, 1, 2048, 2048]⟩
abbrev S32x8x2x2048 : Shape := ⟨4, ![32, 8, 2, 2048]⟩
abbrev S32x8x2x2048x1 : Shape := ⟨5, ![32, 8, 2, 2048, 1]⟩
abbrev S32x8x1x2048x2048 : Shape := ⟨5, ![32, 8, 1, 2048, 2048]⟩
abbrev S32x8x2048x2048 : Shape := ⟨4, ![32, 8, 2048, 2048]⟩
abbrev S32x8x128x2048 : Shape := ⟨4, ![32, 8, 128, 2048]⟩
abbrev S32x2048x8 : Shape := ⟨3, ![32, 2048, 8]⟩
abbrev S32x2048x8x1 : Shape := ⟨4, ![32, 2048, 8, 1]⟩
abbrev S1x1x1x128 : Shape := ⟨4, ![1, 1, 1, 128]⟩

abbrev nBuf : Space → Nat
  | .hbm => 132
  | .vmem => 0
  | .smem => 0
  | _ => 0

abbrev hbmTy0_0 (i : Nat) : BufTy := match i % 128 with
  | 0 => ⟨S32x2048x3072, .f32⟩
  | 1 => ⟨S4x64, .f32⟩
  | 2 => ⟨S128, .f32⟩
  | 3 => ⟨S32x8, .f32⟩
  | 4 => ⟨S32x2048x1024, .f32⟩
  | 5 => ⟨S32x2048x1024, .f32⟩
  | 6 => ⟨S32x2048x1024, .f32⟩
  | 7 => ⟨S32x2048x8x2x64, .f32⟩
  | 8 => ⟨S32x2048x8x2x64, .f32⟩
  | 9 => ⟨S32x2048x8x128, .f32⟩
  | 10 => ⟨S1x64, .f32⟩
  | 11 => ⟨S64, .f32⟩
  | 12 => ⟨S1x64, .f32⟩
  | 13 => ⟨S64, .f32⟩
  | 14 => ⟨S64, .f32⟩
  | 15 => ⟨S_, .f32⟩
  | 16 => ⟨S_, .f32⟩
  | 17 => ⟨S_, .f32⟩
  | 18 => ⟨S1x64, .f32⟩
  | 19 => ⟨S64, .f32⟩
  | 20 => ⟨S1x64, .f32⟩
  | 21 => ⟨S64, .f32⟩
  | 22 => ⟨S64, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S2048, .i32⟩
  | 30 => ⟨S8x32, .f32⟩
  | 31 => ⟨S1x2048, .i32⟩
  | 32 => ⟨S2048x1, .i32⟩
  | 33 => ⟨S2048x2048, .i32⟩
  | 34 => ⟨S2048x2048, .i32⟩
  | 35 => ⟨S2048x2048, .i32⟩
  | 36 => ⟨S_, .i32⟩
  | 37 => ⟨S2048x2048, .i32⟩
  | 38 => ⟨S2048x2048, .i1⟩
  | 39 => ⟨S_, .i32⟩
  | 40 => ⟨S_, .i32⟩
  | 41 => ⟨S2048x2048, .i32⟩
  | 42 => ⟨S2048x2048, .i32⟩
  | 43 => ⟨S2048x2048, .i32⟩
  | 44 => ⟨S2048x2048, .i32⟩
  | 45 => ⟨S_, .i32⟩
  | 46 => ⟨S2048x2048, .i32⟩
  | 47 => ⟨S2048x2048, .i32⟩
  | 48 => ⟨S2048x2048, .f32⟩
  | 49 => ⟨S_, .f32⟩
  | 50 => ⟨S2048x2048, .f32⟩
  | 51 => ⟨S2048x2048, .f32⟩
  | 52 => ⟨S2048x2048, .f32⟩
  | 53 => ⟨S_, .f32⟩
  | 54 => ⟨S2048x2048, .f32⟩
  | 55 => ⟨S2048x2048, .f32⟩
  | 56 => ⟨S_, .f32⟩
  | 57 => ⟨S2048x2048, .f32⟩
  | 58 => ⟨S2048x2048, .f32⟩
  | 59 => ⟨S2048x2048, .i32⟩
  | 60 => ⟨S_, .i32⟩
  | 61 => ⟨S2048x2048, .i32⟩
  | 62 => ⟨S2048x2048, .i32⟩
  | 63 => ⟨S_, .i32⟩
  | 64 => ⟨S2048x2048, .i32⟩
  | 65 => ⟨S2048x2048, .i32⟩
  | 66 => ⟨S_, .i32⟩
  | 67 => ⟨S2048x2048, .i32⟩
  | 68 => ⟨S2048x2048, .i1⟩
  | 69 => ⟨S2048x2048, .i32⟩
  | 70 => ⟨S2048x2048, .i32⟩
  | 71 => ⟨S2048x2048, .i32⟩
  | 72 => ⟨S_, .i32⟩
  | 73 => ⟨S2048x2048, .i32⟩
  | 74 => ⟨S2048x2048, .i1⟩
  | 75 => ⟨S_, .i32⟩
  | 76 => ⟨S2048x2048, .i32⟩
  | 77 => ⟨S2048x2048, .i32⟩
  | 78 => ⟨S2048x2048, .i32⟩
  | 79 => ⟨S2048x2048x1, .i32⟩
  | 80 => ⟨S8x2048x2048, .f32⟩
  | 81 => ⟨S32x8x2x2048x2048, .f32⟩
  | 82 => ⟨S_, .f32⟩
  | 83 => ⟨S32x8x2x2048x2048, .f32⟩
  | 84 => ⟨S32x8x2x2048x2048, .f32⟩
  | 85 => ⟨S1x8x1x2048x2048, .f32⟩
  | 86 => ⟨S32x8x2x2048x2048, .f32⟩
  | 87 => ⟨S32x8x2x2048x2048, .f32⟩
  | 88 => ⟨S_, .f32⟩
  | 89 => ⟨S32x8x2x2048, .f32⟩
  | 90 => ⟨S_, .f32⟩
  | 91 => ⟨S32x8x2x2048, .f32⟩
  | 92 => ⟨S32x8x2x2048, .f32⟩
  | 93 => ⟨S32x8x2x2048x1, .f32⟩
  | 94 => ⟨S32x8x2x2048x2048, .f32⟩
  | 95 => ⟨S32x8x2x2048x2048, .f32⟩
  | 96 => ⟨S32x8x2x2048x2048, .f32⟩
  | 97 => ⟨S_, .f32⟩
  | 98 => ⟨S32x8x2x2048, .f32⟩
  | 99 => ⟨S32x8x2x2048x1, .f32⟩
  | 100 => ⟨S32x8x2x2048x2048, .f32⟩
  | 101 => ⟨S32x8x2x2048x2048, .f32⟩
  | 102 => ⟨S32x8x1x2048x2048, .f32⟩
  | 103 => ⟨S32x8x2048x2048, .f32⟩
  | 104 => ⟨S32x8x1x2048x2048, .f32⟩
  | 105 => ⟨S32x8x2048x2048, .f32⟩
  | 106 => ⟨S32x8x2048x2048, .f32⟩
  | 107 => ⟨S32x8x2048x2048, .f32⟩
  | 108 => ⟨S32x8x2048x2048, .f32⟩
  | 109 => ⟨S32x8x128x2048, .f32⟩
  | 110 => ⟨S32x2048x8x128, .f32⟩
  | 111 => ⟨S32x2048x8x128, .f32⟩
  | 112 => ⟨S_, .f32⟩
  | 113 => ⟨S32x2048x8, .f32⟩
  | 114 => ⟨S32x2048x8x1, .f32⟩
  | 115 => ⟨S_, .f32⟩
  | 116 => ⟨S32x2048x8x1, .f32⟩
  | 117 => ⟨S32x2048x8x1, .f32⟩
  | 118 => ⟨S_, .f32⟩
  | 119 => ⟨S32x2048x8x1, .f32⟩
  | 120 => ⟨S32x2048x8x1, .f32⟩
  | 121 => ⟨S32x2048x8x1, .f32⟩
  | 122 => ⟨S32x2048x8x128, .f32⟩
  | 123 => ⟨S32x2048x8x128, .f32⟩
  | 124 => ⟨S1x1x1x128, .f32⟩
  | 125 => ⟨S32x2048x8x128, .f32⟩
  | 126 => ⟨S32x2048x8x128, .f32⟩
  | 127 => ⟨S_, .f32⟩
  | _ => ⟨S32x2048x3072, .f32⟩

abbrev hbmTy0_1 (i : Nat) : BufTy := match i % 128 with
  | 0 => ⟨S32x2048x8x128, .f32⟩
  | 1 => ⟨S32x2048x8x128, .f32⟩
  | 2 => ⟨S32x2048x1024, .f32⟩
  | 3 => ⟨S32x2048x1024, .bf16⟩
  | _ => ⟨S32x2048x3072, .f32⟩

abbrev hbmTy (i : Nat) : BufTy := match i / 128 with
  | 0 => hbmTy0_0 i
  | 1 => hbmTy0_1 i
  | _ => ⟨S32x2048x3072, .f32⟩

abbrev bufTy : (tb : Table) → Fin (tcTables nBuf tb) → BufTy
  | .hbm, ⟨i, _⟩ => hbmTy i
  | _, _ => ⟨S32x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c : Ref sig .tc := ⟨.hbm, 36, rfl⟩
abbrev main_v29 : Ref sig .tc := ⟨.hbm, 37, rfl⟩
abbrev main_v30 : Ref sig .tc := ⟨.hbm, 38, rfl⟩
abbrev main_c_2 : Ref sig .tc := ⟨.hbm, 39, rfl⟩
abbrev main_c_3 : Ref sig .tc := ⟨.hbm, 40, rfl⟩
abbrev main_call0_v0 : Ref sig .tc := ⟨.hbm, 41, rfl⟩
abbrev main_call0_v1 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_17 : Ref sig .tc := ⟨.hbm, 112, rfl⟩
abbrev main_v87 : Ref sig .tc := ⟨.hbm, 113, rfl⟩
abbrev main_v88 : Ref sig .tc := ⟨.hbm, 114, rfl⟩
abbrev main_cst_18 : Ref sig .tc := ⟨.hbm, 115, rfl⟩
abbrev main_v89 : Ref sig .tc := ⟨.hbm, 116, rfl⟩
abbrev main_v90 : Ref sig .tc := ⟨.hbm, 117, rfl⟩
abbrev main_cst_19 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_20 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩

abbrev nD : Nat := 1
abbrev τ : Topo := Topo.v7x

variable {F : FTy → Type} [FloatOps F]
-- ==== Ffn.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 55
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S_, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S65536x1, .f32⟩
  | .hbm, ⟨46, _⟩ => ⟨S65536x1024, .f32⟩
  | .hbm, ⟨47, _⟩ => ⟨S65536x1024, .f32⟩
  | .hbm, ⟨48, _⟩ => ⟨S1x1024, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536x1024, .f32⟩
  | .hbm, ⟨53, _⟩ => ⟨S65536x1024, .f32⟩
  | .hbm, ⟨54, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Mix.lean ====
abbrev S65536x1024 : Shape := ⟨2, ![65536, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 18
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S65536x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S1x1024, .f32⟩
  | .hbm, ⟨17, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixRefIdeal.lean ====
abbrev S65536x1024 : Shape := ⟨2, ![65536, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 76
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S65536x1024, .f32⟩
  | .hbm, ⟨10, _⟩ => ⟨S65536x1024, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1, .f32⟩
  | .hbm, ⟨21, _⟩ => ⟨S65536x1024, .f32⟩
  | .hbm, ⟨22, _⟩ => ⟨S65536x1024, .f32⟩
  | .hbm, ⟨23, _⟩ => ⟨S1x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S_, .f32⟩
  | .hbm, ⟨29, _⟩ => ⟨S65536, .f32⟩
  | .hbm, ⟨30, _⟩ => ⟨S65536x1, .f32⟩
  | .hbm, ⟨31, _⟩ => ⟨S_, .f32⟩
  | .hbm, ⟨32, _⟩ => ⟨S65536x1, .f32⟩
  | .hbm, ⟨33, _⟩ => ⟨S65536x1, .f32⟩
  | .hbm, ⟨34, _⟩ => ⟨S_, .f32⟩
  | .hbm, ⟨35, _⟩ => ⟨S65536x1, .f32⟩
  | .hbm, ⟨36, _⟩ => ⟨S65536x1, .f32⟩
  | .hbm, ⟨37, _⟩ => ⟨S65536x1, .f32⟩
  | .hbm, ⟨38, _⟩ => ⟨S65536x1024, .f32⟩
  | .hbm, ⟨39, _⟩ => ⟨S65536x1024, .f32⟩
  | .hbm, ⟨40, _⟩ => ⟨S1x1024, .f32⟩
  | .hbm, ⟨41, _⟩ => ⟨S65536x1024, .f32⟩
  | .hbm, ⟨42, _⟩ => ⟨S65536x1024, .f32⟩
  | .hbm, ⟨43, _⟩ => ⟨S65536x2816, .f32⟩
  | .hbm, ⟨44, _⟩ => ⟨S65536x2816, .f32⟩
  | .hbm, ⟨45, _⟩ => ⟨S65536x2816, .f32⟩
  | .hbm, ⟨46, _⟩ => ⟨S_, .f32⟩
  | .hbm, ⟨47, _⟩ => ⟨S65536x2816, .f32⟩
  | .hbm, ⟨48, _⟩ => ⟨S65536x2816, .f32⟩
  | .hbm, ⟨49, _⟩ => ⟨S_, .f32⟩
  | .hbm, ⟨50, _⟩ => ⟨S65536x2816, .f32⟩
  | .hbm, ⟨51, _⟩ => ⟨S65536x2816, .f32⟩
  | .hbm, ⟨52, _⟩ => ⟨S65536x2816, .f32⟩
  | .hbm, ⟨53, _⟩ => ⟨S65536x2816, .f32⟩
  | .hbm, ⟨54, _⟩ => ⟨S65536x2816, .f32⟩
  | .hbm, ⟨55, _⟩ => ⟨S65536x1024, .f32⟩
  | .hbm, ⟨56, _⟩ => ⟨S65536x1024, .f32⟩
  | .hbm, ⟨57, _⟩ => ⟨S_, .f32⟩
  | .hbm, ⟨58, _⟩ => ⟨S65536, .f32⟩
  | .hbm, ⟨59, _⟩ => ⟨S65536x1, .f32⟩
  | .hbm, ⟨60, _⟩ => ⟨S_, .f32⟩
  | .hbm, ⟨61, _⟩ => ⟨S65536x1, .f32⟩
  | .hbm, ⟨62, _⟩ => ⟨S65536x1, .f32⟩
  | .hbm, ⟨63, _⟩ => ⟨S_, .f32⟩
  | .hbm, ⟨64, _⟩ => ⟨S65536x1, .f32⟩
  | .hbm, ⟨65, _⟩ => ⟨S65536x1, .f32⟩
  | .hbm, ⟨66, _⟩ => ⟨S65536x1, .f32⟩
  | .hbm, ⟨67, _⟩ => ⟨S65536x1024, .f32⟩
  | .hbm, ⟨68, _⟩ => ⟨S65536x1024, .f32⟩
  | .hbm, ⟨69, _⟩ => ⟨S1x1024, .f32⟩
  | .hbm, ⟨70, _⟩ => ⟨S65536x1024, .f32⟩
  | .hbm, ⟨71, _⟩ => ⟨S65536x1024, .f32⟩
  | .hbm, ⟨72, _⟩ => ⟨S_, .f32⟩
  | .hbm, ⟨73, _⟩ => ⟨S65536x1024, .f32⟩
  | .hbm, ⟨74, _⟩ => ⟨S65536x1024, .f32⟩
  | .hbm, ⟨75, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩

abbrev nD : Nat := 1
abbrev τ : Topo := Topo.v7x

variable {F : FTy → Type} [FloatOps F]
-- ==== Qkv.lean ====
abbrev S65536x1024 : Shape := ⟨2, ![65536, 1024]⟩
abbrev S1024 : Shape := ⟨1, ![1024]⟩
abbrev S1024x3072 : Shape := ⟨2, ![1024, 3072]⟩
abbrev S1x1024 : Shape := ⟨2, ![1, 1024]⟩
abbrev S65536x3072 : Shape := ⟨2, ![65536, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S65536x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QkvRefIdeal.lean ====
abbrev S65536x1024 : Shape := ⟨2, ![65536, 1024]⟩
abbrev S1024 : Shape := ⟨1, ![1024]⟩
abbrev S1024x3072 : Shape := ⟨2, ![1024, 3072]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3072 : Shape := ⟨2, ![65536, 3072]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x3072, .f32⟩
  | .hbm, ⟨20, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== SsmIn.lean ====
abbrev S32x2048x1024 : Shape := ⟨3, ![32, 2048, 1024]⟩
abbrev S1024 : Shape := ⟨1, ![1024]⟩
abbrev S1024x5184 : Shape := ⟨2, ![1024, 5184]⟩
abbrev S1024x2048 : Shape := ⟨2, ![1024, 2048]⟩
abbrev S1024x3072 : Shape := ⟨2, ![1024, 3072]⟩
abbrev S1024x64 : Shape := ⟨2, ![1024, 64]⟩
abbrev S1x1024 : Shape := ⟨2, ![1, 1024]⟩
abbrev S64x1024 : Shape := ⟨2, ![64, 1024]⟩
abbrev S32x2048x2048 : Shape := ⟨3, ![32, 2048, 2048]⟩
abbrev S32x2048x3072 : Shape := ⟨3, ![32, 2048, 3072]⟩
abbrev S32x2048x64 : Shape := ⟨3, ![32, 2048, 64]⟩
abbrev S32x64x2048 : Shape := ⟨3, ![32, 64, 2048]⟩
abbrev S1x512x1024 : Shape := ⟨3, ![1, 512, 1024]⟩
abbrev S1x512x2048 : Shape := ⟨3, ![1, 512, 2048]⟩
abbrev S1x512x3072 : Shape := ⟨3, ![1, 512, 3072]⟩
abbrev S1x512x64 : Shape := ⟨3, ![1, 512, 64]⟩
abbrev S1x64x512 : Shape := ⟨3, ![1, 64, 512]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x3072 : Shape := ⟨2, ![512, 3072]⟩
abbrev S512x64 : Shape := ⟨2, ![512, 64]⟩
abbrev S64x512 : Shape := ⟨2, ![64, 512]⟩

abbrev nBuf : Space → Nat
  | .hbm => 15
  | .vmem => 15
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5184, .f32⟩
  | .hbm, ⟨3, _⟩ => ⟨S1024x2048, .f32⟩
  | .hbm, ⟨4, _⟩ => ⟨S1024x2048, .bf16⟩
  | .hbm, ⟨5, _⟩ => ⟨S1024x3072, .f32⟩
  | .hbm, ⟨6, _⟩ => ⟨S1024x3072, .bf16⟩
  | .hbm, ⟨7, _⟩ => ⟨S1024x64, .f32⟩
  | .hbm, ⟨8, _⟩ => ⟨S1024x64, .bf16⟩
  | .hbm, ⟨9, _⟩ => ⟨S1x1024, .f32⟩
  | .hbm, ⟨10, _⟩ => ⟨S64x1024, .bf16⟩
  | .hbm, ⟨11, _⟩ => ⟨S32x2048x2048, .bf16⟩
  | .hbm, ⟨12, _⟩ => ⟨S32x2048x3072, .bf16⟩
  | .hbm, ⟨13, _⟩ => ⟨S32x2048x64, .f32⟩
  | .hbm, ⟨14, _⟩ => ⟨S32x64x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x3072, .bf16⟩
  | .local _ .vmem, ⟨5, _⟩ => ⟨S1024x64, .bf16⟩
  | .local _ .vmem, ⟨6, _⟩ => ⟨S64x1024, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x512x3072, .bf16⟩
  | .local _ .vmem, ⟨10, _⟩ => ⟨S1x512x3072, .bf16⟩
  | .local _ .vmem, ⟨11, _⟩ => ⟨S1x512x64, .f32⟩
  | .local _ .vmem, ⟨12, _⟩ => ⟨S1x512x64, .f32⟩
  | .local _ .vmem, ⟨13, _⟩ => ⟨S1x64x512, .f32⟩
  | .local _ .vmem, ⟨14, _⟩ => ⟨S1x64x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev main_v8_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SsmInRefIdeal.lean ====
abbrev S32x2048x1024 : Shape := ⟨3, ![32, 2048, 1024]⟩
abbrev S1024 : Shape := ⟨1, ![1024]⟩
abbrev S1024x5184 : Shape := ⟨2, ![1024, 5184]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5184 : Shape := ⟨3, ![32, 2048, 5184]⟩
abbrev S32x2048x2048 : Shape := ⟨3, ![32, 2048, 2048]⟩
abbrev S32x2048x3072 : Shape := ⟨3, ![32, 2048, 3072]⟩
abbrev S32x2048x64 : Shape := ⟨3, ![32, 2048, 64]⟩
abbrev S32x64x2048 : Shape := ⟨3, ![32, 64, 2048]⟩

abbrev nBuf : Space → Nat
  | .hbm => 26
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5184, .f32⟩
  | .hbm, ⟨3, _⟩ => ⟨S32x2048x1024, .f32⟩
  | .hbm, ⟨4, _⟩ => ⟨S_, .f32⟩
  | .hbm, ⟨5, _⟩ => ⟨S32x2048, .f32⟩
  | .hbm, ⟨6, _⟩ => ⟨S32x2048x1, .f32⟩
  | .hbm, ⟨7, _⟩ => ⟨S_, .f32⟩
  | .hbm, ⟨8, _⟩ => ⟨S32x2048x1, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S32x2048x1, .f32⟩
  | .hbm, ⟨14, _⟩ => ⟨S32x2048x1024, .f32⟩
  | .hbm, ⟨15, _⟩ => ⟨S32x2048x1024, .f32⟩
  | .hbm, ⟨16, _⟩ => ⟨S1x1x1024, .f32⟩
  | .hbm, ⟨17, _⟩ => ⟨S32x2048x1024, .f32⟩
  | .hbm, ⟨18, _⟩ => ⟨S32x2048x1024, .f32⟩
  | .hbm, ⟨19, _⟩ => ⟨S32x2048x5184, .f32⟩
  | .hbm, ⟨20, _⟩ => ⟨S32x2048x2048, .f32⟩
  | .hbm, ⟨21, _⟩ => ⟨S32x2048x3072, .f32⟩
  | .hbm, ⟨22, _⟩ => ⟨S32x2048x64, .f32⟩
  | .hbm, ⟨23, _⟩ => ⟨S32x2048x2048, .bf16⟩
  | .hbm, ⟨24, _⟩ => ⟨S32x2048x3072, .bf16⟩
  | .hbm, ⟨25, _⟩ => ⟨S32x64x2048, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== SsmOut.lean ====
abbrev S65536x1024 : Shape := ⟨2, ![65536, 1024]⟩
abbrev S65536x2048 : Shape := ⟨2, ![65536, 2048]⟩
abbrev S2048 : Shape := ⟨1, ![2048]⟩
abbrev S2048x1024 : Shape := ⟨2, ![2048, 1024]⟩
abbrev S1024 : Shape := ⟨1, ![1024]⟩
abbrev S1x2048 : Shape := ⟨2, ![1, 2048]⟩
abbrev S1x1024 : Shape := ⟨2, ![1, 1024]⟩
abbrev S512x1024 : Shape := ⟨2, ![512, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S65536x2048, .f32⟩
  | .hbm, ⟨2, _⟩ => ⟨S65536x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S65536x2048, .bf16⟩
  | .hbm, ⟨7, _⟩ => ⟨S65536x2048, .bf16⟩
  | .hbm, ⟨8, _⟩ => ⟨S1x2048, .f32⟩
  | .hbm, ⟨9, _⟩ => ⟨S2048x1024, .bf16⟩
  | .hbm, ⟨10, _⟩ => ⟨S1x1024, .f32⟩
  | .hbm, ⟨11, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S2048x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SsmOutRefIdeal.lean ====
abbrev S65536x1024 : Shape := ⟨2, ![65536, 1024]⟩
abbrev S65536x2048 : Shape := ⟨2, ![65536, 2048]⟩
abbrev S2048 : Shape := ⟨1, ![2048]⟩
abbrev S2048x1024 : Shape := ⟨2, ![2048, 1024]⟩
abbrev S1024 : Shape := ⟨1, ![1024]⟩
abbrev S_ : Shape := ⟨0, ![]⟩
abbrev S65536x4x512 : Shape := ⟨3, ![65536, 4, 512]⟩
abbrev S65536x4 : Shape := ⟨2, ![65536, 4]⟩
abbrev S65536x4x1 : Shape := ⟨3, ![65536, 4, 1]⟩
abbrev S1x2048 : Shape := ⟨2, ![1, 2048]⟩
abbrev S65536 : Shape := ⟨1, ![65536]⟩
abbrev S65536x1 : Shape := ⟨2, ![65536, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x2048, .f32⟩
  | .hbm, ⟨2, _⟩ => ⟨S65536x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S65536x2048, .f32⟩
  | .hbm, ⟨7, _⟩ => ⟨S65536x2048, .f32⟩
  | .hbm, ⟨8, _⟩ => ⟨S_, .f32⟩
  | .hbm, ⟨9, _⟩ => ⟨S65536x2048, .f32⟩
  | .hbm, ⟨10, _⟩ => ⟨S65536x2048, .f32⟩
  | .hbm, ⟨11, _⟩ => ⟨S_, .f32⟩
  | .hbm, ⟨12, _⟩ => ⟨S65536x2048, .f32⟩
  | .hbm, ⟨13, _⟩ => ⟨S65536x2048, .f32⟩
  | .hbm, ⟨14, _⟩ => ⟨S65536x2048, .f32⟩
  | .hbm, ⟨15, _⟩ => ⟨S65536x2048, .f32⟩
  | .hbm, ⟨16, _⟩ => ⟨S65536x4x512, .f32⟩
  | .hbm, ⟨17, _⟩ => ⟨S65536x4x512, .f32⟩
  | .hbm, ⟨18, _⟩ => ⟨S_, .f32⟩
  | .hbm, ⟨19, _⟩ => ⟨S65536x4, .f32⟩
  | .hbm, ⟨20, _⟩ => ⟨S65536x4x1, .f32⟩
  | .hbm, ⟨21, _⟩ => ⟨S_, .f32⟩
  | .hbm, ⟨22, _⟩ => ⟨S65536x4x1, .f32⟩
  | .hbm, ⟨23, _⟩ => ⟨S65536x4x1, .f32⟩
  | .hbm, ⟨24, _⟩ => ⟨S_, .f32⟩
  | .hbm, ⟨25, _⟩ => ⟨S65536x4x1, .f32⟩
  | .hbm, ⟨26, _⟩ => ⟨S65536x4x1, .f32⟩
  | .hbm, ⟨27, _⟩ => ⟨S65536x4x1, .f32⟩
  | .hbm, ⟨28, _⟩ => ⟨S65536x4x512, .f32⟩
  | .hbm, ⟨29, _⟩ => ⟨S65536x4x512, .f32⟩
  | .hbm, ⟨30, _⟩ => ⟨S65536x2048, .f32⟩
  | .hbm, ⟨31, _⟩ => ⟨S1x2048, .f32⟩
  | .hbm, ⟨32, _⟩ => ⟨S65536x2048, .f32⟩
  | .hbm, ⟨33, _⟩ => ⟨S65536x2048, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S65536x1, .f32⟩
  | .hbm, ⟨46, _⟩ => ⟨S65536x1024, .f32⟩
  | .hbm, ⟨47, _⟩ => ⟨S65536x1024, .f32⟩
  | .hbm, ⟨48, _⟩ => ⟨S1x1024, .f32⟩
  | .hbm, ⟨49, _⟩ => ⟨S65536x1024, .f32⟩
  | .hbm, ⟨50, _⟩ => ⟨S65536x1024, .f32⟩
  | .hbm, ⟨51, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Proof.SoftMath.lean ====
/-
  The mathematics of one row of differential attention: softmax weights of real logits, the two ways of writing
  them (powers of two of scaled logits against exponentials, each shifted by any finite number), and the
  difference of two softmax averages. No program is mentioned here.
-/
module

public import Idealize.ShloMosaic.Lib.Pipeline.ValueKit
public import Idealize.ShloMosaic.Lib.Pointwise

@[expose] public section

noncomputable section

namespace Cert.Soft

open Idealize.ShloMosaic

/-- An extended real that is a finite number. -/
def Finite (x : EReal) : Prop := ∃ r : ℝ, x = (r : EReal)

theorem Finite.iff {x : EReal} : Finite x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

theorem Finite.coe (r : ℝ) : Finite (r : EReal) := ⟨r, rfl⟩
theorem Finite.zero : Finite 0 := ⟨0, rfl⟩

theorem Finite.add {x y : EReal} : Finite x → Finite y → Finite (x + y) := by
  rintro ⟨a, rfl⟩ ⟨b, rfl⟩; exact ⟨a + b, (EReal.coe_add a b).symm⟩

theorem Finite.sub {x y : EReal} : Finite x → Finite y → Finite (x - y) := by
  rintro ⟨a, rfl⟩ ⟨b, rfl⟩; exact ⟨a - b, (EReal.coe_sub a b).symm⟩

theorem Finite.mul {x y : EReal} : Finite x → Finite y → Finite (x * y) := by
  rintro ⟨a, rfl⟩ ⟨b, rfl⟩; exact ⟨a * b, (EReal.coe_mul a b).symm⟩

theorem Finite.exp {x : EReal} : Finite x → Finite (Ideal.exp x) := by
  rintro ⟨a, rfl⟩; exact ⟨Real.exp a, rfl⟩

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Finite.sum {ι : Type*} (s : Finset ι) (f : ι → EReal) (h : ∀ i, Finite (f i)) : Finite (∑ i ∈ s, f i) := by
  choose r hr using h
  exact ⟨∑ i ∈ s, r i, by rw [coe_sum]; exact Finset.sum_congr rfl fun i _ => hr i⟩

/-- The maximum of finite numbers, taken from `-∞` on, is finite. -/
theorem Finite.sup {n : ℕ} [NeZero n] (f : Fin n → EReal) (h : ∀ i, Finite (f i)) : Finite (Finset.univ.sup f) := by
  refine Finite.iff.2 ⟨fun hb => ?_, fun ht => ?_⟩
  · have := Finset.le_sup (f := f) (Finset.mem_univ (0 : Fin n))
    rw [hb, le_bot_iff] at this
    exact (Finite.iff.1 (h 0)).1 this
  · have : Finset.univ.sup f < ⊤ := (Finset.sup_lt_iff (by exact bot_lt_top)).2 fun i _ => lt_top_iff_ne_top.2 (Finite.iff.1 (h i)).2
    exact this.ne ht

theorem Finite.max {x y : EReal} (hx : Finite x) (hy : Finite y) : Finite (x ⊔ y) := by
  rcases le_total x y with h | h
  · rwa [sup_eq_right.2 h]
  · rwa [sup_eq_left.2 h]

variable {n p : ℕ}

/-- The softmax weight of entry `k` of a row of logits. -/
def weight (L : Fin n → ℝ) (k : Fin n) : ℝ := Real.exp (L k) / ∑ j, Real.exp (L j)

/-- The difference of two softmax averages of the rows of `V`, the second taken `l` times, at column `c`. -/
def mixed (L₁ L₂ : Fin n → ℝ) (l : ℝ) (V : Fin n → Fin p → ℝ) (c : Fin p) : ℝ :=
  ∑ k, (weight L₁ k - l * weight L₂ k) * V k c

theorem sum_exp_pos [NeZero n] (L : Fin n → ℝ) : 0 < ∑ j, Real.exp (L j) :=
  Finset.sum_pos (fun _ _ => Real.exp_pos _) ⟨0, Finset.mem_univ 0⟩

/-- Exponentials of logits shifted by `M`, over their sum: the shift cancels. -/
theorem div_exp [NeZero n] (L : Fin n → ℝ) (M : ℝ) (k : Fin n) :
    Ideal.div (Ideal.exp ((L k : EReal) - (M : EReal))) (∑ j, Ideal.exp ((L j : EReal) - (M : EReal))) = (weight L k : EReal) := by
  have e : ∀ j, Ideal.exp ((L j : EReal) - (M : EReal)) = ((Real.exp (L j) * Real.exp (-M) : ℝ) : EReal) := fun j => by
    rw [← EReal.coe_sub, Ideal.exp_coe, ← Real.exp_add, sub_eq_add_neg]
  simp only [e]
  rw [← coe_sum, ← Finset.sum_mul, Ideal.div_coe (mul_pos (sum_exp_pos L) (Real.exp_pos _)).ne', ← EReal.coe_mul]
  congr 1
  have h1 := (sum_exp_pos L).ne'
  have h2 := (Real.exp_pos (-M)).ne'
  unfold weight
  field_simp

/-- Powers of two of logits scaled by `1 / log 2` and shifted by `M`. -/
theorem exp2_scaled (x M : ℝ) : Ideal.exp2 (((x * (Real.log 2)⁻¹ : ℝ) : EReal) - (M : EReal))
    = ((Real.exp x * Real.exp (-(M * Real.log 2)) : ℝ) : EReal) := by
  have h2 : Real.log 2 ≠ 0 := (Real.log_pos (by norm_num)).ne'
  rw [← EReal.coe_sub, Ideal.exp2_coe, ← Real.exp_add]
  congr 1
  show (2 : ℝ) ^ (x * (Real.log 2)⁻¹ - M) = _
  rw [Real.rpow_def_of_pos (by norm_num)]
  congr 1
  field_simp
  ring

/-- The weighted average with powers of two over their sum: the softmax average. -/
theorem div_exp2 [NeZero n] (L : Fin n → ℝ) (M : ℝ) (v : Fin n → ℝ) (s : Fin n → EReal)
    (hs : ∀ k, s k = ((L k * (Real.log 2)⁻¹ : ℝ) : EReal)) :
    Ideal.div (∑ k, Ideal.exp2 (s k - (M : EReal)) * (v k : EReal)) (∑ k, Ideal.exp2 (s k - (M : EReal)) * 1)
      = ((∑ k, weight L k * v k : ℝ) : EReal) := by
  simp only [hs, exp2_scaled, mul_one]
  simp only [← EReal.coe_mul]
  have h1 := (sum_exp_pos L).ne'
  have h2 := (Real.exp_pos (-(M * Real.log 2))).ne'
  rw [← coe_sum, ← coe_sum, ← Finset.sum_mul, Ideal.div_coe (mul_ne_zero h1 h2), ← EReal.coe_mul]
  congr 1
  rw [Finset.sum_mul]
  refine Finset.sum_congr rfl fun k _ => ?_
  unfold weight
  field_simp

/-- The difference of two averages is the average with the difference of the weights. -/
theorem mixed_eq (L₁ L₂ : Fin n → ℝ) (l : ℝ) (V : Fin n → Fin p → ℝ) (c : Fin p) :
    ((∑ k, weight L₁ k * V k c : ℝ) : EReal) - (l : EReal) * ((∑ k, weight L₂ k * V k c : ℝ) : EReal) = (mixed L₁ L₂ l V c : EReal) := by
  rw [← EReal.coe_mul, ← EReal.coe_sub]
  congr 1
  unfold mixed
  rw [Finset.mul_sum, ← Finset.sum_sub_distrib]
  exact Finset.sum_congr rfl fun k _ => by ring

end Cert.Soft

end
-- ==== Proof.AttnOps.lean ====
/-
  The attention kernel's tile, operation by operation: the scores of 128 query rows against 1024 keys, the running
  maximum of a row, and the normalised difference of the two halves' averages. Each is a small function of vectors
  with a lemma reading it at an index; the kernel's block is made of them.
-/
module

public import proofs.«01_k».proof.Proof.Gen.AttnIdeal.Value
public import proofs.«01_k».proof.Proof.SoftMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AttnIdeal.Val

open Cert.AttnIdeal Cert.AttnIdeal.Gen Idealize.ShloMosaic Idealize.ShloMosaic.TcCoe Idealize.SL.Sem
open Idealize.ShloMosaic.Pipeline (Dat)
open Cert.Soft

/-! ## Scores -/

/-- The scores of 128 query rows against 1024 keys: the products, plus two bias tiles side by side. -/
def scoreOps (tl tr : Vec Ideal S128x512 .f32) (q : Vec Ideal S128x128 .bf16) (k : Vec Ideal S1x1024x128 .bf16) :
    FVec Ideal S128x1024 .f32 :=
  addf (matmul dot_S128x128_S1024x128_S128x1024_1_1_0_0_n_n none (φ₁ := .bf16) (φ₂ := .bf16) q
      (shapeCast S1024x128 (α := Ideal .bf16) k shapeCasts_S1x1024x128_S1024x128) (constant S128x1024 .f32 0x00000000#32))
    (concatenate S128x1024 1 [⟨S128x512, tl⟩, ⟨S128x512, tr⟩] concatenates_S128x512_S128x512_S128x1024_d1)

theorem scoreOps_apply (tl tr : Vec Ideal S128x512 .f32) (q : Vec Ideal S128x128 .bf16) (k : Vec Ideal S1x1024x128 .bf16)
    (y : S128x1024.Idx) :
    scoreOps tl tr q k y = (∑ l : Fin 128, q (ix2 (y 0) l) * k (ix3 0 (y 1) l))
      + (if h : (y 1).val < 512 then tl (ix2 (y 0) ⟨(y 1).val, h⟩) else tr (ix2 (y 0) ⟨(y 1).val - 512, by have := (y 1).isLt; simp at this; omega⟩)) := by
  pointwise [scoreOps]

/-! ## The maximum of a row -/

/-- Every entry is a real number. -/
def AllFinite {s : Shape} (X : s.Idx → EReal) : Prop := ∀ i, Finite (X i)

/-- The word of minus infinity. -/
theorem bot_word : Ideal.ofBits .f32 0xFF800000#32 = (⊥ : EReal) := by simp [Ideal.ofBits, Ideal.ieee]

/-- The maximum of finite numbers, folded from minus infinity, is finite. -/
theorem Finite.fold {n : ℕ} [NeZero n] {b : EReal} (hb : b = ⊥) (f : Fin n → EReal) (h : ∀ i, Finite (f i)) :
    Finite (Finset.fold max b f Finset.univ) := by
  subst hb
  exact Finite.sup f h

/-- The greatest score of each of 128 rows: lane by lane over the sixteen groups of 128 keys, then over the lanes. -/
def maxOps (a b : FVec Ideal S128x1024 .f32) : FVec Ideal S128x1 .f32 :=
  shapeCast S128x1 (multiReduction .maximumf [1] S128
    (maximumf (maximumf (maximumf (maximumf (maximumf (maximumf (maximumf (maximumf
    (maximumf (maximumf (maximumf (maximumf (maximumf (maximumf (maximumf (maximumf
      (broadcast S128x128 (Scalar.ofBits .f32 0xFF800000#32 : Ideal .f32))
      (extractStridedSlice S128x128 ![0, 0] a slices_S128x1024_o0_0_S128x128))
      (extractStridedSlice S128x128 ![0, 128] a slices_S128x1024_o0_128_S128x128))
      (extractStridedSlice S128x128 ![0, 256] a slices_S128x1024_o0_256_S128x128))
      (extractStridedSlice S128x128 ![0, 384] a slices_S128x1024_o0_384_S128x128))
      (extractStridedSlice S128x128 ![0, 512] a slices_S128x1024_o0_512_S128x128))
      (extractStridedSlice S128x128 ![0, 640] a slices_S128x1024_o0_640_S128x128))
      (extractStridedSlice S128x128 ![0, 768] a slices_S128x1024_o0_768_S128x128))
      (extractStridedSlice S128x128 ![0, 896] a slices_S128x1024_o0_896_S128x128))
      (extractStridedSlice S128x128 ![0, 0] b slices_S128x1024_o0_0_S128x128))
      (extractStridedSlice S128x128 ![0, 128] b slices_S128x1024_o0_128_S128x128))
      (extractStridedSlice S128x128 ![0, 256] b slices_S128x1024_o0_256_S128x128))
      (extractStridedSlice S128x128 ![0, 384] b slices_S128x1024_o0_384_S128x128))
      (extractStridedSlice S128x128 ![0, 512] b slices_S128x1024_o0_512_S128x128))
      (extractStridedSlice S128x128 ![0, 640] b slices_S128x1024_o0_640_S128x128))
      (extractStridedSlice S128x128 ![0, 768] b slices_S128x1024_o0_768_S128x128))
      (extractStridedSlice S128x128 ![0, 896] b slices_S128x1024_o0_896_S128x128))
    0xFF800000#32 reduces_S128x128_S128 (.inl rfl) rfl) shapeCasts_S128_S128x1

theorem maxOps_finite {a b : FVec Ideal S128x1024 .f32} (ha : AllFinite a) (hb : AllFinite b) : AllFinite (maxOps a b) := by
  intro y
  pointwise [maxOps]
  refine Finite.fold bot_word _ fun x => ?_
  rw [bot_word, max_eq_right bot_le]
  repeat refine Finite.max ?_ (hb _)
  repeat refine Finite.max ?_ (ha _)
  exact ha _

/-- The maxima of 1024 rows, from those of eight groups of 128. -/
def stackMax (m0 m1 m2 m3 m4 m5 m6 m7 : FVec Ideal S128x1 .f32) : FVec Ideal S1024x1 .f32 :=
  concatenate S1024x1 0 [⟨S128x1, m0⟩, ⟨S128x1, m1⟩, ⟨S128x1, m2⟩, ⟨S128x1, m3⟩, ⟨S128x1, m4⟩, ⟨S128x1, m5⟩, ⟨S128x1, m6⟩, ⟨S128x1, m7⟩]
    concatenates_S128x1_S128x1_S128x1_S128x1_S128x1_S128x1_S128x1_S128x1_S1024x1_d0

theorem stackMax_finite {m0 m1 m2 m3 m4 m5 m6 m7 : FVec Ideal S128x1 .f32} (h0 : AllFinite m0) (h1 : AllFinite m1)
    (h2 : AllFinite m2) (h3 : AllFinite m3) (h4 : AllFinite m4) (h5 : AllFinite m5) (h6 : AllFinite m6) (h7 : AllFinite m7) :
    AllFinite (stackMax m0 m1 m2 m3 m4 m5 m6 m7) := by
  intro y
  pointwise [stackMax]
  split_ifs
  all_goals first | exact h0 _ | exact h1 _ | exact h2 _ | exact h3 _ | exact h4 _ | exact h5 _ | exact h6 _ | exact h7 _

/-! ## The weights and the output -/

/-- Powers of two of the scores less their row's maximum. -/
def weightOps (s : Vec Ideal S1024x2048 .f32) (mx : FVec Ideal S1024x1 .f32) : FVec Ideal S1024x2048 .bf16 :=
  shapeCast S1024x2048 (truncf .bf16 (exp2 (subf s (broadcastTo S1024x2048 mx broadcasts_S1024x1_S1024x2048))) bitsLt_bf16_f32)
    shapeCasts_S1024x2048_S1024x2048

theorem weightOps_apply (s : Vec Ideal S1024x2048 .f32) (mx : FVec Ideal S1024x1 .f32) (y : S1024x2048.Idx) :
    weightOps s mx y = Ideal.exp2 (s y - mx (ix2 (y 0) 0)) := by
  pointwise [weightOps]
  rfl

/-- The weighted average of the values in the first 128 columns, the weights' sum standing in the next column. -/
def averageOps (p : Vec Ideal S512x2048 .bf16) (vv : Vec Ideal S2048x256 .bf16) : FVec Ideal S512x128 .f32 :=
  divf (extractStridedSlice S512x128 ![0, 0] (matmul dot_S512x2048_S2048x256_S512x256_1_0_0_1_n_n none (φ₁ := .bf16) (φ₂ := .bf16) p vv (constant S512x256 .f32 0x00000000#32)) slices_S512x256_o0_0_S512x128)
    (broadcastTo S512x128 (extractStridedSlice S512x1 ![0, 128] (matmul dot_S512x2048_S2048x256_S512x256_1_0_0_1_n_n none (φ₁ := .bf16) (φ₂ := .bf16) p vv (constant S512x256 .f32 0x00000000#32)) slices_S512x256_o0_128_S512x1) broadcasts_S512x1_S512x128)

theorem averageOps_apply (p : Vec Ideal S512x2048 .bf16) (vv : Vec Ideal S2048x256 .bf16) (y : S512x128.Idx) :
    averageOps p vv y = Ideal.div (∑ k : Fin 2048, p (ix2 (y 0) k) * vv (ix2 k ⟨(y 1).val, by have := (y 1).isLt; simp at this; omega⟩))
      (∑ k : Fin 2048, p (ix2 (y 0) k) * vv (ix2 k ⟨128, by norm_num⟩)) := by
  pointwise [averageOps]

/-- The difference of the two averages, the second taken `lam` times. -/
def diffOps (lam : Elt Ideal .f32) (vv : Vec Ideal S2048x256 .bf16) (p1 p2 : Vec Ideal S512x2048 .bf16) : FVec Ideal S512x128 .f32 :=
  subf (averageOps p1 vv) (mulf (broadcast S512x128 lam) (averageOps p2 vv))

/-- The row normalised by its root mean square, with gains and the final factor. -/
def normOps (g : FVec Ideal S1x128 .f32) (o : FVec Ideal S512x128 .f32) : FVec Ideal S1x512x128 .bf16 :=
  shapeCast S1x512x128 (truncf .bf16 (mulf (mulf (mulf o (broadcastTo S512x128 (rsqrt (addf (divf
      (shapeCast S512x1 (multiReduction .add [1] S512 (mulf o o) 0x00000000#32 reduces_S512x128_S512 (.inl rfl) rfl) shapeCasts_S512_S512x1)
      (broadcast S512x1 (Scalar.ofBits .f32 0x43000000#32 : Ideal .f32))) (broadcast S512x1 (Scalar.ofBits .f32 0x358637BD#32 : Ideal .f32)))) broadcasts_S512x1_S512x128))
      (broadcastTo S512x128 g broadcasts_S1x128_S512x128)) (broadcast S512x128 (Scalar.ofBits .f32 0x3F24FD5C#32 : Ideal .f32))) bitsLt_bf16_f32)
    shapeCasts_S512x128_S1x512x128

/-- A row of 128 entries normalised by its root mean square with gains `g`, times the output scale. -/
def rms128 (x g : Fin 128 → EReal) (c : Fin 128) : EReal :=
  x c * Ideal.rsqrt (Ideal.div (∑ k, x k * x k) (Ideal.ofBits .f32 0x43000000#32) + Ideal.ofBits .f32 0x358637BD#32) * g c
    * Ideal.ofBits .f32 0x3F24FD5C#32

theorem normOps_apply (g : FVec Ideal S1x128 .f32) (o : FVec Ideal S512x128 .f32) (y : S1x512x128.Idx) :
    normOps g o y = rms128 (fun c => o (ix2 (y 1) c)) (fun c => g (ix2 0 c)) (y 2) := by
  pointwise [normOps]
  rfl

end Cert.AttnIdeal.Val

end
-- ==== Proof.AttnTile.lean ====
/-
  One query tile of the attention kernel over the real numbers. A block holds 2048 tokens of one head; a tile is 512
  of its queries, taken twice (once for each half of the 128 lanes). The lemmas read the tile's scratch buffers back
  and give its output row by row, for inputs that are real numbers.
-/
module

public import proofs.«01_k».proof.Proof.AttnOps

@[expose] public section

set_option maxRecDepth 16384

noncomputable section

namespace Cert.AttnIdeal.Val

open Cert.AttnIdeal Cert.AttnIdeal.Gen Idealize.ShloMosaic Idealize.ShloMosaic.TcCoe Idealize.SL.Sem
open Idealize.ShloMosaic.Pipeline (Dat)
open Cert.Soft

/-! ## The mathematics of a tile -/

/-- The logit of query `i` against key `k` in half `h`: the scaled product over the half's 64 lanes, plus the bias. -/
def logit (q k β : ℕ → ℕ → ℝ) (h i j : ℕ) : ℝ := (∑ d : Fin 64, q i (64 * h + d) * k j (64 * h + d)) / 8 + β i j

/-- The tile's queries, scaled, twice: with the upper lanes cleared in the first 512 rows, with the lower lanes cleared
    in the last 512. -/
def twice (q : ℕ → ℕ → ℝ) (q0 r l : ℕ) : ℝ :=
  if r < 512 then (if l < 64 then q (q0 + r) l * (8 * Real.log 2)⁻¹ else 0)
  else (if 64 ≤ l then q (q0 + (r - 512)) l * (8 * Real.log 2)⁻¹ else 0)

/-- The bias tile met by a query tile and a key tile. -/
def reach (a b : ℕ) : ℕ := min 4 (b + 2 - a)

/-- The bias slab's entry for row `r` of the tile at `q0` and key `j`. -/
def slabAt (σ : ℕ → ℕ → ℝ) (q0 r j : ℕ) : ℝ := σ (r % 512) (512 * reach (q0 / 512) (j / 512) + j % 512)

/-- A score of the tile. -/
def score (Q K B : ℕ → ℕ → ℝ) (r j : ℕ) : ℝ := (∑ l : Fin 128, Q r l * K j l) + B r j

theorem sum_halves (f : ℕ → ℝ) : ∑ l : Fin 128, f l = (∑ d : Fin 64, f d) + ∑ d : Fin 64, f (64 + d) := by
  exact Fin.sum_univ_add (a := 64) (b := 64) (fun l : Fin 128 => f l)

/-- A score is the half's logit over `log 2`. -/
theorem score_eq (q k β σ : ℕ → ℕ → ℝ) (q0 r j : ℕ) (hr : r < 1024) (hq : q0 % 512 = 0)
    (hσ : ∀ i, i / 512 = q0 / 512 → σ (i % 512) (512 * reach (i / 512) (j / 512) + j % 512) = β i j * (Real.log 2)⁻¹) :
    score (twice q q0) k (slabAt σ q0) r j = logit q k β (r / 512) (q0 + r % 512) j * (Real.log 2)⁻¹ := by
  have hb : slabAt σ q0 r j = β (q0 + r % 512) j * (Real.log 2)⁻¹ := by
    rw [← hσ (q0 + r % 512) (by omega)]
    unfold slabAt
    rw [show (q0 + r % 512) % 512 = r % 512 by omega, show (q0 + r % 512) / 512 = q0 / 512 by omega]
  unfold score
  rw [hb, sum_halves fun l => twice q q0 r l * k j l]
  unfold logit
  rw [add_mul, Finset.sum_div, Finset.sum_mul]
  congr 1
  by_cases h : r < 512
  · have e1 : r / 512 = 0 := by omega
    have e2 : r % 512 = r := by omega
    rw [e1, e2, ← add_zero (∑ _, _ / _ * _)]
    congr 1
    · refine Finset.sum_congr rfl fun d _ => ?_
      rw [twice, if_pos h, if_pos d.isLt, mul_inv]
      simp only [Nat.mul_zero, Nat.zero_add]; ring
    · refine Finset.sum_eq_zero fun d _ => ?_
      rw [twice, if_pos h, if_neg (by omega), zero_mul]
  · have e1 : r / 512 = 1 := by omega
    have e2 : r % 512 = r - 512 := by omega
    rw [e1, e2, ← zero_add (∑ _, _ / _ * _)]
    congr 1
    · refine Finset.sum_eq_zero fun d _ => ?_
      rw [twice, if_neg h, if_neg (by omega), zero_mul]
    · refine Finset.sum_congr rfl fun d _ => ?_
      rw [twice, if_neg h, if_pos (by omega), mul_inv]
      simp only [Nat.mul_one]; ring

/-! ## Reading the inputs -/

/-- Rows of a block of 2048 tokens. -/
theorem rows_apply {X : Vec Ideal S1x2048x128 .bf16} {f : ℕ → ℕ → ℝ} (hX : ∀ y, X y = ((f (y 1).val (y 2).val : ℝ) : EReal))
    {n k0 : ℕ} (inb : ∀ a, (![0, k0, 0] : Fin 3 → ℕ) a + (![1, n, 128] : Fin 3 → ℕ) a ≤ S1x2048x128.size a)
    (y : (⟨3, ![1, n, 128]⟩ : Shape).Idx) :
    View.ld X (Rect.unit ![0, k0, 0] ![1, n, 128] inb) y = ((f (k0 + (y 1).val) (y 2).val : ℝ) : EReal) := by
  rw [View.ld_apply, hX, Rect.idx_unit_val, Rect.idx_unit_val]
  simp

/-- A bias tile of the slab. -/
theorem slab_apply {X : Vec Ideal S512x2560 .f32} {σ : ℕ → ℕ → ℝ} (hX : ∀ y, X y = ((σ (y 0).val (y 1).val : ℝ) : EReal))
    {a0 c0 q0 r0 k0 : ℕ} (ha : a0 = r0 % 512) (hr : r0 % 128 = 0) (hc : c0 = 512 * reach (q0 / 512) (k0 / 512)) (hk : k0 % 512 = 0)
    (inb : ∀ a, (![a0, c0] : Fin 2 → ℕ) a + (![128, 512] : Fin 2 → ℕ) a ≤ S512x2560.size a)
    (y : (⟨2, ![128, 512]⟩ : Shape).Idx) :
    View.ld X (Rect.unit ![a0, c0] ![128, 512] inb) y = ((slabAt σ q0 (r0 + (y 0).val) (k0 + (y 1).val) : ℝ) : EReal) := by
  have h0 : (y 0).val < 128 := (y 0).isLt
  have h1 : (y 1).val < 512 := (y 1).isLt
  rw [View.ld_apply, hX, Rect.idx_unit_val, Rect.idx_unit_val]
  unfold slabAt
  have e0 : (r0 + (y 0).val) % 512 = a0 + (y 0).val := by omega
  have e1 : (k0 + (y 1).val) / 512 = k0 / 512 := by omega
  have e2 : (k0 + (y 1).val) % 512 = (y 1).val := by omega
  rw [e0, e1, e2, ← hc]
  simp

/-- A bias tile of the slab just stored. -/
theorem slab_stored_apply {sig : RefSig} {κ : Kind} {sp : Space} (v : View sig κ sp S512x2560 .f32) {W : Vec Ideal S512x2560 .f32} {σ : ℕ → ℕ → ℝ}
    (hX : ∀ y, W y = ((σ (y 0).val (y 1).val : ℝ) : EReal))
    {a0 c0 q0 r0 k0 : ℕ} (ha : a0 = r0 % 512) (hr : r0 % 128 = 0) (hc : c0 = 512 * reach (q0 / 512) (k0 / 512)) (hk : k0 % 512 = 0)
    (i : ∀ a, (![0, 0] : Fin 2 → ℕ) a + S512x2560.size a ≤ S512x2560.size a)
    (inb : ∀ a, (![a0, c0] : Fin 2 → ℕ) a + (![128, 512] : Fin 2 → ℕ) a ≤ S512x2560.size a)
    (y : (⟨2, ![128, 512]⟩ : Shape).Idx) :
    v.readCov [(⟨Rect.unit (s := S512x2560) ![0, 0] S512x2560.size i, W⟩ : View.Piece (Elt Ideal) S512x2560 .f32)]
        (Rect.unit (s := S512x2560) ![a0, c0] ![128, 512] inb).toLoadRect y
      = ((slabAt σ q0 (r0 + (y 0).val) (k0 + (y 1).val) : ℝ) : EReal) := by
  exact (congrFun (View.readCov_fill (Val := Elt Ideal) (e := .f32) v i W [] (Rect.unit (s := S512x2560) ![a0, c0] ![128, 512] inb) (by decide)) y).trans
    (slab_apply hX ha hr hc hk inb y)

theorem slab_stored_finite {sig : RefSig} {κ : Kind} {sp : Space} (v : View sig κ sp S512x2560 .f32) {W : Vec Ideal S512x2560 .f32} {σ : ℕ → ℕ → ℝ}
    (hX : ∀ y, W y = ((σ (y 0).val (y 1).val : ℝ) : EReal)) {a0 c0 : ℕ}
    (i : ∀ a, (![0, 0] : Fin 2 → ℕ) a + S512x2560.size a ≤ S512x2560.size a)
    (inb : ∀ a, (![a0, c0] : Fin 2 → ℕ) a + (![128, 512] : Fin 2 → ℕ) a ≤ S512x2560.size a) :
    AllFinite (s := ⟨2, ![128, 512]⟩) (v.readCov [(⟨Rect.unit (s := S512x2560) ![0, 0] S512x2560.size i, W⟩ : View.Piece (Elt Ideal) S512x2560 .f32)]
        (Rect.unit (s := S512x2560) ![a0, c0] ![128, 512] inb).toLoadRect) := fun y =>
  ⟨_, (congrFun (View.readCov_fill (Val := Elt Ideal) (e := .f32) v i W [] (Rect.unit (s := S512x2560) ![a0, c0] ![128, 512] inb) (by decide)) y).trans (hX _)⟩

/-- What was just stored, read back. -/
theorem slab_canon {W : Vec Ideal S512x2560 .f32} (i : ∀ a, (![0, 0] : Fin 2 → ℕ) a + S512x2560.size a ≤ S512x2560.size a) (y : S512x2560.Idx) :
    View.canon [(⟨Rect.unit (s := S512x2560) ![0, 0] S512x2560.size i, W⟩ : View.Piece (Elt Ideal) S512x2560 .f32)] y = W y := by
  exact congrFun (View.canon_cons_unit_lit' (Val := Elt Ideal) (e := .f32) i W [] (by decide)) y

/-! ## The queries, twice -/

/-- The scaled queries with the upper lanes cleared. -/
def lowOps (Q : Vec Ideal S1x512x128 .bf16) : FVec Ideal S512x128 .bf16 := k0_pay15 Q

/-- The scaled queries with the lower lanes cleared. -/
def highOps (Q : Vec Ideal S1x512x128 .bf16) : FVec Ideal S512x128 .bf16 := k0_pay17 (k0_pay16 Q)

theorem lane_slt : ∀ l : Fin 128, IntOp.cmpi .slt (BitVec.ofNat 32 l.val) 64#32 = if l.val < 64 then 1#1 else 0#1 := by decide
theorem lane_sge : ∀ l : Fin 128, IntOp.cmpi .sge (BitVec.ofNat 32 l.val) 64#32 = if 64 ≤ l.val then 1#1 else 0#1 := by decide

theorem scale_word : (Named.named κ "query_scale" 0x3E38AA3B#32 : Ideal .f32) = (((8 * Real.log 2)⁻¹ : ℝ) : EReal) := rfl

theorem lowOps_apply {Q : Vec Ideal S1x512x128 .bf16} {q : ℕ → ℕ → ℝ} {q0 : ℕ}
    (hQ : ∀ y, Q y = ((q (q0 + (y 1).val) (y 2).val : ℝ) : EReal)) (y : S512x128.Idx) :
    lowOps Q y = ((twice q q0 (0 + (y 0).val) (0 + (y 1).val) : ℝ) : EReal) := by
  have h0 : (y 0).val < 512 := (y 0).isLt
  have h1 : (y 1).val < 128 := (y 1).isLt
  unfold lowOps
  rw [Nat.zero_add, Nat.zero_add]
  pointwise [k0_pay15, k0_pay13, k0_pay14]
  rw [hQ, scale_word, lane_slt ⟨_, h1⟩]
  unfold twice
  rw [if_pos h0]
  by_cases h : (y 1).val < 64
  · simp only [h, if_true]
    exact (EReal.coe_mul _ _).symm
  · simp only [h, if_false]
    rfl

theorem highOps_apply {Q : Vec Ideal S1x512x128 .bf16} {q : ℕ → ℕ → ℝ} {q0 : ℕ}
    (hQ : ∀ y, Q y = ((q (q0 + (y 1).val) (y 2).val : ℝ) : EReal)) (y : S512x128.Idx) :
    highOps Q y = ((twice q q0 (512 + (y 0).val) (0 + (y 1).val) : ℝ) : EReal) := by
  have h0 : (y 0).val < 512 := (y 0).isLt
  have h1 : (y 1).val < 128 := (y 1).isLt
  unfold highOps
  rw [Nat.zero_add]
  pointwise [k0_pay17, k0_pay16, k0_pay13, k0_pay14]
  rw [hQ, scale_word, lane_sge ⟨_, h1⟩]
  unfold twice
  rw [if_neg (show ¬ 512 + (y 0).val < 512 by omega), Nat.add_sub_cancel_left]
  by_cases h : 64 ≤ (y 1).val
  · simp only [h, if_true]
    exact (EReal.coe_mul _ _).symm
  · simp only [h, if_false]
    rfl

/-- A stored piece whose entries are those of a function of row and column is a piece of that function's array. -/
theorem piece_at {a b a' b' o0 o1 : ℕ} {f : ℕ → ℕ → EReal} {w : (⟨2, ![a', b']⟩ : Shape).Idx → EReal}
    (h : ∀ x, w x = f (o0 + (x 0).val) (o1 + (x 1).val))
    (inb : ∀ i, (![o0, o1] : Fin 2 → ℕ) i + (![a', b'] : Fin 2 → ℕ) i ≤ (⟨2, ![a, b]⟩ : Shape).size i) (x : (⟨2, ![a', b']⟩ : Shape).Idx) :
    w x = (fun z : (⟨2, ![a, b]⟩ : Shape).Idx => f (z 0).val (z 1).val) ((Rect.unit (s := ⟨2, ![a, b]⟩) ![o0, o1] ![a', b'] inb).emb x) := by
  rw [h]
  show f (o0 + _) (o1 + _) = f (o0 + 1 * _) (o1 + 1 * _)
  rw [Nat.one_mul, Nat.one_mul]

/-- A group of 128 rows of the doubled queries, read back after the two stores. -/
theorem twice_read {sig : RefSig} {κ : Kind} {sp : Space} (v : View sig κ sp S1024x128 .bf16) {f : ℕ → ℕ → ℝ}
    {lo hi : S512x128.Idx → Ideal .bf16} (L : List (View.Piece (Elt Ideal) S1024x128 .bf16))
    (hlo : ∀ x, lo x = ((f (0 + (x 0).val) (0 + (x 1).val) : ℝ) : EReal)) (hhi : ∀ x, hi x = ((f (512 + (x 0).val) (0 + (x 1).val) : ℝ) : EReal))
    (i1 : ∀ a, (![512, 0] : Fin 2 → ℕ) a + S512x128.size a ≤ S1024x128.size a)
    (i0 : ∀ a, (![0, 0] : Fin 2 → ℕ) a + S512x128.size a ≤ S1024x128.size a)
    {r0 : ℕ} (inb : ∀ a, (![r0, 0] : Fin 2 → ℕ) a + (![128, 128] : Fin 2 → ℕ) a ≤ S1024x128.size a) (y : S128x128.Idx) :
    v.readCov (⟨Rect.unit (s := S1024x128) ![512, 0] S512x128.size i1, hi⟩ :: ⟨Rect.unit (s := S1024x128) ![0, 0] S512x128.size i0, lo⟩ :: L)
      (Rect.unit (s := S1024x128) ![r0, 0] ![128, 128] inb).toLoadRect y = ((f (r0 + (y 0).val) (y 1).val : ℝ) : EReal) := by
  have h0 : (y 0).val < 128 := (y 0).isLt
  have hr := inb 0
  rw [View.readCov_eq_canon']
  let P : List (View.Piece (Elt Ideal) S1024x128 .bf16) := [⟨Rect.unit (s := S1024x128) ![512, 0] S512x128.size i1, hi⟩, ⟨Rect.unit (s := S1024x128) ![0, 0] S512x128.size i0, lo⟩]
  have hP : View.PiecesOf (fun z : S1024x128.Idx => ((f (z 0).val (z 1).val : ℝ) : EReal)) P :=
    ⟨piece_at (f := fun r j => ((f r j : ℝ) : EReal)) hhi i1, piece_at (f := fun r j => ((f r j : ℝ) : EReal)) hlo i0, trivial⟩
  have key := View.canon_append_of_piecesOf _ L P hP ((Rect.unit (s := S1024x128) ![r0, 0] ![128, 128] inb).toLoadRect.idx y)
    (View.cover_of_tiledL P S512x128.size
      (by sl_kernel_rfl) _)
  · refine key.trans ?_
    rw [Rect.idx_unit_val, Rect.idx_unit_val]
    simp

/-! ## The scores, stored in sixteen pieces and read back whole -/

theorem scores_read {sig : RefSig} {κ : Kind} {sp : Space} (v : View sig κ sp S1024x2048 .f32) {f : ℕ → ℕ → ℝ}
    {w00 w01 w10 w11 w20 w21 w30 w31 w40 w41 w50 w51 w60 w61 w70 w71 : S128x1024.Idx → Ideal .f32}
    (L : List (View.Piece (Elt Ideal) S1024x2048 .f32))
    (i00 : ∀ a, (![0, 0] : Fin 2 → ℕ) a + S128x1024.size a ≤ S1024x2048.size a)
    (i01 : ∀ a, (![0, 1024] : Fin 2 → ℕ) a + S128x1024.size a ≤ S1024x2048.size a)
    (i10 : ∀ a, (![128, 0] : Fin 2 → ℕ) a + S128x1024.size a ≤ S1024x2048.size a)
    (i11 : ∀ a, (![128, 1024] : Fin 2 → ℕ) a + S128x1024.size a ≤ S1024x2048.size a)
    (i20 : ∀ a, (![256, 0] : Fin 2 → ℕ) a + S128x1024.size a ≤ S1024x2048.size a)
    (i21 : ∀ a, (![256, 1024] : Fin 2 → ℕ) a + S128x1024.size a ≤ S1024x2048.size a)
    (i30 : ∀ a, (![384, 0] : Fin 2 → ℕ) a + S128x1024.size a ≤ S1024x2048.size a)
    (i31 : ∀ a, (![384, 1024] : Fin 2 → ℕ) a + S128x1024.size a ≤ S1024x2048.size a)
    (i40 : ∀ a, (![512, 0] : Fin 2 → ℕ) a + S128x1024.size a ≤ S1024x2048.size a)
    (i41 : ∀ a, (![512, 1024] : Fin 2 → ℕ) a + S128x1024.size a ≤ S1024x2048.size a)
    (i50 : ∀ a, (![640, 0] : Fin 2 → ℕ) a + S128x1024.size a ≤ S1024x2048.size a)
    (i51 : ∀ a, (![640, 1024] : Fin 2 → ℕ) a + S128x1024.size a ≤ S1024x2048.size a)
    (i60 : ∀ a, (![768, 0] : Fin 2 → ℕ) a + S128x1024.size a ≤ S1024x2048.size a)
    (i61 : ∀ a, (![768, 1024] : Fin 2 → ℕ) a + S128x1024.size a ≤ S1024x2048.size a)
    (i70 : ∀ a, (![896, 0] : Fin 2 → ℕ) a + S128x1024.size a ≤ S1024x2048.size a)
    (i71 : ∀ a, (![896, 1024] : Fin 2 → ℕ) a + S128x1024.size a ≤ S1024x2048.size a)
    (iw : ∀ a, (![0, 0] : Fin 2 → ℕ) a + S1024x2048.size a ≤ S1024x2048.size a)
    (h00 : ∀ x, w00 x = ((f (0 + (x 0).val) (0 + (x 1).val) : ℝ) : EReal))
    (h01 : ∀ x, w01 x = ((f (0 + (x 0).val) (1024 + (x 1).val) : ℝ) : EReal))
    (h10 : ∀ x, w10 x = ((f (128 + (x 0).val) (0 + (x 1).val) : ℝ) : EReal))
    (h11 : ∀ x, w11 x = ((f (128 + (x 0).val) (1024 + (x 1).val) : ℝ) : EReal))
    (h20 : ∀ x, w20 x = ((f (256 + (x 0).val) (0 + (x 1).val) : ℝ) : EReal))
    (h21 : ∀ x, w21 x = ((f (256 + (x 0).val) (1024 + (x 1).val) : ℝ) : EReal))
    (h30 : ∀ x, w30 x = ((f (384 + (x 0).val) (0 + (x 1).val) : ℝ) : EReal))
    (h31 : ∀ x, w31 x = ((f (384 + (x 0).val) (1024 + (x 1).val) : ℝ) : EReal))
    (h40 : ∀ x, w40 x = ((f (512 + (x 0).val) (0 + (x 1).val) : ℝ) : EReal))
    (h41 : ∀ x, w41 x = ((f (512 + (x 0).val) (1024 + (x 1).val) : ℝ) : EReal))
    (h50 : ∀ x, w50 x = ((f (640 + (x 0).val) (0 + (x 1).val) : ℝ) : EReal))
    (h51 : ∀ x, w51 x = ((f (640 + (x 0).val) (1024 + (x 1).val) : ℝ) : EReal))
    (h60 : ∀ x, w60 x = ((f (768 + (x 0).val) (0 + (x 1).val) : ℝ) : EReal))
    (h61 : ∀ x, w61 x = ((f (768 + (x 0).val) (1024 + (x 1).val) : ℝ) : EReal))
    (h70 : ∀ x, w70 x = ((f (896 + (x 0).val) (0 + (x 1).val) : ℝ) : EReal))
    (h71 : ∀ x, w71 x = ((f (896 + (x 0).val) (1024 + (x 1).val) : ℝ) : EReal))
    (y : S1024x2048.Idx) :
    v.readCov (⟨Rect.unit (s := S1024x2048) ![896, 1024] S128x1024.size i71, w71⟩ :: ⟨Rect.unit (s := S1024x2048) ![896, 0] S128x1024.size i70, w70⟩ :: ⟨Rect.unit (s := S1024x2048) ![768, 1024] S128x1024.size i61, w61⟩ :: ⟨Rect.unit (s := S1024x2048) ![768, 0] S128x1024.size i60, w60⟩ :: ⟨Rect.unit (s := S1024x2048) ![640, 1024] S128x1024.size i51, w51⟩ :: ⟨Rect.unit (s := S1024x2048) ![640, 0] S128x1024.size i50, w50⟩ :: ⟨Rect.unit (s := S1024x2048) ![512, 1024] S128x1024.size i41, w41⟩ :: ⟨Rect.unit (s := S1024x2048) ![512, 0] S128x1024.size i40, w40⟩ :: ⟨Rect.unit (s := S1024x2048) ![384, 1024] S128x1024.size i31, w31⟩ :: ⟨Rect.unit (s := S1024x2048) ![384, 0] S128x1024.size i30, w30⟩ :: ⟨Rect.unit (s := S1024x2048) ![256, 1024] S128x1024.size i21, w21⟩ :: ⟨Rect.unit (s := S1024x2048) ![256, 0] S128x1024.size i20, w20⟩ :: ⟨Rect.unit (s := S1024x2048) ![128, 1024] S128x1024.size i11, w11⟩ :: ⟨Rect.unit (s := S1024x2048) ![128, 0] S128x1024.size i10, w10⟩ :: ⟨Rect.unit (s := S1024x2048) ![0, 1024] S128x1024.size i01, w01⟩ :: ⟨Rect.unit (s := S1024x2048) ![0, 0] S128x1024.size i00, w00⟩ :: L)
      (Rect.unit (s := S1024x2048) ![0, 0] S1024x2048.size iw).toLoadRect y = ((f (y 0).val (y 1).val : ℝ) : EReal) := by
  rw [View.readCov_eq_canon']
  let P : List (View.Piece (Elt Ideal) S1024x2048 .f32) := [⟨Rect.unit (s := S1024x2048) ![896, 1024] S128x1024.size i71, w71⟩, ⟨Rect.unit (s := S1024x2048) ![896, 0] S128x1024.size i70, w70⟩, ⟨Rect.unit (s := S1024x2048) ![768, 1024] S128x1024.size i61, w61⟩, ⟨Rect.unit (s := S1024x2048) ![768, 0] S128x1024.size i60, w60⟩, ⟨Rect.unit (s := S1024x2048) ![640, 1024] S128x1024.size i51, w51⟩, ⟨Rect.unit (s := S1024x2048) ![640, 0] S128x1024.size i50, w50⟩, ⟨Rect.unit (s := S1024x2048) ![512, 1024] S128x1024.size i41, w41⟩, ⟨Rect.unit (s := S1024x2048) ![512, 0] S128x1024.size i40, w40⟩, ⟨Rect.unit (s := S1024x2048) ![384, 1024] S128x1024.size i31, w31⟩, ⟨Rect.unit (s := S1024x2048) ![384, 0] S128x1024.size i30, w30⟩, ⟨Rect.unit (s := S1024x2048) ![256, 1024] S128x1024.size i21, w21⟩, ⟨Rect.unit (s := S1024x2048) ![256, 0] S128x1024.size i20, w20⟩, ⟨Rect.unit (s := S1024x2048) ![128, 1024] S128x1024.size i11, w11⟩, ⟨Rect.unit (s := S1024x2048) ![128, 0] S128x1024.size i10, w10⟩, ⟨Rect.unit (s := S1024x2048) ![0, 1024] S128x1024.size i01, w01⟩, ⟨Rect.unit (s := S1024x2048) ![0, 0] S128x1024.size i00, w00⟩]
  have hP : View.PiecesOf (fun z : S1024x2048.Idx => ((f (z 0).val (z 1).val : ℝ) : EReal)) P :=
    ⟨piece_at (f := fun r j => ((f r j : ℝ) : EReal)) h71 i71, piece_at (f := fun r j => ((f r j : ℝ) : EReal)) h70 i70, piece_at (f := fun r j => ((f r j : ℝ) : EReal)) h61 i61, piece_at (f := fun r j => ((f r j : ℝ) : EReal)) h60 i60, piece_at (f := fun r j => ((f r j : ℝ) : EReal)) h51 i51, piece_at (f := fun r j => ((f r j : ℝ) : EReal)) h50 i50, piece_at (f := fun r j => ((f r j : ℝ) : EReal)) h41 i41, piece_at (f := fun r j => ((f r j : ℝ) : EReal)) h40 i40, piece_at (f := fun r j => ((f r j : ℝ) : EReal)) h31 i31, piece_at (f := fun r j => ((f r j : ℝ) : EReal)) h30 i30, piece_at (f := fun r j => ((f r j : ℝ) : EReal)) h21 i21, piece_at (f := fun r j => ((f r j : ℝ) : EReal)) h20 i20, piece_at (f := fun r j => ((f r j : ℝ) : EReal)) h11 i11, piece_at (f := fun r j => ((f r j : ℝ) : EReal)) h10 i10, piece_at (f := fun r j => ((f r j : ℝ) : EReal)) h01 i01, piece_at (f := fun r j => ((f r j : ℝ) : EReal)) h00 i00, trivial⟩
  have key := View.canon_append_of_piecesOf _ L P hP ((Rect.unit (s := S1024x2048) ![0, 0] S1024x2048.size iw).toLoadRect.idx y)
    (View.cover_of_tiledL P S128x1024.size
      (by sl_kernel_rfl) _)
  · refine key.trans ?_
    rw [Rect.idx_unit_val, Rect.idx_unit_val]
    simp

/-- A score piece: the products of a group of rows with a group of keys, plus the bias. -/
theorem score_piece {Q K B : ℕ → ℕ → ℝ} {r0 k0 k1 : ℕ} {tl tr : Vec Ideal S128x512 .f32} {q : Vec Ideal S128x128 .bf16}
    {k : Vec Ideal S1x1024x128 .bf16} (hk1 : k1 = k0 + 512)
    (hq : ∀ y, q y = ((Q (r0 + (y 0).val) (y 1).val : ℝ) : EReal)) (hk : ∀ y, k y = ((K (k0 + (y 1).val) (y 2).val : ℝ) : EReal))
    (hl : ∀ y, tl y = ((B (r0 + (y 0).val) (k0 + (y 1).val) : ℝ) : EReal))
    (hr : ∀ y, tr y = ((B (r0 + (y 0).val) (k1 + (y 1).val) : ℝ) : EReal)) (x : S128x1024.Idx) :
    scoreOps tl tr q k x = ((score Q K B (r0 + (x 0).val) (k0 + (x 1).val) : ℝ) : EReal) := by
  rw [scoreOps_apply]
  unfold score
  rw [EReal.coe_add, coe_sum]
  congr 1
  · refine Finset.sum_congr rfl fun l _ => ?_
    exact (congrArg₂ (· * ·) (hq _) (hk _)).trans (EReal.coe_mul _ _).symm
  · split_ifs with h
    · exact hl _
    · rw [hr]
      have : k1 + ((x 1).val - 512) = k0 + (x 1).val := by omega
      exact congrArg (fun n => ((B (r0 + (x 0).val) n : ℝ) : EReal)) this

theorem score_finite {tl tr : Vec Ideal S128x512 .f32} {q : Vec Ideal S128x128 .bf16}
    {k : Vec Ideal S1x1024x128 .bf16} (hq : AllFinite q) (hk : AllFinite k) (hl : AllFinite tl) (hr : AllFinite tr) :
    AllFinite (scoreOps tl tr q k) := by
  intro x
  rw [scoreOps_apply]
  refine Finite.add (Finite.sum _ _ fun l => Finite.mul (hq _) (hk _)) ?_
  split_ifs
  exacts [hl _, hr _]

/-- A finite block of 512 rows has real entries, named by their places. -/
theorem AllFinite.entries {Q : Vec Ideal S1x512x128 .bf16} (hQ : AllFinite Q) :
    ∃ q : ℕ → ℕ → ℝ, ∀ y, Q y = ((q (0 + (y 1).val) (y 2).val : ℝ) : EReal) := by
  choose a ha using hQ
  refine ⟨fun r j => a (ix3 0 (Fin.ofNat 512 r) (Fin.ofNat 128 j)), fun y => ?_⟩
  have h0 : (y 0).val < 1 := (y 0).isLt
  have h1 : (y 1).val < 512 := (y 1).isLt
  have h2 : (y 2).val < 128 := (y 2).isLt
  rw [ha]
  congr 2
  funext d
  fin_cases d
  · exact Fin.ext (by simpa using (show (y 0).val = 0 by omega))
  · exact Fin.ext (by simpa using (Nat.mod_eq_of_lt h1).symm)
  · exact Fin.ext (by simpa using (Nat.mod_eq_of_lt h2).symm)

theorem lowOps_finite {Q : Vec Ideal S1x512x128 .bf16} (hQ : AllFinite Q) : AllFinite (lowOps Q) := fun y => by
  obtain ⟨q, hq⟩ := hQ.entries
  exact ⟨_, lowOps_apply hq y⟩

theorem highOps_finite {Q : Vec Ideal S1x512x128 .bf16} (hQ : AllFinite Q) : AllFinite (highOps Q) := fun y => by
  obtain ⟨q, hq⟩ := hQ.entries
  exact ⟨_, highOps_apply hq y⟩

theorem twice_finite {sig : RefSig} {κ : Kind} {sp : Space} (v : View sig κ sp S1024x128 .bf16)
    {lo hi : S512x128.Idx → Ideal .bf16} (L : List (View.Piece (Elt Ideal) S1024x128 .bf16))
    (hlo : AllFinite lo) (hhi : AllFinite hi)
    (i1 : ∀ a, (![512, 0] : Fin 2 → ℕ) a + S512x128.size a ≤ S1024x128.size a)
    (i0 : ∀ a, (![0, 0] : Fin 2 → ℕ) a + S512x128.size a ≤ S1024x128.size a)
    {r0 : ℕ} (inb : ∀ a, (![r0, 0] : Fin 2 → ℕ) a + (![128, 128] : Fin 2 → ℕ) a ≤ S1024x128.size a) :
    AllFinite (s := ⟨2, ![128, 128]⟩) (v.readCov (⟨Rect.unit (s := S1024x128) ![512, 0] S512x128.size i1, hi⟩
        :: ⟨Rect.unit (s := S1024x128) ![0, 0] S512x128.size i0, lo⟩ :: L)
      (Rect.unit (s := S1024x128) ![r0, 0] ![128, 128] inb).toLoadRect) := fun y => by
  choose a ha using hlo
  choose b hb using hhi
  refine ⟨_, twice_read (f := fun r j => if r < 512 then a (ix2 (Fin.ofNat 512 r) (Fin.ofNat 128 j)) else b (ix2 (Fin.ofNat 512 (r - 512)) (Fin.ofNat 128 j)))
    v L (fun x => ?_) (fun x => ?_) i1 i0 inb y⟩
  · have h0 : (x 0).val < 512 := (x 0).isLt
    have h1 : (x 1).val < 128 := (x 1).isLt
    rw [ha, if_pos (by omega)]
    congr 2
    funext d
    fin_cases d
    · exact Fin.ext (by simpa using (Nat.mod_eq_of_lt h0).symm)
    · exact Fin.ext (by simpa using (Nat.mod_eq_of_lt h1).symm)
  · have h0 : (x 0).val < 512 := (x 0).isLt
    have h1 : (x 1).val < 128 := (x 1).isLt
    rw [hb, if_neg (by omega)]
    congr 2
    funext d
    fin_cases d
    · exact Fin.ext (by simpa using (Nat.mod_eq_of_lt h0).symm)
    · exact Fin.ext (by simpa using (Nat.mod_eq_of_lt h1).symm)

/-- The same piece as it is stored. -/
theorem score_stored {Q K B : ℕ → ℕ → ℝ} {r0 k0 k1 : ℕ} {tl tr : Vec Ideal S128x512 .f32} {q : Vec Ideal S128x128 .bf16}
    {k : Vec Ideal S1x1024x128 .bf16} (hk1 : k1 = k0 + 512)
    (hq : ∀ y, q y = ((Q (r0 + (y 0).val) (y 1).val : ℝ) : EReal)) (hk : ∀ y, k y = ((K (k0 + (y 1).val) (y 2).val : ℝ) : EReal))
    (hl : ∀ y, tl y = ((B (r0 + (y 0).val) (k0 + (y 1).val) : ℝ) : EReal))
    (hr : ∀ y, tr y = ((B (r0 + (y 0).val) (k1 + (y 1).val) : ℝ) : EReal)) (x : S128x1024.Idx) :
    shapeCast S128x1024 (scoreOps tl tr q k) shapeCasts_S128x1024_S128x1024 x
      = ((score Q K B (r0 + (x 0).val) (k0 + (x 1).val) : ℝ) : EReal) := by
  rw [shapeCast_self]
  exact score_piece hk1 hq hk hl hr x

/-! ## The values with a column of ones beside them -/

/-- The block of values with 128 columns of ones beside it. -/
theorem values_apply {X : Vec Ideal S1x2048x128 .bf16} (y : S2048x256.Idx) :
    k0_pay12 X y = if h : (y 1).val < 128 then X (ix3 0 (y 0) ⟨(y 1).val, h⟩) else 1 := by
  pointwise [k0_pay12]

/-- The gains as the kernel reads them. -/
theorem gains_apply (X : Vec Ideal S1x128 .f32) : k0_pay11 X = X := by
  unfold k0_pay11
  exact shapeCast_self _ _

theorem values_read {X : Vec Ideal S1x2048x128 .bf16} {v : ℕ → ℕ → ℝ} (hX : ∀ y, X y = ((v (y 1).val (y 2).val : ℝ) : EReal))
    (i : ∀ a, (![0, 0, 0] : Fin 3 → ℕ) a + S1x2048x128.size a ≤ S1x2048x128.size a)
    (i' : ∀ a, (![0, 0] : Fin 2 → ℕ) a + S2048x256.size a ≤ S2048x256.size a) (y : S2048x256.Idx) :
    View.ld (Val := Elt Ideal) (e' := .bf16) (k0_pay12 (View.ld X (Rect.unit ![0, 0, 0] S1x2048x128.size i))) (Rect.unit ![0, 0] S2048x256.size i') y
      = if (y 1).val < 128 then ((v (y 0).val (y 1).val : ℝ) : EReal) else 1 := by
  rw [View.ld_unit_lit' i' _ (by decide), View.ld_unit_lit' i _ (by decide), values_apply]
  split_ifs with h
  · rw [hX]; rfl
  · rfl

theorem gains_read {X : Vec Ideal S1x128 .f32} (i : ∀ a, (![0, 0] : Fin 2 → ℕ) a + S1x128.size a ≤ S1x128.size a) (c : Fin 128) :
    k0_pay11 (View.ld X (Rect.unit ![0, 0] S1x128.size i)) (ix2 0 c) = X (ix2 0 c) := by
  rw [View.ld_unit_lit' i _ (by decide), gains_apply]

/-! ## The tile's output -/

/-- A row of the output: the difference of the two halves' averages of the values, normalised. -/
def outRow (q k v β : ℕ → ℕ → ℝ) (l : ℝ) (g : Fin 128 → EReal) (i : ℕ) (c : Fin 128) : EReal :=
  rms128 (fun c => ((mixed (fun j : Fin 2048 => logit q k β 0 i j) (fun j => logit q k β 1 i j) l (fun j (c : Fin 128) => v j c) c : ℝ) : EReal)) g c

theorem tile_apply {q k v β σ : ℕ → ℕ → ℝ} {l : ℝ} {q0 : ℕ} {g : FVec Ideal S1x128 .f32} {lam : Elt Ideal .f32}
    {vv : Vec Ideal S2048x256 .bf16} {p1 p2 : Vec Ideal S512x2048 .bf16} {s : Vec Ideal S1024x2048 .f32} {mx : FVec Ideal S1024x1 .f32}
    {i1 i2}
    (h1 : p1 = View.ld (Val := Elt Ideal) (e' := .bf16) (weightOps s mx) (Rect.unit (s := S1024x2048) ![0, 0] S512x2048.size i1))
    (h2 : p2 = View.ld (Val := Elt Ideal) (e' := .bf16) (weightOps s mx) (Rect.unit (s := S1024x2048) ![512, 0] S512x2048.size i2))
    (hs : ∀ y, s y = ((score (twice q q0) k (slabAt σ q0) (y 0).val (y 1).val : ℝ) : EReal))
    (hmx : AllFinite mx) (hlam : lam = ((l : ℝ) : EReal))
    (hv : ∀ y, vv y = if (y 1).val < 128 then ((v (y 0).val (y 1).val : ℝ) : EReal) else 1)
    (hq : q0 % 512 = 0)
    (hσ : ∀ i j, i / 512 = q0 / 512 → j < 2048 → σ (i % 512) (512 * reach (i / 512) (j / 512) + j % 512) = β i j * (Real.log 2)⁻¹)
    {gE : Fin 128 → EReal} (hg : ∀ c, g (ix2 0 c) = gE c) (x : S1x512x128.Idx) :
    normOps g (diffOps lam vv p1 p2) x = outRow q k v β l gE (q0 + (x 1).val) (x 2) := by
  have hx : (x 1).val < 512 := (x 1).isLt
  have hS : ∀ y, s y = ((logit q k β ((y 0).val / 512) (q0 + (y 0).val % 512) (y 1).val * (Real.log 2)⁻¹ : ℝ) : EReal) := fun y => by
    rw [hs, score_eq q k β σ q0 _ _ (y 0).isLt hq fun i hi => hσ i _ hi (y 1).isLt]
  obtain ⟨M, hM⟩ : ∃ M : S1024x1.Idx → ℝ, ∀ i, mx i = ((M i : ℝ) : EReal) := ⟨fun i => (hmx i).choose, fun i => (hmx i).choose_spec⟩
  have avg : ∀ (p : Vec Ideal S512x2048 .bf16) (h : ℕ) (hh : h < 2) (i), p = View.ld (Val := Elt Ideal) (e' := .bf16) (weightOps s mx) (Rect.unit (s := S1024x2048) ![512 * h, 0] S512x2048.size i) →
      ∀ c : Fin 128, averageOps p vv (ix2 (x 1) c) = ((∑ j : Fin 2048, weight (fun j : Fin 2048 => logit q k β h (q0 + (x 1).val) j) j * v j c : ℝ) : EReal) := by
    intro p h hh i hp c
    have hr : 512 * h + (x 1).val < 1024 := by omega
    have hpe : ∀ j : Fin 2048, p (ix2 (x 1) j) = Ideal.exp2 (s (ix2 ⟨512 * h + (x 1).val, hr⟩ j) - (M (ix2 ⟨512 * h + (x 1).val, hr⟩ 0) : EReal)) := fun j => by
      rw [hp]
      refine (View.ld_unit_apply_of (S := S1024x2048) (Val := Elt Ideal) (e := .bf16) (weightOps s mx) ![512 * h, 0] S512x2048.size i (ix2 (x 1) j) (ix2 ⟨512 * h + (x 1).val, hr⟩ j)
        (fun a => by fin_cases a <;> simp)).trans ?_
      rw [weightOps_apply, hM]
      rfl
    rw [averageOps_apply]
    refine Eq.trans ?_ (div_exp2 (fun j : Fin 2048 => logit q k β h (q0 + (x 1).val) j) (M (ix2 ⟨512 * h + (x 1).val, hr⟩ 0)) (fun j : Fin 2048 => v j c)
      (fun j => s (ix2 ⟨512 * h + (x 1).val, hr⟩ j)) (fun j => ?_))
    · congr 1
      · refine Finset.sum_congr rfl fun j _ => congrArg₂ (· * ·) (hpe j) ((hv _).trans (if_pos c.isLt))
      · refine Finset.sum_congr rfl fun j _ => congrArg₂ (· * ·) (hpe j) ((hv _).trans (if_neg (by simp)))
    · rw [hS]
      show (((logit q k β ((512 * h + (x 1).val) / 512) (q0 + (512 * h + (x 1).val) % 512) j.val) * _ : ℝ) : EReal) = _
      rw [show (512 * h + (x 1).val) / 512 = h by omega, show (512 * h + (x 1).val) % 512 = (x 1).val by omega]
  rw [normOps_apply, show (fun c => g (ix2 0 c)) = gE from funext hg]
  unfold outRow
  congr 1
  funext c
  show averageOps p1 vv _ - lam * averageOps p2 vv _ = _
  rw [avg p1 0 (by omega) i1 h1, avg p2 1 (by omega) i2 h2, hlam]
  exact mixed_eq _ _ _ (fun (j : Fin 2048) (c : Fin 128) => v j c) c

/-- The output block, from its four tiles. -/
theorem block_read (F : ℕ → Fin 128 → EReal) {w0 w1 w2 w3 : S1x512x128.Idx → Ideal .bf16}
    (i0 : ∀ a, (![0, 0, 0] : Fin 3 → ℕ) a + S1x512x128.size a ≤ S1x2048x128.size a)
    (i1 : ∀ a, (![0, 512, 0] : Fin 3 → ℕ) a + S1x512x128.size a ≤ S1x2048x128.size a)
    (i2 : ∀ a, (![0, 1024, 0] : Fin 3 → ℕ) a + S1x512x128.size a ≤ S1x2048x128.size a)
    (i3 : ∀ a, (![0, 1536, 0] : Fin 3 → ℕ) a + S1x512x128.size a ≤ S1x2048x128.size a)
    (h0 : ∀ x, w0 x = F (0 + (x 1).val) (x 2)) (h1 : ∀ x, w1 x = F (512 + (x 1).val) (x 2))
    (h2 : ∀ x, w2 x = F (1024 + (x 1).val) (x 2)) (h3 : ∀ x, w3 x = F (1536 + (x 1).val) (x 2)) (y : S1x2048x128.Idx) :
    View.canon (Val := Elt Ideal) (e := .bf16) [⟨Rect.unit (s := S1x2048x128) ![0, 1536, 0] S1x512x128.size i3, w3⟩,
      ⟨Rect.unit (s := S1x2048x128) ![0, 1024, 0] S1x512x128.size i2, w2⟩, ⟨Rect.unit (s := S1x2048x128) ![0, 512, 0] S1x512x128.size i1, w1⟩,
      ⟨Rect.unit (s := S1x2048x128) ![0, 0, 0] S1x512x128.size i0, w0⟩] y = F (y 1).val (y 2) := by
  let P : List (View.Piece (Elt Ideal) S1x2048x128 .bf16) := [⟨Rect.unit (s := S1x2048x128) ![0, 1536, 0] S1x512x128.size i3, w3⟩,
      ⟨Rect.unit (s := S1x2048x128) ![0, 1024, 0] S1x512x128.size i2, w2⟩, ⟨Rect.unit (s := S1x2048x128) ![0, 512, 0] S1x512x128.size i1, w1⟩,
      ⟨Rect.unit (s := S1x2048x128) ![0, 0, 0] S1x512x128.size i0, w0⟩]
  have at' : ∀ (o : ℕ) (w : S1x512x128.Idx → Ideal .bf16) (i : ∀ a, (![0, o, 0] : Fin 3 → ℕ) a + S1x512x128.size a ≤ S1x2048x128.size a),
      (∀ x, w x = F (o + (x 1).val) (x 2)) → ∀ x : S1x512x128.Idx, w x = (fun z : S1x2048x128.Idx => F (z 1).val (z 2))
        ((Rect.unit (s := S1x2048x128) ![0, o, 0] S1x512x128.size i).emb x) := fun o w i h x => by
    rw [h]
    show F (o + _) _ = F (o + 1 * _) _
    rw [Nat.one_mul]
    congr 1
    apply Fin.ext
    show _ = 0 + 1 * _
    rw [Nat.one_mul, Nat.zero_add]
  have hP : View.PiecesOf (fun z : S1x2048x128.Idx => F (z 1).val (z 2)) P :=
    ⟨at' 1536 w3 i3 h3, at' 1024 w2 i2 h2, at' 512 w1 i1 h1, at' 0 w0 i0 h0, trivial⟩
  exact View.canon_append_of_piecesOf _ [] P hP y (View.cover_of_tiledL P S1x512x128.size (by sl_kernel_rfl) _)

end Cert.AttnIdeal.Val

end
-- ==== Proof.AttnBucket.lean ====
/-
  The relative position's bucket as a word: sixteen buckets for each sign, the first eight exact, the others logarithmic
  and the last one saturated.
-/
module

public import Idealize.ShloMosaic.Lib.Pointwise
public import Mathlib.Analysis.SpecialFunctions.Log.Basic

@[expose] public section

noncomputable section

namespace Cert.Bucket

open Idealize.ShloMosaic

/-- Eight plus the logarithmic part for distance `n`, before the cut at fifteen. -/
def largeWord (n : BitVec 32) : BitVec 32 :=
  IntOp.addi 8#32 (Ideal.fptosi 32 (Ideal.div (Ideal.log (Ideal.div (((IntOp.maxsi n 1#32).toInt : ℝ) : EReal) (Ideal.ofBits .f32 0x41000000#32)))
    (Ideal.ofBits .f32 0x40317218#32) * Ideal.ofBits .f32 0x41000000#32))

/-- The bucket of the distance `r`. -/
def bucketWord (r : BitVec 32) : BitVec 32 :=
  IntOp.addi (Scalar.select (IntOp.cmpi .sgt r 0#32) 16#32 0#32)
    (Scalar.select (IntOp.cmpi .slt (IntOp.absi r) 8#32) (IntOp.absi r) (IntOp.minsi (largeWord (IntOp.absi r)) 15#32))

theorem eight_word : Ideal.ofBits .f32 0x41000000#32 = ((8 : ℝ) : EReal) := by simp [Ideal.ofBits, Ideal.ieee]; rw [← EReal.coe_mul]; norm_num
theorem log_word : Ideal.ofBits .f32 0x40317218#32 = ((11629080 / 4194304 : ℝ) : EReal) := by simp [Ideal.ofBits, Ideal.ieee]; rw [← EReal.coe_mul]; norm_num

/-- The logarithmic part over the reals, for a distance of at least eight. -/
theorem large_eq {n : ℕ} (h8 : 8 ≤ n) (hn : n < 4096) : ∃ k : ℕ, k < 5000 ∧ largeWord (BitVec.ofNat 32 n) = BitVec.ofNat 32 (8 + k)
    ∧ (512 ≤ n → 7 ≤ k) := by
  have hm : (IntOp.maxsi (BitVec.ofNat 32 n) 1#32).toInt = (n : ℤ) := by
    have e : (BitVec.ofNat 32 n).toInt = (n : ℤ) := by
      rw [BitVec.toInt_eq_toNat_cond, BitVec.toNat_ofNat]; omega
    unfold IntOp.maxsi
    have : (1#32).slt (BitVec.ofNat 32 n) = true := by
      rw [BitVec.slt_iff_toInt_lt, e]
      show (1 : ℤ) < n
      omega
    first
    | (rw [if_neg (by rw [BitVec.slt_iff_toInt_lt, e]; show ¬ ((n : ℤ) < 1); omega)]; exact e)
    | simp [this, e]
  have hpos : (0 : ℝ) < (n : ℝ) / 8 := by have : (8 : ℝ) ≤ n := by exact_mod_cast h8
                                          positivity
  have hx : Ideal.div (((IntOp.maxsi (BitVec.ofNat 32 n) 1#32).toInt : ℝ) : EReal) (Ideal.ofBits .f32 0x41000000#32) = (((n : ℝ) / 8 : ℝ) : EReal) := by
    rw [hm, eight_word, Ideal.div_coe (by norm_num), ← EReal.coe_mul]
    rw [show (n : ℝ) / 8 = ((n : ℤ) : ℝ) * (1 / 8) by push_cast; ring]
  have hl : Ideal.log (((n : ℝ) / 8 : ℝ) : EReal) = ((Real.log ((n : ℝ) / 8) : ℝ) : EReal) := by
    show (if (n : ℝ) / 8 ≤ 0 then (⊥ : EReal) else _) = _
    rw [if_neg (not_le.2 hpos)]
  set L := Real.log ((n : ℝ) / 8) with hL
  have h8' : (8 : ℝ) ≤ n := by exact_mod_cast h8
  have hn' : (n : ℝ) < 4096 := by exact_mod_cast hn
  have L0 : 0 ≤ L := Real.log_nonneg (by linarith)
  have L1 : L ≤ (n : ℝ) / 8 - 1 := Real.log_le_sub_one_of_pos hpos
  set z : ℝ := L / (11629080 / 4194304) * 8 with hz
  have z0 : 0 ≤ z := by positivity
  have z1 : z < 5000 := by
    have : z = L * (8 * (4194304 / 11629080)) := by rw [hz]; ring
    rw [this]; nlinarith
  have hw : largeWord (BitVec.ofNat 32 n) = IntOp.addi 8#32 (Ideal.fptosi 32 (z : EReal)) := by
    unfold largeWord
    rw [hx, hl, log_word, eight_word, Ideal.div_coe (by norm_num), ← EReal.coe_mul, ← EReal.coe_mul, hz]
    congr 4
    ring
  have hf : (0 : ℤ) ≤ ⌊z⌋ := Int.floor_nonneg.2 z0
  have hf' : ⌊z⌋ < (5000 : ℤ) := Int.floor_lt.2 (by exact_mod_cast z1)
  have hc : Ideal.fptosi 32 (z : EReal) = BitVec.ofInt 32 ⌊z⌋ := by
    unfold Ideal.fptosi
    congr 1
    show max _ (min _ (if 0 ≤ z then ⌊z⌋ else ⌈z⌉)) = _
    rw [if_pos z0]
    norm_num
    omega
  refine ⟨⌊z⌋.toNat, by omega, ?_, fun h512 => ?_⟩
  · rw [hw, hc]
    show (8#32) + _ = _
    obtain ⟨k, hk⟩ := Int.eq_ofNat_of_zero_le hf
    rw [hk, BitVec.ofNat_add]
    rfl
  · have : (7 : ℝ) ≤ z := by
      have h512' : (512 : ℝ) ≤ n := by exact_mod_cast h512
      have hlog : Real.log 64 ≤ L := Real.log_le_log (by norm_num) (by linarith)
      have h64 : Real.log 64 = 6 * Real.log 2 := by
        rw [show (64 : ℝ) = 2 ^ 6 by norm_num, Real.log_pow]; norm_num
      have h2 : (1 : ℝ) - 2⁻¹ ≤ Real.log 2 := Real.one_sub_inv_le_log_of_pos (by norm_num)
      have : z = L * (8 * (4194304 / 11629080)) := by rw [hz]; ring
      rw [this]; nlinarith
    have : (7 : ℤ) ≤ ⌊z⌋ := Int.le_floor.2 (by exact_mod_cast this)
    omega

/-- The unsigned part of the bucket for distance `n`: below sixteen, and fifteen from 512 on. -/
theorem part_eq {n : ℕ} (hn : n < 4096) : ∃ k : ℕ, k < 16 ∧ (512 ≤ n → k = 15)
    ∧ Scalar.select (IntOp.cmpi .slt (BitVec.ofNat 32 n) 8#32) (BitVec.ofNat 32 n) (IntOp.minsi (largeWord (BitVec.ofNat 32 n)) 15#32)
      = BitVec.ofNat 32 k := by
  have toI : ∀ m : ℕ, m < 10000 → (BitVec.ofNat 32 m).toInt = (m : ℤ) := fun m h => by
    rw [BitVec.toInt_eq_toNat_cond, BitVec.toNat_ofNat]; omega
  rcases Nat.lt_or_ge n 8 with h | h
  · refine ⟨n, by omega, by omega, ?_⟩
    have : (BitVec.ofNat 32 n).slt 8#32 = true := by
      rw [BitVec.slt_iff_toInt_lt, toI _ (by omega)]; show (n : ℤ) < 8; omega
    simp [Scalar.select, IntOp.cmpi, this]
  · obtain ⟨k, hk, e, h7⟩ := large_eq h hn
    refine ⟨min (8 + k) 15, by omega, by omega, ?_⟩
    have : (BitVec.ofNat 32 n).slt 8#32 = false := by
      rw [Bool.eq_false_iff, ne_eq, BitVec.slt_iff_toInt_lt, toI _ (by omega)]; show ¬ (n : ℤ) < 8; omega
    rw [e]
    simp only [Scalar.select, IntOp.cmpi, this, IntOp.minsi]
    rcases Nat.lt_or_ge (8 + k) 15 with g | g
    · have : (BitVec.ofNat 32 (8 + k)).slt 15#32 = true := by
        rw [BitVec.slt_iff_toInt_lt, toI _ (by omega)]; show ((8 + k : ℕ) : ℤ) < 15; omega
      simp [this, min_eq_left g.le]
    · have : (BitVec.ofNat 32 (8 + k)).slt 15#32 = false := by
        rw [Bool.eq_false_iff, ne_eq, BitVec.slt_iff_toInt_lt, toI _ (by omega)]; show ¬ ((8 + k : ℕ) : ℤ) < 15; omega
      simp [this, min_eq_right g]

/-- The distance of a word that is an integer, as a word. -/
theorem absi_eq {r : ℤ} (h : r.natAbs < 4096) : IntOp.absi (BitVec.ofInt 32 r) = BitVec.ofNat 32 r.natAbs := by
  unfold IntOp.absi
  have e : (BitVec.ofInt 32 r).toInt = r := by
    rw [BitVec.toInt_ofInt]; simp only [Int.bmod_def]; omega
  rw [BitVec.msb_eq_toInt, e]
  rcases Int.lt_or_le r 0 with g | g
  · rw [decide_eq_true g, if_pos rfl, ← BitVec.ofInt_neg, show -r = (r.natAbs : ℤ) by omega]
    rfl
  · rw [decide_eq_false (by omega), if_neg (by decide), show r = (r.natAbs : ℤ) by omega]
    rfl

/-- The bucket of an integer distance: below 32, 31 from 512 on and 15 up to −512. -/
theorem bucket_eq {r : ℤ} (h : r.natAbs < 4096) : ∃ k : ℕ, k < 32 ∧ bucketWord (BitVec.ofInt 32 r) = BitVec.ofNat 32 k
    ∧ (512 ≤ r → k = 31) ∧ (r ≤ -512 → k = 15) := by
  obtain ⟨k, hk, h15, e⟩ := part_eq h
  have er : (BitVec.ofInt 32 r).toInt = r := by
    rw [BitVec.toInt_ofInt]; simp only [Int.bmod_def]; omega
  unfold bucketWord
  rw [absi_eq h, e]
  rcases Int.lt_or_le 0 r with g | g
  · refine ⟨16 + k, by omega, ?_, by omega, by omega⟩
    have : (0#32).slt (BitVec.ofInt 32 r) = true := by
      rw [BitVec.slt_iff_toInt_lt, er]; exact g
    simp [Scalar.select, IntOp.cmpi, IntOp.addi, this, BitVec.ofNat_add]
  · refine ⟨k, by omega, ?_, by omega, by omega⟩
    have : (0#32).slt (BitVec.ofInt 32 r) = false := by
      rw [Bool.eq_false_iff, ne_eq, BitVec.slt_iff_toInt_lt, er]; exact not_lt.2 g
    simp [Scalar.select, IntOp.cmpi, IntOp.addi, this]

/-- The bucket of an integer distance as a number. -/
def bucket (r : ℤ) : ℕ := (bucketWord (BitVec.ofInt 32 r)).toNat

theorem bucket_word {r : ℤ} (h : r.natAbs < 4096) : bucketWord (BitVec.ofInt 32 r) = BitVec.ofNat 32 (bucket r) := by
  simp [bucket]

theorem bucket_lt {r : ℤ} (h : r.natAbs < 4096) : bucket r < 32 := by
  obtain ⟨k, hk, e, -, -⟩ := bucket_eq h
  simp only [bucket, e, BitVec.toNat_ofNat]; omega

/-- Beyond 512 on either side the bucket no longer moves. -/
theorem bucket_far {r s : ℤ} (hr : r.natAbs < 4096) (hs : s.natAbs < 4096) (h : (512 ≤ r ∧ 512 ≤ s) ∨ (r ≤ -512 ∧ s ≤ -512)) :
    bucket r = bucket s := by
  obtain ⟨k, hk, e, a, b⟩ := bucket_eq hr
  obtain ⟨k', hk', e', a', b'⟩ := bucket_eq hs
  have : k = k' := by omega
  simp only [bucket, e, e', this]

end Cert.Bucket

end
-- ==== Proof.AttnRef.lean ====
/-
  The attention's reference over the reals, stage by stage: the buckets, the bias looked up in the table, the logits, the softmax
  weights and the difference of the two averages. Every stage is read at an index.
-/
module

public import proofs.«01_k».proof.Defs
public import proofs.«01_k».proof.Proof.Gen.AttnRefIdeal.Run
public import proofs.«01_k».proof.Proof.AttnTile
public import proofs.«01_k».proof.Proof.AttnBucket

@[expose] public section

set_option maxRecDepth 16384

noncomputable section

namespace Cert.AttnRefIdeal.Val

open Cert.AttnRefIdeal Idealize.ShloMosaic Idealize.ShloMosaic.TcCoe Idealize.SL.Sem
open Cert.AttnRefIdeal.Value
open Cert.Bucket Cert.Soft

/-- The distance of two positions, as a word. -/
theorem dist_word (i j : Fin 2048) : IntOp.subi (BitVec.ofNat 32 j.val) (BitVec.ofNat 32 i.val) = BitVec.ofInt 32 ((j.val : ℤ) - (i.val : ℤ)) := by
  apply BitVec.eq_of_toInt_eq
  show (BitVec.ofNat 32 j.val - BitVec.ofNat 32 i.val).toInt = _
  rw [BitVec.toInt_sub, BitVec.toInt_ofInt, BitVec.toInt_eq_toNat_cond, BitVec.toInt_eq_toNat_cond, BitVec.toNat_ofNat, BitVec.toNat_ofNat]
  congr 1
  omega

theorem near (i j : Fin 2048) : ((j.val : ℤ) - (i.val : ℤ)).natAbs < 4096 := by omega

theorem v52_at (V0 : Valuation τ sig (Elt Ideal)) (i j : Fin 2048) :
    res_main_v52 V0 (ix2 i j) = BitVec.ofNat 32 (bucket ((j.val : ℤ) - (i.val : ℤ))) := by
  rw [← bucket_word (near i j), ← dist_word]
  unfold res_main_v52
  simp only [id]
  pointwise [res_main_v32, res_main_v28, res_main_v22]
  rfl

/-- A wrapped negative index: buckets are not negative, so nothing is wrapped. -/
theorem wrap_word {k : ℕ} (h : k < 32) :
    Scalar.select (IntOp.cmpi .slt (BitVec.ofNat 32 k) 0#32) (IntOp.addi (BitVec.ofNat 32 k) 32#32) (BitVec.ofNat 32 k) = BitVec.ofNat 32 k := by
  have : (BitVec.ofNat 32 k).slt 0#32 = false := by
    rw [Bool.eq_false_iff, ne_eq, BitVec.slt_iff_toInt_lt, BitVec.toInt_eq_toNat_cond, BitVec.toNat_ofNat]
    show ¬ _ < (0 : ℤ)
    omega
  simp [Scalar.select, IntOp.cmpi, this]

/-- The table read through the gather. -/
theorem table_gather [Facts₀] (x : Vec Ideal S8x32 .f32) (idx : IVec S2048x2048x1 32) (h : Fin 8) (i j : Fin 2048) {k : Fin 32}
    (hk : idx (ix3 i j 0) = BitVec.ofNat 32 k.val) :
    Host.gather gather_S8x32_S2048x2048x1_S8x2048x2048_0_1_n_n_1_2_81 x idx (ix3 h i j) = x (ix2 h k) := by
  unfold Host.gather
  congr 1
  set D := gather_S8x32_S2048x2048x1_S8x2048x2048_0_1_n_n_1_2_81 with hD
  funext a
  refine Fin.ext ?_
  show D.start (ix3 h i j) idx a + D.batchCoord (ix3 h i j) a + D.offCoord (ix3 h i j) a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · unfold GatherDims.start GatherDims.offCoord
    have h0 : (0 : Fin 2) ∉ D.startIndexMap := fun g => absurd (List.mem_singleton.1 g) (by decide)
    have h1 : (0 : Fin 2) ∈ D.sKept := (GatherDims.mem_sKept _ _).2 ⟨fun g => absurd (List.mem_singleton.1 g) (by decide), List.not_mem_nil⟩
    rw [dif_neg h0, dif_pos h1]
    simp only [Nat.zero_add]
    rfl
  · rw [GatherDims.offCoord_eq_zero _ _ _ (fun h => ((GatherDims.mem_sKept _ _).mp h).1 (List.mem_singleton.mpr rfl))]
    unfold GatherDims.start
    have hm : (1 : Fin 2) ∈ D.startIndexMap := List.mem_singleton.mpr rfl
    rw [dif_pos hm]
    have hsi : D.siIdx (ix3 h i j) ⟨List.idxOf (1 : Fin 2) D.startIndexMap, List.idxOf_lt_length_iff.2 hm⟩ = ix3 i j 0 := by
      funext b; refine Fin.ext ?_
      match b with
      | ⟨0, _⟩ => rfl
      | ⟨1, _⟩ => rfl
      | ⟨2, _⟩ => rfl
    have hv : ∀ n : ℕ, n < 32 → min (BitVec.ofNat 32 n).toInt.toNat 31 = n := fun n h => by
      rw [BitVec.toInt_eq_toNat_cond, BitVec.toNat_ofNat]; omega
    simp only [Nat.add_zero]
    refine Eq.trans ?_ (hv k.val k.isLt)
    rw [← hk, ← hsi]
    rfl

/-- The entry `(b, i, c)` of a finite array as a real number, zero outside. -/
def entry (A : Vec Ideal S32x2048x3072 .f32) (b i c : ℕ) : ℝ :=
  if h : b < 32 ∧ i < 2048 ∧ c < 3072 then EReal.toReal (A (ix3 ⟨b, h.1⟩ ⟨i, h.2.1⟩ ⟨c, h.2.2⟩)) else 0

/-- The bias of a query and a key. -/
def bias (B : Vec Ideal S32x8 .f32) (h i j : ℕ) : ℝ :=
  if g : h < 8 ∧ bucket ((j : ℤ) - (i : ℤ)) < 32 then EReal.toReal (B (ix2 ⟨bucket ((j : ℤ) - (i : ℤ)), g.2⟩ ⟨h, g.1⟩)) else 0

theorem Finite.toReal {x : EReal} (h : Finite x) : x = ((EReal.toReal x : ℝ) : EReal) := by
  obtain ⟨r, rfl⟩ := h; rfl

theorem entry_eq {A : Vec Ideal S32x2048x3072 .f32} (h : ∀ i, Finite (A i)) (b : Fin 32) (i : Fin 2048) (c : Fin 3072) :
    A (ix3 b i c) = ((entry A b i c : ℝ) : EReal) := by
  rw [entry, dif_pos ⟨b.isLt, i.isLt, c.isLt⟩]
  exact Finite.toReal (h _)

theorem bias_eq {B : Vec Ideal S32x8 .f32} (hB : ∀ i, Finite (B i)) (h : Fin 8) (i j : Fin 2048) (g) :
    B (ix2 ⟨bucket ((j.val : ℤ) - (i.val : ℤ)), g⟩ h) = ((bias B h i j : ℝ) : EReal) := by
  rw [bias, dif_pos ⟨h.isLt, g⟩]
  exact Finite.toReal (hB _)

/-- The logits of head `h` of batch row `b`. -/
def lg (A : Vec Ideal S32x2048x3072 .f32) (B : Vec Ideal S32x8 .f32) (b h e i j : ℕ) : ℝ :=
  Cert.AttnIdeal.Val.logit (fun i c => entry A b i (h * 128 + c)) (fun j c => entry A b j (1024 + (h * 128 + c))) (bias B h) e i j

theorem eighth_word : Ideal.ofBits .f32 0x3E000000#32 = ((1 / 8 : ℝ) : EReal) := by
  simp [Ideal.ofBits, Ideal.ieee]; rw [← EReal.coe_mul]; norm_num

theorem v65_at (V0 : Valuation τ sig (Elt Ideal)) (hA : ∀ i, Finite (V0 (Proc.tc.devRef main_arg0) i)) (hB : ∀ i, Finite (V0 (Proc.tc.devRef main_arg3) i))
    (b : Fin 32) (h : Fin 8) (e : Fin 2) (i j : Fin 2048) :
    res_main_v65 V0 (ix5 b h e i j) = ((lg (V0 (Proc.tc.devRef main_arg0)) (V0 (Proc.tc.devRef main_arg3)) b h e i j : ℝ) : EReal) := by
  pointwise [res_main_v65]
  rw [table_gather (k := ⟨bucket ((j.val : ℤ) - (i.val : ℤ)), bucket_lt (near i j)⟩)]
  · pointwise []
    simp only [entry_eq hA, bias_eq hB, eighth_word]
    simp only [← EReal.coe_mul, ← coe_sum, ← EReal.coe_add]
    congr 1
    unfold lg Cert.AttnIdeal.Val.logit
    congr 1
    rw [mul_one_div]
    congr 1
    refine Finset.sum_congr rfl fun x _ => ?_
    simp only [Nat.add_assoc, Nat.mul_comm 64]
  · pointwise []
    rw [v52_at]
    exact wrap_word (bucket_lt (near i j))

/-- The maximum of finite numbers over a set of indices that is not empty, taken from `-∞` on, is finite. -/
theorem fold_finite {ι : Type*} (f : ι → EReal) (hf : ∀ i, Finite (f i)) (s : Finset ι) (a : ι) (ha : a ∈ s) :
    Finite (Finset.fold max (Ideal.ofBits .f32 0xFF800000#32) f s) := by
  have hw : Ideal.ofBits .f32 0xFF800000#32 = (⊥ : EReal) := by simp [Ideal.ofBits, Ideal.ieee]
  rw [hw]
  refine Finite.iff.2 ⟨bot_lt_iff_ne_bot.1 ((Finset.lt_fold_max _).2 (Or.inr ⟨a, ha, bot_lt_iff_ne_bot.2 (Finite.iff.1 (hf a)).1⟩)), ?_⟩
  exact lt_top_iff_ne_top.1 ((Finset.fold_max_lt _).2 ⟨by exact bot_lt_top, fun i _ => lt_top_iff_ne_top.2 (Finite.iff.1 (hf i)).2⟩)

/-- The row maxima of finite logits are finite. -/
theorem max_finite (X : FVec Ideal S32x8x2x2048x2048 .f32) (hX : ∀ x, Finite (X x)) (b : Fin 32) (h : Fin 8) (e : Fin 2) (i : Fin 2048) :
    Soft.Finite (Host.reduce (FloatOps.maximumf (F := Ideal) (φ := .f32)) X (constant (F := Ideal) S_ .f32 0xFF800000#32) Gen.reducesTo_S32x8x2x2048x2048_S32x8x2x2048_d4 Gen.h_S_ (ix4 b h e i)) := by
  pointwise []
  exact fold_finite _ (fun x => hX _) _ 0 (Finset.mem_univ _)

theorem exp_shift (X : FVec Ideal S32x8x2x2048x2048 .f32) (R : FVec Ideal S32x8x2x2048 .f32) (b : Fin 32) (h : Fin 8) (e : Fin 2) (i j : Fin 2048) :
    Host.exp (subf X (broadcastInDim S32x8x2x2048x2048 ![0, 1, 2, 3, 4] Gen.bcast_S32x8x2x2048x1_S32x8x2x2048x2048_0_1_2_3_4
      (broadcastInDim S32x8x2x2048x1 ![0, 1, 2, 3] Gen.bcast_S32x8x2x2048_S32x8x2x2048x1_0_1_2_3
        (maximumf (broadcastInDim S32x8x2x2048 ![] Gen.bcast_S_S32x8x2x2048 (constant S_ .f32 0xFF800000#32)) R)))) (ix5 b h e i j)
      = Ideal.exp (X (ix5 b h e i j) - max (Ideal.ofBits .f32 0xFF800000#32) (R (ix4 b h e i))) := by
  pointwise []

theorem v72_raw (V0 : Valuation τ sig (Elt Ideal)) (hf : ∀ x, Soft.Finite (res_main_v65 V0 x)) (b : Fin 32) (h : Fin 8) (e : Fin 2) (i : Fin 2048) :
    ∃ M : ℝ, ∀ j : Fin 2048, res_main_v72 V0 (ix5 b h e i j) = Ideal.exp (HSub.hSub (α := EReal) (β := EReal) (γ := EReal) (res_main_v65 V0 (ix5 b h e i j)) (M : EReal)) := by
  obtain ⟨r, hr⟩ := max_finite (res_main_v65 V0) hf b h e i
  refine ⟨r, fun j => ?_⟩
  have hw : Ideal.ofBits .f32 0xFF800000#32 = (⊥ : EReal) := by simp [Ideal.ofBits, Ideal.ieee]
  unfold res_main_v72
  refine (exp_shift _ _ b h e i j).trans ?_
  rw [hr, hw, max_eq_right bot_le]

end Cert.AttnRefIdeal.Val

end
-- ==== Proof.AttnRefB.lean ====
/-
  The attention's reference over the reals: the softmax weights, the difference of the two averages and the normalised rows.
-/
module

public import proofs.«01_k».proof.Proof.AttnRef

@[expose] public section

set_option maxRecDepth 16384

noncomputable section

namespace Cert.AttnRefIdeal.Val

open Cert.AttnRefIdeal Idealize.ShloMosaic Idealize.ShloMosaic.TcCoe Idealize.SL.Sem
open Cert.AttnRefIdeal.Value
open Cert.Bucket Cert.Soft

/-- Lambda as a real number. -/
def lamr (L : Vec Ideal S4x64 .f32) : ℝ := EReal.toReal (Ideal.exp (∑ x : Fin 64, L (ix2 0 x) * L (ix2 1 x)) - Ideal.exp (∑ x : Fin 64, L (ix2 2 x) * L (ix2 3 x))
  + Ideal.ofBits .f32 0x3EB60549#32)

theorem lamr_eq {L : Vec Ideal S4x64 .f32} (hL : ∀ i, Soft.Finite (L i)) :
    Ideal.exp (∑ x : Fin 64, L (ix2 0 x) * L (ix2 1 x)) - Ideal.exp (∑ x : Fin 64, L (ix2 2 x) * L (ix2 3 x)) + Ideal.ofBits .f32 0x3EB60549#32 = ((lamr L : ℝ) : EReal) := by
  refine Finite.toReal (((Finite.sum _ _ fun x => (hL _).mul (hL _)).exp.sub (Finite.sum _ _ fun x => (hL _).mul (hL _)).exp).add ?_)
  simp [Ideal.ofBits, Ideal.ieee]
  rw [← EReal.coe_mul]
  exact Finite.coe _

theorem half0_at (W : FVec Ideal S32x8x2x2048x2048 .f32) (b : Fin 32) (h : Fin 8) (i j : Fin 2048) (p q) :
    shapeCast S32x8x2048x2048 (extractStridedSlice S32x8x1x2048x2048 ![0, 0, 0, 0, 0] W p) q (ix4 b h i j) = W (ix5 b h 0 i j) := by
  pointwise []

theorem half1_at (W : FVec Ideal S32x8x2x2048x2048 .f32) (b : Fin 32) (h : Fin 8) (i j : Fin 2048) (p q) :
    shapeCast S32x8x2048x2048 (extractStridedSlice S32x8x1x2048x2048 ![0, 0, 1, 0, 0] W p) q (ix4 b h i j) = W (ix5 b h 1 i j) := by
  pointwise []

theorem values_at (A : FVec Ideal S32x2048x3072 .f32) (b : Fin 32) (h : Fin 8) (j : Fin 2048) (d : Fin 128) (p q) :
    shapeCast S32x2048x8x128 (extractStridedSlice S32x2048x1024 ![0, 0, 2048] A p) q (ix4 b j h d) = A (ix3 b j ⟨2048 + (h.val * 128 + d.val), by omega⟩) := by
  pointwise []

theorem form_at (P : FVec Ideal S32x2048x8x128 .f32) (U V : FVec Ideal S32x8x2048x2048 .f32) (L : FVec Ideal S_ .f32) (b : Fin 32) (i : Fin 2048) (h : Fin 8) (d : Fin 128) (pt pb) :
    transpose S32x2048x8x128 [0, 3, 1, 2] (Host.dotGeneral dot_S32x2048x8x128_S32x8x2048x2048_S32x8x128x2048_1_3_3_2_02_01 none P
      (subf U (mulf (broadcastInDim S32x8x2048x2048 ![] pb L) V)) : FVec Ideal S32x8x128x2048 .f32) pt (ix4 b i h d)
      = ∑ x : Fin 2048, P (ix4 b x h d) * (U (ix4 b h i x) - L ix0 * V (ix4 b h i x)) := by
  pointwise []

theorem lam_at (A : FVec Ideal S4x64 .f32) (p0 p1 p2 p3 q0 q1 q2 q3) (r0 r1 : S64.ReducesTo [0] S_) (s0 s1) :
    (addf (subf (Host.exp (Host.reduceAdd (mulf (shapeCast S64 (extractStridedSlice S1x64 ![0, 0] A p0) q0) (shapeCast S64 (extractStridedSlice S1x64 ![1, 0] A p1) q1)) (constant S_ .f32 0x00000000#32) r0 s0))
     (Host.exp (Host.reduceAdd (mulf (shapeCast S64 (extractStridedSlice S1x64 ![2, 0] A p2) q2) (shapeCast S64 (extractStridedSlice S1x64 ![3, 0] A p3) q3)) (constant S_ .f32 0x00000000#32) r1 s1))) (constant S_ .f32 0x3EB60549#32) : FVec Ideal S_ .f32) ix0
    = Ideal.exp (∑ x : Fin 64, A (ix2 0 x) * A (ix2 1 x)) - Ideal.exp (∑ x : Fin 64, A (ix2 2 x) * A (ix2 3 x)) + Ideal.ofBits .f32 0x3EB60549#32 := by
  pointwise []

variable (V0 : Valuation τ sig (Elt Ideal)) (hA : ∀ i, Soft.Finite (V0 (Proc.tc.devRef main_arg0) i)) (hB : ∀ i, Soft.Finite (V0 (Proc.tc.devRef main_arg3) i))
include hA hB

theorem v76_at (b : Fin 32) (h : Fin 8) (e : Fin 2) (i j : Fin 2048) :
    res_main_v76 V0 (ix5 b h e i j) = ((weight (fun j : Fin 2048 => lg (V0 (Proc.tc.devRef main_arg0)) (V0 (Proc.tc.devRef main_arg3)) b h e i j) j : ℝ) : EReal) := by
  have hf : ∀ x, Soft.Finite (res_main_v65 V0 x) := fun x => by
    obtain ⟨b, h, e, i, j, rfl⟩ : ∃ (b : Fin 32) (h : Fin 8) (e : Fin 2) (i j : Fin 2048), x = ix5 b h e i j := ⟨_, _, _, _, _, eq_ix5 x⟩
    rw [v65_at V0 hA hB]; exact Finite.coe _
  obtain ⟨M, hM⟩ := v72_raw V0 hf b h e i
  pointwise [res_main_v76]
  simp only [hM, v65_at V0 hA hB]
  exact div_exp (fun j : Fin 2048 => lg (V0 (Proc.tc.devRef main_arg0)) (V0 (Proc.tc.devRef main_arg3)) b h e i j) M j

theorem v85_at (hL : ∀ i, Soft.Finite (V0 (Proc.tc.devRef main_arg1) i)) (b : Fin 32) (i : Fin 2048) (h : Fin 8) (d : Fin 128) :
    res_main_v85 V0 (ix4 b i h d) = ((mixed (fun j : Fin 2048 => lg (V0 (Proc.tc.devRef main_arg0)) (V0 (Proc.tc.devRef main_arg3)) b h 0 i j)
      (fun j : Fin 2048 => lg (V0 (Proc.tc.devRef main_arg0)) (V0 (Proc.tc.devRef main_arg3)) b h 1 i j) (lamr (V0 (Proc.tc.devRef main_arg1)))
      (fun (j : Fin 2048) (c : Fin 128) => entry (V0 (Proc.tc.devRef main_arg0)) b j (2048 + (h * 128 + c))) d : ℝ) : EReal) := by
  unfold res_main_v85
  refine (form_at _ _ _ _ b i h d _ _).trans ?_
  rw [lam_at, lamr_eq hL]
  simp only [half0_at, half1_at, values_at, v76_at V0 hA hB, entry_eq hA]
  simp only [← EReal.coe_mul, ← EReal.coe_sub, ← coe_sum]
  refine congrArg _ ?_
  unfold mixed
  exact Finset.sum_congr rfl fun k _ => mul_comm _ _

omit hA hB

/-- The value both programs compute. -/
def value (A : Vec Ideal S32x2048x3072 .f32) (L : Vec Ideal S4x64 .f32) (G : Vec Ideal S128 .f32) (B : Vec Ideal S32x8 .f32) : Vec Ideal S32x2048x1024 .bf16 :=
  fun i => Cert.AttnIdeal.Val.outRow (fun r c => entry A (i 0).val r ((i 2).val / 128 * 128 + c)) (fun r c => entry A (i 0).val r (1024 + ((i 2).val / 128 * 128 + c)))
    (fun r c => entry A (i 0).val r (2048 + ((i 2).val / 128 * 128 + c))) (bias B ((i 2).val / 128)) (lamr L) (fun c => G (ix1 c)) (i 1).val ⟨(i 2).val % 128, Nat.mod_lt _ (by decide)⟩

theorem out_at (X : FVec Ideal S32x2048x8x128 .f32) (G : FVec Ideal S128 .f32) (b : Fin 32) (r : Fin 2048) (c : Fin 1024) :
    (truncf .bf16 (shapeCast S32x2048x1024 (mulf (mulf (mulf X (broadcastInDim S32x2048x8x128 ![0, 1, 2, 3] Gen.bcast_S32x2048x8x1_S32x2048x8x128_0_1_2_3 (Host.rsqrt (addf (Host.divf (broadcastInDim S32x2048x8x1 ![0, 1, 2] Gen.bcast_S32x2048x8_S32x2048x8x1_0_1_2 (Host.reduceAdd (mulf X X) (constant S_ .f32 0x00000000#32) Gen.reducesTo_S32x2048x8x128_S32x2048x8_d3 Gen.h_S_)) (broadcastInDim S32x2048x8x1 ![] Gen.bcast_S_S32x2048x8x1 (constant S_ .f32 0x43000000#32))) (broadcastInDim S32x2048x8x1 ![] Gen.bcast_S_S32x2048x8x1 (constant S_ .f32 0x358637BD#32)))))) (broadcastInDim S32x2048x8x128 ![0, 1, 2, 3] Gen.bcast_S1x1x1x128_S32x2048x8x128_0_1_2_3 (broadcastInDim S1x1x1x128 ![3] Gen.bcast_S128_S1x1x1x128_3 G))) (broadcastInDim S32x2048x8x128 ![] Gen.bcast_S_S32x2048x8x128 (constant S_ .f32 0x3F24FD5C#32))) Gen.shapeCasts_S32x2048x8x128_S32x2048x1024) Gen.bitsLt_bf16_f32 : FVec Ideal S32x2048x1024 .bf16) (ix3 b r c) = Cert.AttnIdeal.Val.rms128 (fun d => X (ix4 b r ⟨c.val / 128, by omega⟩ d)) (fun d => G (ix1 d)) ⟨c.val % 128, Nat.mod_lt _ (by decide)⟩ := by
  pointwise []
  rfl

theorem res_eq (V0 : Valuation τ sig (Elt Ideal)) (hA : ∀ i, Soft.Finite (V0 (Proc.tc.devRef main_arg0) i)) (hL : ∀ i, Soft.Finite (V0 (Proc.tc.devRef main_arg1) i))
    (hB : ∀ i, Soft.Finite (V0 (Proc.tc.devRef main_arg3) i)) :
    (truncf .bf16 (shapeCast S32x2048x1024 (mulf (mulf (mulf (res_main_v85 V0) (broadcastInDim S32x2048x8x128 ![0, 1, 2, 3] Gen.bcast_S32x2048x8x1_S32x2048x8x128_0_1_2_3 (Host.rsqrt (addf (Host.divf (broadcastInDim S32x2048x8x1 ![0, 1, 2] Gen.bcast_S32x2048x8_S32x2048x8x1_0_1_2 (Host.reduceAdd (mulf (res_main_v85 V0) (res_main_v85 V0)) (constant S_ .f32 0x00000000#32) Gen.reducesTo_S32x2048x8x128_S32x2048x8_d3 Gen.h_S_)) (broadcastInDim S32x2048x8x1 ![] Gen.bcast_S_S32x2048x8x1 (constant S_ .f32 0x43000000#32))) (broadcastInDim S32x2048x8x1 ![] Gen.bcast_S_S32x2048x8x1 (constant S_ .f32 0x358637BD#32)))))) (broadcastInDim S32x2048x8x128 ![0, 1, 2, 3] Gen.bcast_S1x1x1x128_S32x2048x8x128_0_1_2_3 (broadcastInDim S1x1x1x128 ![3] Gen.bcast_S128_S1x1x1x128_3 (V0 (Proc.tc.devRef main_arg2))))) (broadcastInDim S32x2048x8x128 ![] Gen.bcast_S_S32x2048x8x128 (constant S_ .f32 0x3F24FD5C#32))) Gen.shapeCasts_S32x2048x8x128_S32x2048x1024) Gen.bitsLt_bf16_f32 : FVec Ideal S32x2048x1024 .bf16) = value (V0 (Proc.tc.devRef main_arg0)) (V0 (Proc.tc.devRef main_arg1)) (V0 (Proc.tc.devRef main_arg2)) (V0 (Proc.tc.devRef main_arg3)) := by
  funext i
  obtain ⟨b, r, c, rfl⟩ : ∃ (b : Fin 32) (r : Fin 2048) (c : Fin 1024), i = ix3 b r c := ⟨_, _, _, eq_ix3 i⟩
  refine (out_at _ _ b r c).trans ?_
  simp only [v85_at V0 hA hB hL]
  rfl

end Cert.AttnRefIdeal.Val

end
-- ==== Proof.AttnWin.lean ====
/-
  What the attention's windows show: the blocks of the projections, lambda, the table and the buckets the host computes.
-/
module

public import proofs.«01_k».proof.Proof.AttnTile
public import proofs.«01_k».proof.Proof.AttnRefB

@[expose] public section

set_option maxRecDepth 16384

noncomputable section

namespace Cert.AttnIdeal.Val

open Cert.AttnIdeal Cert.AttnIdeal.Gen Idealize.ShloMosaic Idealize.ShloMosaic.TcCoe Idealize.SL.Sem
open Idealize.ShloMosaic.Pipeline (Dat)
open Cert.Soft Cert.Bucket

variable (m : (ℓ : Loc nD τ sig) → Buf (Elt Ideal) ℓ)

/-- Which block each window shows at grid point `t`. -/
theorem idx : ∀ t : Fin grid0.N, win0_0.index t = ![0] ∧ win0_1.index t = ![0, 0] ∧ win0_2.index t = ![0, 0]
    ∧ win0_3.index t = ![t.val % 32, 0, t.val / 32] ∧ win0_4.index t = ![t.val % 32, 0, 8 + t.val / 32] ∧ win0_5.index t = ![t.val % 32, 0, 16 + t.val / 32]
    ∧ win0_6.index t = ![0, 0] ∧ win0_7.index t = ![t.val % 32, 0, t.val / 32] ∧ (grid0.coords t 0).val = t.val / 32 := by
  decide +kernel

theorem w3_at (c : Dev nD) (t : Fin cfg0.N) (hA : ∀ i, Soft.Finite (m ((c.tc : Thread nD τ).loc main_arg0) i)) (y : S1x2048x128.Idx) :
    iblk m c 3 t y = ((Cert.AttnRefIdeal.Val.entry (m ((c.tc : Thread nD τ).loc main_arg0)) (t.val % 32) (y 1).val (t.val / 32 * 128 + (y 2).val) : ℝ) : EReal) := by
  obtain ⟨e0, e1, e2, e3, e4, e5, e6, e7, e8⟩ := idx t
  have : t.val < 256 := lt_of_lt_of_eq t.isLt N_0
  have h1 : (y 1).val < 2048 := (y 1).isLt
  have h2 : (y 2).val < 128 := (y 2).isLt
  refine Eq.trans ?_ (Cert.AttnRefIdeal.Val.entry_eq hA ⟨t.val % 32, by omega⟩ ⟨(y 1).val, h1⟩ ⟨t.val / 32 * 128 + (y 2).val, by omega⟩)
  blk_ext [iblk, V, e3]

theorem w4_at (c : Dev nD) (t : Fin cfg0.N) (hA : ∀ i, Soft.Finite (m ((c.tc : Thread nD τ).loc main_arg0) i)) (y : S1x2048x128.Idx) :
    iblk m c 4 t y = ((Cert.AttnRefIdeal.Val.entry (m ((c.tc : Thread nD τ).loc main_arg0)) (t.val % 32) (y 1).val (1024 + (t.val / 32 * 128 + (y 2).val)) : ℝ) : EReal) := by
  obtain ⟨e0, e1, e2, e3, e4, e5, e6, e7, e8⟩ := idx t
  have : t.val < 256 := lt_of_lt_of_eq t.isLt N_0
  have h1 : (y 1).val < 2048 := (y 1).isLt
  have h2 : (y 2).val < 128 := (y 2).isLt
  refine Eq.trans ?_ (Cert.AttnRefIdeal.Val.entry_eq hA ⟨t.val % 32, by omega⟩ ⟨(y 1).val, h1⟩ ⟨1024 + (t.val / 32 * 128 + (y 2).val), by omega⟩)
  blk_ext [iblk, V, e4]

theorem w5_at (c : Dev nD) (t : Fin cfg0.N) (hA : ∀ i, Soft.Finite (m ((c.tc : Thread nD τ).loc main_arg0) i)) (y : S1x2048x128.Idx) :
    iblk m c 5 t y = ((Cert.AttnRefIdeal.Val.entry (m ((c.tc : Thread nD τ).loc main_arg0)) (t.val % 32) (y 1).val (2048 + (t.val / 32 * 128 + (y 2).val)) : ℝ) : EReal) := by
  obtain ⟨e0, e1, e2, e3, e4, e5, e6, e7, e8⟩ := idx t
  have : t.val < 256 := lt_of_lt_of_eq t.isLt N_0
  have h1 : (y 1).val < 2048 := (y 1).isLt
  have h2 : (y 2).val < 128 := (y 2).isLt
  refine Eq.trans ?_ (Cert.AttnRefIdeal.Val.entry_eq hA ⟨t.val % 32, by omega⟩ ⟨(y 1).val, h1⟩ ⟨2048 + (t.val / 32 * 128 + (y 2).val), by omega⟩)
  blk_ext [iblk, V, e5]

theorem w1_at (c : Dev nD) (t : Fin cfg0.N) (y : S8x32.Idx) : iblk m c 1 t y = m ((c.tc : Thread nD τ).loc main_arg3) (ix2 (y 1) (y 0)) := by
  obtain ⟨e0, e1, e2, e3, e4, e5, e6, e7, e8⟩ := idx t
  blk_simp [iblk, e1]
  unfold V
  simp only [hostOps0, hostOps0_1, hostOps0_2, hostOps0_3, hostOps0_4, List.flatten_cons, List.flatten_nil, List.append_nil, List.cons_append, List.nil_append]
  entry_read
  pointwise []
  blk_ext [e1]

theorem w6_at (c : Dev nD) (t : Fin cfg0.N) (k : Fin 128) : iblk m c 6 t (ix2 0 k) = m ((c.tc : Thread nD τ).loc main_arg2) (ix1 k) := by
  obtain ⟨e0, e1, e2, e3, e4, e5, e6, e7, e8⟩ := idx t
  blk_simp [iblk, e6]
  unfold V
  simp only [hostOps0, hostOps0_1, hostOps0_2, hostOps0_3, hostOps0_4, List.flatten_cons, List.flatten_nil, List.append_nil, List.cons_append, List.nil_append]
  entry_read
  pointwise []
  blk_ext [e6]

theorem w0_at (c : Dev nD) (t : Fin cfg0.N) (hL : ∀ i, Soft.Finite (m ((c.tc : Thread nD τ).loc main_arg1) i)) (y : S1.Idx) :
    iblk m c 0 t y = ((Cert.AttnRefIdeal.Val.lamr (m ((c.tc : Thread nD τ).loc main_arg1)) : ℝ) : EReal) := by
  obtain ⟨e0, e1, e2, e3, e4, e5, e6, e7, e8⟩ := idx t
  refine Eq.trans ?_ (Cert.AttnRefIdeal.Val.lamr_eq hL)
  blk_simp [iblk, e0]
  unfold V
  simp only [hostOps0, hostOps0_1, hostOps0_2, hostOps0_3, hostOps0_4, List.flatten_cons, List.flatten_nil, List.append_nil, List.cons_append, List.nil_append]
  entry_read
  pointwise []

/-- The distance the slab's entry `(i, j)` stands for, as a word. -/
theorem slab_word (i : Fin 512) (j : Fin 2560) : IntOp.subi (IntOp.subi (BitVec.ofNat 32 j.val) (BitVec.ofNat 32 i.val)) 1024#32 = BitVec.ofInt 32 ((j.val : ℤ) - (i.val : ℤ) - 1024) := by
  apply BitVec.eq_of_toInt_eq
  show (BitVec.ofNat 32 j.val - BitVec.ofNat 32 i.val - 1024#32).toInt = _
  rw [BitVec.toInt_sub, BitVec.toInt_sub, BitVec.toInt_ofInt, BitVec.toInt_eq_toNat_cond, BitVec.toInt_eq_toNat_cond, BitVec.toNat_ofNat, BitVec.toNat_ofNat]
  simp only [Int.bmod_def]
  have : (1024#32).toInt = 1024 := by decide
  omega

theorem w2_at (c : Dev nD) (t : Fin cfg0.N) (y : S512x2560.Idx) : iblk m c 2 t y = BitVec.ofNat 32 (bucket (((y 1).val : ℤ) - ((y 0).val : ℤ) - 1024)) := by
  obtain ⟨e0, e1, e2, e3, e4, e5, e6, e7, e8⟩ := idx t
  have h0 : (y 0).val < 512 := (y 0).isLt
  have h1 : (y 1).val < 2560 := (y 1).isLt
  rw [← bucket_word (by omega)]
  refine Eq.trans ?_ (congrArg bucketWord (slab_word ⟨_, h0⟩ ⟨_, h1⟩))
  blk_simp [iblk, e2]
  unfold V
  simp only [hostOps0, hostOps0_1, hostOps0_2, hostOps0_3, hostOps0_4, List.flatten_cons, List.flatten_nil, List.append_nil, List.cons_append, List.nil_append]
  entry_read
  simp only [StableHlo.TRef.toBuf, StableHlo.TRef.ofBuf, id]
  have he : ((View.whole main_v51).slice (win0_2.rect t)).emb y = y := by
    funext a; apply Fin.ext
    match a with
    | ⟨0, _⟩ => blk_simp [e2]
    | ⟨1, _⟩ => blk_simp [e2]
  rw [he]
  pointwise []
  rfl

end Cert.AttnIdeal.Val

end
-- ==== Proof.AttnSlab.lean ====
/-
  The attention kernel's bias slab: a chain of 32 selections, one for each bucket, picks the head's table entry of the
  bucket that stands in a position.
-/
module

public import proofs.«01_k».proof.Proof.AttnTile

@[expose] public section

set_option maxRecDepth 16384

noncomputable section

namespace Cert.AttnIdeal.Val

open Cert.AttnIdeal Cert.AttnIdeal.Gen Idealize.ShloMosaic Idealize.ShloMosaic.TcCoe Idealize.SL.Sem
open Idealize.ShloMosaic.Pipeline (Dat)
open Cert.Soft

/-- Where the bucket is below `n`, the chain has picked its entry. -/
def Picked (n : ℕ) (B : IVec S512x2560 32) (R : FVec Ideal S512x2560 .f32) (T : ℕ → EReal) : Prop :=
  ∀ y, (B y).toNat < n → R y = T (B y).toNat

theorem Picked.zero (B : IVec S512x2560 32) (R : FVec Ideal S512x2560 .f32) (T : ℕ → EReal) : Picked 0 B R T :=
  fun _ h => absurd h (Nat.not_lt_zero _)

theorem Picked.step {n : ℕ} {w : BitVec 32} {B : IVec S512x2560 32} {R : FVec Ideal S512x2560 .f32} {T : ℕ → EReal} {s : Elt Ideal .f32}
    (hw : w = BitVec.ofNat 32 n) (hn : n < 32) (hs : s = T n) (h : Picked n B R T) :
    Picked (n + 1) B (select (cmpi .eq B (broadcast S512x2560 w)) (broadcast S512x2560 s) R) T := by
  intro y hy
  have e : (select (cmpi .eq B (broadcast S512x2560 w)) (broadcast S512x2560 s) R : FVec Ideal S512x2560 .f32) y = if B y = w then s else R y := by
    pointwise
    by_cases hb : B y = w
    · simp [hb, Scalar.select, IntOp.cmpi]
    · have : (B y == w) = false := beq_eq_false_iff_ne.2 hb
      simp [hb, this, Scalar.select, IntOp.cmpi]
  rw [e]
  have hwn : w.toNat = n := by rw [hw, BitVec.toNat_ofNat]; omega
  split_ifs with hb
  · rw [hb, hwn, hs]
  · refine h y (lt_of_le_of_ne (Nat.lt_succ_iff.1 hy) fun h' => hb (BitVec.eq_of_toNat_eq (h'.trans hwn.symm)))

theorem log2_word : (Named.named κ "log2_e" 0x3FB8AA3B#32 : Ideal .f32) = (((Real.log 2)⁻¹ : ℝ) : EReal) := rfl

/-- The whole chain, scaled. -/
theorem slab_entry {B : IVec S512x2560 32} {R : FVec Ideal S512x2560 .f32} {T : ℕ → EReal} {s29 s30 s31 : Elt Ideal .f32}
    (h29 : s29 = T 29) (h30 : s30 = T 30) (h31 : s31 = T 31) (h : Picked 29 B R T) (y : S512x2560.Idx) (hy : (B y).toNat < 32) :
    k0_pay10 B R (broadcast S512x2560 29#32) s29 s30 s31 y = T (B y).toNat * (((Real.log 2)⁻¹ : ℝ) : EReal) := by
  have h32 := ((h.step (w := 29#32) rfl (by norm_num) h29).step (w := 30#32) rfl (by norm_num) h30).step (w := 31#32) rfl (by norm_num) h31 y hy
  rw [← log2_word, ← h32]
  unfold k0_pay10
  pointwise

/-- An entry of the table, read from scalar memory. -/
theorem table_read {t : Fin cfg0.N} {X : Vec Ideal S8x32 .f32} {T : ℕ → ℕ → ℝ} (hX : ∀ y, X y = ((T (y 0).val (y 1).val : ℝ) : EReal))
    {off : Fin 2 → ℕ} (inb : ∀ a, off a + S1x1.size a ≤ S8x32.size a) (p) {h n : ℕ} (e0 : off 0 = h) (e1 : off 1 = n) :
    View.readAt (Elt Ideal) (ms0_1 t).view (Rect.unit (s := S8x32) off S1x1.size inb).toLoadRect ((hs0_1 t).unread X) (Shape.Idx.first p) = ((T h n : ℝ) : EReal) := by
  rw [View.readAt_eq_ld, Memref.IsWhole.read_unread, View.ld_apply, hX, Rect.idx_unit_val, Rect.idx_unit_val, e0, e1]
  rfl

/-- A tile of the slab, read after the whole of it was stored. -/
theorem slab_ld {W : Vec Ideal S512x2560 .f32} {o n : Fin 2 → ℕ}
    (i : ∀ a, (![0, 0] : Fin 2 → ℕ) a + (![512, 2560] : Fin 2 → ℕ) a ≤ S512x2560.size a) (inb : ∀ a, o a + n a ≤ S512x2560.size a) :
    (View.whole cc0_scratch0).readCov [(⟨Rect.unit (s := S512x2560) ![0, 0] ![512, 2560] i, W⟩ : View.Piece (Elt Ideal) S512x2560 .f32)]
        (Rect.unit (s := S512x2560) o n inb).toLoadRect = View.ld (Val := Elt Ideal) (e' := .f32) W (Rect.unit (s := S512x2560) o n inb) :=
  View.readCov_fill (Val := Elt Ideal) (e := .f32) (View.whole cc0_scratch0) i W [] (Rect.unit (s := S512x2560) o n inb) (by decide)

theorem slab_ld_finite {W : Vec Ideal S512x2560 .f32} {σ : ℕ → ℕ → ℝ} (hW : ∀ y, W y = ((σ (y 0).val (y 1).val : ℝ) : EReal)) {o : Fin 2 → ℕ}
    (i : ∀ a, (![0, 0] : Fin 2 → ℕ) a + (![512, 2560] : Fin 2 → ℕ) a ≤ S512x2560.size a)
    (inb : ∀ a, o a + (![128, 512] : Fin 2 → ℕ) a ≤ S512x2560.size a) :
    AllFinite (s := ⟨2, ![128, 512]⟩) ((View.whole cc0_scratch0).readCov [(⟨Rect.unit (s := S512x2560) ![0, 0] ![512, 2560] i, W⟩ : View.Piece (Elt Ideal) S512x2560 .f32)]
        (Rect.unit (s := S512x2560) o ![128, 512] inb).toLoadRect) := fun y =>
  ⟨_, (congrFun (slab_ld i inb) y).trans (hW _)⟩

theorem head_word : ∀ i : Fin 8, (Scalar.indexCast (BitVec.ofNat 32 i.val)).toNat = i.val := by decide

end Cert.AttnIdeal.Val

end
-- ==== Proof.AttnCarry.lean ====
/-
  The bias slab: stored at a head's first point from the table and the buckets, and carried unchanged to the head's other points.
-/
module

public import proofs.«01_k».proof.Proof.AttnSlab

@[expose] public section

set_option maxRecDepth 16384

noncomputable section

namespace Cert.AttnIdeal.Val

open Cert.AttnIdeal Cert.AttnIdeal.Gen Idealize.ShloMosaic Idealize.ShloMosaic.TcCoe Idealize.SL.Sem
open Idealize.ShloMosaic.Pipeline (Dat)
open Cert.Soft

variable (m : (ℓ : Loc nD τ sig) → Buf (Elt Ideal) ℓ)

set_option maxHeartbeats 1600000 in
/-- The slab after a head's first point. -/
theorem slab_A (c : Dev nD) (t : Fin cfg0.N) (ht : t.val % 32 = 0) {σ : ℕ → ℕ → ℝ} {T : ℕ → ℕ → ℝ} {b : ℕ → ℕ → ℕ} {h : ℕ}
    (hT : ∀ y, iblk m c 1 t y = ((T (y 0).val (y 1).val : ℝ) : EReal))
    (hb : ∀ y, iblk m c 2 t y = BitVec.ofNat 32 (b (y 0).val (y 1).val)) (hb32 : ∀ i j, b i j < 32) (hh : (grid0.coords t 0).val = h)
    (hs : ∀ i j, σ i j = T h (b i j) * (Real.log 2)⁻¹) (y : S512x2560.Idx) :
    (outsAt0 m c t.val t.isLt).2 y = ((σ (y 0).val (y 1).val : ℝ) : EReal) := by
  rw [outsAt0_A m c t ht]
  dsimp only
  generalize iblk m c 0 t = X0 at *
  generalize iblk m c 1 t = X1 at *
  generalize iblk m c 2 t = X2 at *
  generalize iblk m c 3 t = X3 at *
  generalize iblk m c 4 t = X4 at *
  generalize iblk m c 5 t = X5 at *
  generalize iblk m c 6 t = X6 at *
  unfold sout0_A_0
  frame_open
  rw [View.read_writes_junk_apply_eq_canon]
  generalize hW : k0_pay10 (F := Ideal) _ _ _ _ _ _ = W
  have hs' : ∀ y, W y = ((σ (y 0).val (y 1).val : ℝ) : EReal) := by
    intro y
    rw [← hW, hs, EReal.coe_mul]
    have e : ∀ (i : ∀ a, (![0, 0] : Fin 2 → ℕ) a + S512x2560.size a ≤ S512x2560.size a) (p : S512x2560.ShapeCasts S512x2560),
        shapeCast S512x2560 (View.readAt (Elt Ideal) (ms0_2 t).view (Rect.unit (s := S512x2560) ![0, 0] S512x2560.size i).toLoadRect ((hs0_2 t).unread X2)) p y
          = BitVec.ofNat 32 (b (y 0).val (y 1).val) := fun i p => by
      rw [View.readAt_eq_ld, Memref.IsWhole.read_unread, View.ld_unit_lit' i _ (by decide)]
      exact (congrFun (shapeCast_self _ _) y).trans (hb y)
    have n : (BitVec.ofNat 32 (b (y 0).val (y 1).val)).toNat = b (y 0).val (y 1).val := by
      rw [BitVec.toNat_ofNat]; have := hb32 (y 0).val (y 1).val; omega
    refine (slab_entry (T := fun n => ((T h n : ℝ) : EReal)) (table_read hT _ _ ((head_word _).trans hh) rfl) (table_read hT _ _ ((head_word _).trans hh) rfl)
      (table_read hT _ _ ((head_word _).trans hh) rfl) ?_ y ?_).trans ?_
    · repeat refine Picked.step rfl (by norm_num) (table_read hT _ _ ((head_word _).trans hh) rfl) ?_
      exact Picked.zero _ _ _
    · rw [e, n]; exact hb32 _ _
    · rw [e, n]
  clear hW
  have e := View.canon_unit_zero (Val := Elt Ideal) (e := .f32) (S := S512x2560) (off := ![0, 0]) (by funext a; match a with | ⟨0, _⟩ => rfl | ⟨1, _⟩ => rfl) inb_S512x2560_S512x2560_0_0 W
  exact (congrFun e y).trans (hs' y)

/-- The slab after any point: the one its head's first point stored. -/
theorem slab_all (c : Dev nD) {σ : ℕ → ℕ → ℕ → ℝ} {T : ℕ → ℕ → ℝ} {b : ℕ → ℕ → ℕ}
    (hT : ∀ t y, iblk m c 1 t y = ((T (y 0).val (y 1).val : ℝ) : EReal))
    (hb : ∀ t y, iblk m c 2 t y = BitVec.ofNat 32 (b (y 0).val (y 1).val)) (hb32 : ∀ i j, b i j < 32)
    (hh : ∀ t : Fin cfg0.N, (grid0.coords t 0).val = t.val / 32)
    (hs : ∀ h i j, σ h i j = T h (b i j) * (Real.log 2)⁻¹) :
    ∀ (n : ℕ) (hn : n < cfg0.N) (y : S512x2560.Idx), (outsAt0 m c n hn).2 y = ((σ (n / 32) (y 0).val (y 1).val : ℝ) : EReal)
  | 0, hn, y => slab_A m c ⟨0, hn⟩ rfl (hT _) (hb _) hb32 (hh _) (hs _) y
  | n + 1, hn, y => by
    rcases Nat.eq_zero_or_pos ((n + 1) % 32) with h0 | h0
    · exact slab_A m c ⟨n + 1, hn⟩ h0 (hT _) (hb _) hb32 (hh _) (hs _) y
    · have e : (outsAt0 m c (n + 1) hn).2 = (outsAt0 m c n (Nat.lt_of_succ_lt hn)).2 := by
        rw [outsAt0_B m c ⟨n + 1, hn⟩ (by show ¬ (n + 1) % 32 = 0; omega)]
        rfl
      rw [e, slab_all c hT hb hb32 hh hs n _ y, show (n + 1) / 32 = n / 32 by omega]

end Cert.AttnIdeal.Val

end
-- ==== Proof.AttnBlock.lean ====
/-
  The attention call's grid point: what one head of one sequence leaves in its output block, row by row, for inputs
  that are real numbers. The block is four query tiles; `Proof/AttnTile.lean` reads each.
-/
module

public import proofs.«01_k».proof.Proof.AttnTile

@[expose] public section

set_option maxRecDepth 16384

noncomputable section

namespace Cert.AttnIdeal.Val

open Cert.AttnIdeal Cert.AttnIdeal.Gen Idealize.ShloMosaic Idealize.ShloMosaic.TcCoe Idealize.SL.Sem
open Idealize.ShloMosaic.Pipeline (Dat)
open Cert.Soft

variable (m : (ℓ : Loc nD τ sig) → Buf (Elt Ideal) ℓ)

set_option maxHeartbeats 1600000 in
theorem block_B (c : Dev nD) (t : Fin cfg0.N) (ht : ¬ t.val % 32 = 0) {q k v β σ : ℕ → ℕ → ℝ} {l : ℝ}
    (hl : ∀ y, iblk m c 0 t y = ((l : ℝ) : EReal))
    (hq : ∀ y, iblk m c 3 t y = ((q (y 1).val (y 2).val : ℝ) : EReal))
    (hk : ∀ y, iblk m c 4 t y = ((k (y 1).val (y 2).val : ℝ) : EReal))
    (hv : ∀ y, iblk m c 5 t y = ((v (y 1).val (y 2).val : ℝ) : EReal))
    (hs : ∀ y, (outsAt0 m c (t.val - 1) (Nat.lt_of_le_of_lt (Nat.sub_le _ _) t.isLt)).2 y = ((σ (y 0).val (y 1).val : ℝ) : EReal))
    (hσ : ∀ i j, i < 2048 → j < 2048 → σ (i % 512) (512 * reach (i / 512) (j / 512) + j % 512) = β i j * (Real.log 2)⁻¹)
    (y : S1x2048x128.Idx) :
    (outsAt0 m c t.val t.isLt).1 y = outRow q k v β l (fun c' => iblk m c 6 t (ix2 0 c')) (y 1).val (y 2) := by
  have hs' : ∀ y, View.read (Elt Ideal) (View.whole cc0_scratch0) ((Memref.isWhole_whole cc0_scratch0).unread
      (outsAt0 m c (t.val - 1) (Nat.lt_of_le_of_lt (Nat.sub_le _ _) t.isLt)).2) y = ((σ (y 0).val (y 1).val : ℝ) : EReal) := fun y =>
    (congrFun (Memref.IsWhole.read_unread (Memref.isWhole_whole cc0_scratch0) _) y).trans (hs y)
  have hk' : ∀ y, View.read (Elt Ideal) (ms0_4 t).view ((hs0_4 t).unread (iblk m c 4 t)) y = ((k (y 1).val (y 2).val : ℝ) : EReal) :=
    fun y => (congrFun (Memref.IsWhole.read_unread (hs0_4 t) _) y).trans (hk y)
  have hq' : ∀ y, View.read (Elt Ideal) (ms0_3 t).view ((hs0_3 t).unread (iblk m c 3 t)) y = ((q (y 1).val (y 2).val : ℝ) : EReal) :=
    fun y => (congrFun (Memref.IsWhole.read_unread (hs0_3 t) _) y).trans (hq y)
  rw [outsAt0_B m c t ht]
  dsimp only
  generalize iblk m c 0 t = X0 at *
  generalize iblk m c 1 t = X1 at *
  generalize iblk m c 2 t = X2 at *
  generalize iblk m c 3 t = X3 at *
  generalize iblk m c 4 t = X4 at *
  generalize iblk m c 5 t = X5 at *
  generalize iblk m c 6 t = X6 at *
  generalize (outsAt0 m c (t.val - 1) (Nat.lt_of_le_of_lt (Nat.sub_le _ _) t.isLt)).2 = XS at *
  unfold out0_B_7
  frame_open
  rw [View.read_writes_junk_apply_eq_canon]
  simp (disch := decide) only [View.readAt_eq_ld, Memref.IsWhole.read_unread, ↓ View.readCov_fill]
  refine block_read (outRow q k v β l (fun c' => X6 (ix2 0 c'))) _ _ _ _ (fun x => ?_) (fun x => ?_) (fun x => ?_) (fun x => ?_) y
  all_goals
    refine tile_apply (q := q) (k := k) (v := v) (β := β) (σ := σ) rfl rfl ?_ ?_ ?_ ?_ rfl (fun i j hi hj => hσ i j (by omega) hj) ?_ x
    · intro y
      apply scores_read
      all_goals
        intro x
        refine score_stored rfl ?_ ?_ ?_ ?_ x
        · intro y
          refine twice_read _ _ ?_ ?_ _ _ _ y
          · exact lowOps_apply fun y => rows_apply hq _ y
          · exact highOps_apply fun y => rows_apply hq _ y
        · exact fun y => rows_apply hk _ y
        all_goals
          intro y
          refine slab_apply hs' ?_ ?_ ?_ ?_ _ y <;> rfl
    · refine stackMax_finite ?_ ?_ ?_ ?_ ?_ ?_ ?_ ?_
      all_goals
        refine maxOps_finite ?_ ?_
        all_goals
          refine score_finite ?_ ?_ (fun y => ⟨_, hs' _⟩) (fun y => ⟨_, hs' _⟩)
          · refine twice_finite _ _ ?_ ?_ _ _ _
            · refine lowOps_finite ?_
              first | exact fun y => ⟨_, hq _⟩ | exact fun y => ⟨_, hq' _⟩
            · refine highOps_finite ?_
              first | exact fun y => ⟨_, hq _⟩ | exact fun y => ⟨_, hq' _⟩
          · first | exact fun y => ⟨_, hk _⟩ | exact fun y => ⟨_, hk' _⟩
    · exact hl _
    · exact values_read hv _ _
    · exact gains_read _

end Cert.AttnIdeal.Val

end
-- ==== Proof.AttnBlockA.lean ====
/-
  The attention call's grid point: what one head of one sequence leaves in its output block, row by row, for inputs
  that are real numbers. The block is four query tiles; `Proof/AttnTile.lean` reads each.
-/
module

public import proofs.«01_k».proof.Proof.AttnSlab

@[expose] public section

set_option maxRecDepth 16384

noncomputable section

namespace Cert.AttnIdeal.Val

open Cert.AttnIdeal Cert.AttnIdeal.Gen Idealize.ShloMosaic Idealize.ShloMosaic.TcCoe Idealize.SL.Sem
open Idealize.ShloMosaic.Pipeline (Dat)
open Cert.Soft

variable (m : (ℓ : Loc nD τ sig) → Buf (Elt Ideal) ℓ)

set_option maxHeartbeats 1600000 in
theorem block_A (c : Dev nD) (t : Fin cfg0.N) (ht : t.val % 32 = 0) {q k v β σ : ℕ → ℕ → ℝ} {l : ℝ}
    (hl : ∀ y, iblk m c 0 t y = ((l : ℝ) : EReal))
    (hq : ∀ y, iblk m c 3 t y = ((q (y 1).val (y 2).val : ℝ) : EReal))
    (hk : ∀ y, iblk m c 4 t y = ((k (y 1).val (y 2).val : ℝ) : EReal))
    (hv : ∀ y, iblk m c 5 t y = ((v (y 1).val (y 2).val : ℝ) : EReal))
    {T : ℕ → ℕ → ℝ} {b : ℕ → ℕ → ℕ} {h : ℕ}
    (hT : ∀ y, iblk m c 1 t y = ((T (y 0).val (y 1).val : ℝ) : EReal))
    (hb : ∀ y, iblk m c 2 t y = BitVec.ofNat 32 (b (y 0).val (y 1).val)) (hb32 : ∀ i j, b i j < 32) (hh : (grid0.coords t 0).val = h)
    (hs : ∀ i j, σ i j = T h (b i j) * (Real.log 2)⁻¹)
    (hσ : ∀ i j, i < 2048 → j < 2048 → σ (i % 512) (512 * reach (i / 512) (j / 512) + j % 512) = β i j * (Real.log 2)⁻¹)
    (y : S1x2048x128.Idx) :
    (outsAt0 m c t.val t.isLt).1 y = outRow q k v β l (fun c' => iblk m c 6 t (ix2 0 c')) (y 1).val (y 2) := by
  have hl' : ∀ y, View.read (Elt Ideal) (ms0_0 t).view ((hs0_0 t).unread (iblk m c 0 t)) y = ((l : ℝ) : EReal) :=
    fun y => (congrFun (Memref.IsWhole.read_unread (hs0_0 t) _) y).trans (hl y)
  have hq' : ∀ y, View.read (Elt Ideal) (ms0_3 t).view ((hs0_3 t).unread (iblk m c 3 t)) y = ((q (y 1).val (y 2).val : ℝ) : EReal) :=
    fun y => (congrFun (Memref.IsWhole.read_unread (hs0_3 t) _) y).trans (hq y)
  have hk' : ∀ y, View.read (Elt Ideal) (ms0_4 t).view ((hs0_4 t).unread (iblk m c 4 t)) y = ((k (y 1).val (y 2).val : ℝ) : EReal) :=
    fun y => (congrFun (Memref.IsWhole.read_unread (hs0_4 t) _) y).trans (hk y)
  have hv' : ∀ y, View.read (Elt Ideal) (ms0_5 t).view ((hs0_5 t).unread (iblk m c 5 t)) y = ((v (y 1).val (y 2).val : ℝ) : EReal) :=
    fun y => (congrFun (Memref.IsWhole.read_unread (hs0_5 t) _) y).trans (hv y)
  have hg' : ∀ y, View.read (Elt Ideal) (ms0_6 t).view ((hs0_6 t).unread (iblk m c 6 t)) y = iblk m c 6 t y :=
    fun y => congrFun (Memref.IsWhole.read_unread (hs0_6 t) _) y
  rw [outsAt0_A m c t ht]
  dsimp only
  generalize iblk m c 0 t = X0 at *
  generalize iblk m c 1 t = X1 at *
  generalize iblk m c 2 t = X2 at *
  generalize iblk m c 3 t = X3 at *
  generalize iblk m c 4 t = X4 at *
  generalize iblk m c 5 t = X5 at *
  generalize iblk m c 6 t = X6 at *
  unfold out0_A_7
  frame_open
  rw [View.read_writes_junk_apply_eq_canon]
  generalize hW : k0_pay10 (F := Ideal) _ _ _ _ _ _ = W
  have hs' : ∀ y, W y = ((σ (y 0).val (y 1).val : ℝ) : EReal) := by
    intro y
    rw [← hW, hs, EReal.coe_mul]
    have e : ∀ (i : ∀ a, (![0, 0] : Fin 2 → ℕ) a + S512x2560.size a ≤ S512x2560.size a) (p : S512x2560.ShapeCasts S512x2560),
        shapeCast S512x2560 (View.readAt (Elt Ideal) (ms0_2 t).view (Rect.unit (s := S512x2560) ![0, 0] S512x2560.size i).toLoadRect ((hs0_2 t).unread X2)) p y
          = BitVec.ofNat 32 (b (y 0).val (y 1).val) := fun i p => by
      rw [View.readAt_eq_ld, Memref.IsWhole.read_unread, View.ld_unit_lit' i _ (by decide)]
      exact (congrFun (shapeCast_self _ _) y).trans (hb y)
    have n : (BitVec.ofNat 32 (b (y 0).val (y 1).val)).toNat = b (y 0).val (y 1).val := by
      rw [BitVec.toNat_ofNat]; have := hb32 (y 0).val (y 1).val; omega
    refine (slab_entry (T := fun n => ((T h n : ℝ) : EReal)) (table_read hT _ _ ((head_word _).trans hh) rfl) (table_read hT _ _ ((head_word _).trans hh) rfl)
      (table_read hT _ _ ((head_word _).trans hh) rfl) ?_ y ?_).trans ?_
    · repeat refine Picked.step rfl (by norm_num) (table_read hT _ _ ((head_word _).trans hh) rfl) ?_
      exact Picked.zero _ _ _
    · rw [e, n]; exact hb32 _ _
    · rw [e, n]
  clear hW
  simp (disch := decide) only [View.readAt_eq_ld, Memref.IsWhole.read_unread, ↓ View.readCov_fill]
  refine block_read (outRow q k v β l (fun c' => X6 (ix2 0 c'))) _ _ _ _ (fun x => ?_) (fun x => ?_) (fun x => ?_) (fun x => ?_) y
  all_goals
    refine tile_apply (q := q) (k := k) (v := v) (β := β) (σ := σ) rfl rfl ?_ ?_ ?_ ?_ rfl (fun i j hi hj => hσ i j (by omega) hj) ?_ x
    · intro y
      apply scores_read
      all_goals
        intro x
        refine score_stored rfl ?_ ?_ ?_ ?_ x
        · intro y
          refine twice_read _ _ ?_ ?_ _ _ _ y
          · exact lowOps_apply fun y => rows_apply hq _ y
          · exact highOps_apply fun y => rows_apply hq _ y
        · exact fun y => rows_apply hk _ y
        all_goals
          intro y
          first
            | refine (congrFun (slab_ld _ _) y).trans (slab_apply hs' ?_ ?_ ?_ ?_ _ y) <;> rfl
            | refine slab_apply hs' ?_ ?_ ?_ ?_ _ y <;> rfl
    · refine stackMax_finite ?_ ?_ ?_ ?_ ?_ ?_ ?_ ?_
      all_goals
        refine maxOps_finite ?_ ?_
        all_goals
          refine score_finite ?_ ?_ (by first | exact slab_ld_finite hs' _ _ | exact fun y => ⟨_, hs' _⟩) (by first | exact slab_ld_finite hs' _ _ | exact fun y => ⟨_, hs' _⟩)
          · refine twice_finite _ _ ?_ ?_ _ _ _
            · refine lowOps_finite ?_
              first | exact fun y => ⟨_, hq _⟩ | exact fun y => ⟨_, hq' _⟩
            · refine highOps_finite ?_
              first | exact fun y => ⟨_, hq _⟩ | exact fun y => ⟨_, hq' _⟩
          · first | exact fun y => ⟨_, hk _⟩ | exact fun y => ⟨_, hk' _⟩
    · exact hl _
    · exact values_read hv _ _
    · exact gains_read _

end Cert.AttnIdeal.Val

end
-- ==== Proof.AttnValue.lean ====
/-
  The attention: the kernel's output array is the reference's, for finite arguments.
-/
module

public import proofs.«01_k».proof.Proof.AttnWin
public import proofs.«01_k».proof.Proof.AttnCarry
public import proofs.«01_k».proof.Proof.AttnBlock
public import proofs.«01_k».proof.Proof.AttnBlockA
public import Idealize.ShloMosaic.Lib.Pipeline.ReadBack
public import Idealize.ShloMosaic.Lib.Quiescent
public import proofs.«01_k».proof.Proof.AttnRefB

@[expose] public section

set_option maxRecDepth 16384

noncomputable section

namespace Cert.AttnIdeal.Val

open Cert.AttnIdeal Cert.AttnIdeal.Gen Idealize.ShloMosaic Idealize.ShloMosaic.TcCoe Idealize.SL.Sem
open Idealize.ShloMosaic.Pipeline (Dat)
open Cert.Soft Cert.Bucket

variable (m : (ℓ : Loc nD τ sig) → Buf (Elt Ideal) ℓ)

open Cert.AttnRefIdeal.Val (entry bias lamr value)

/-- The bucket of the slab's entry `(i, j)`. -/
def slabBucket (i j : ℕ) : ℕ := if i < 512 ∧ j < 2560 then bucket ((j : ℤ) - (i : ℤ) - 1024) else 0

theorem slabBucket_lt (i j : ℕ) : slabBucket i j < 32 := by
  unfold slabBucket
  split
  · exact bucket_lt (by omega)
  · decide

/-- The table's entry as a real number. -/
def table (B : Vec Ideal S32x8 .f32) (h n : ℕ) : ℝ := if g : h < 8 ∧ n < 32 then EReal.toReal (B (ix2 ⟨n, g.2⟩ ⟨h, g.1⟩)) else 0

/-- The slab of head `h`. -/
def slab (B : Vec Ideal S32x8 .f32) (h i j : ℕ) : ℝ := table B h (slabBucket i j) * (Real.log 2)⁻¹

/-- The slab's entry met by a query and a key is their bias: the tiles out of reach lie in the saturated buckets. -/
theorem slab_bias (B : Vec Ideal S32x8 .f32) (h i j : ℕ) (hi : i < 2048) (hj : j < 2048) :
    slab B h (i % 512) (512 * reach (i / 512) (j / 512) + j % 512) = bias B h i j * (Real.log 2)⁻¹ := by
  have e : slabBucket (i % 512) (512 * reach (i / 512) (j / 512) + j % 512) = bucket ((j : ℤ) - (i : ℤ)) := by
    unfold slabBucket reach
    rw [if_pos (by omega)]
    by_cases h : 2 ≤ j / 512 + 2 ∧ i / 512 ≤ j / 512 + 2 ∧ j / 512 ≤ i / 512 + 2
    · congr 1; omega
    · exact bucket_far (by omega) (by omega) (by omega)
  unfold slab table
  rw [e]
  rfl

set_option maxHeartbeats 1000000 in
/-- The output block of grid point `t`. -/
theorem block (c : Dev nD) (hA : ∀ i, Soft.Finite (m ((c.tc : Thread nD τ).loc main_arg0) i)) (hL : ∀ i, Soft.Finite (m ((c.tc : Thread nD τ).loc main_arg1) i))
    (hB : ∀ i, Soft.Finite (m ((c.tc : Thread nD τ).loc main_arg3) i)) (t : Fin cfg0.N) (y : S1x2048x128.Idx) :
    (outsAt0 m c t.val t.isLt).1 y = outRow (fun r k => entry (m ((c.tc : Thread nD τ).loc main_arg0)) (t.val % 32) r (t.val / 32 * 128 + k))
      (fun r k => entry (m ((c.tc : Thread nD τ).loc main_arg0)) (t.val % 32) r (1024 + (t.val / 32 * 128 + k)))
      (fun r k => entry (m ((c.tc : Thread nD τ).loc main_arg0)) (t.val % 32) r (2048 + (t.val / 32 * 128 + k)))
      (bias (m ((c.tc : Thread nD τ).loc main_arg3)) (t.val / 32)) (lamr (m ((c.tc : Thread nD τ).loc main_arg1)))
      (fun k => m ((c.tc : Thread nD τ).loc main_arg2) (ix1 k)) (y 1).val (y 2) := by
  have hg : (fun k => iblk m c 6 t (ix2 0 k)) = fun k => m ((c.tc : Thread nD τ).loc main_arg2) (ix1 k) := funext fun k => w6_at m c t k
  have hT : ∀ t y, iblk m c 1 t y = ((table (m ((c.tc : Thread nD τ).loc main_arg3)) (y 0).val (y 1).val : ℝ) : EReal) := fun t y => by
    refine (w1_at m c t y).trans ?_
    rw [table, dif_pos ⟨(y 0).isLt, (y 1).isLt⟩]
    exact Cert.AttnRefIdeal.Val.Finite.toReal (hB _)
  have hb : ∀ t y, iblk m c 2 t y = BitVec.ofNat 32 (slabBucket (y 0).val (y 1).val) := fun t y => by
    refine (w2_at m c t y).trans ?_
    rw [slabBucket, if_pos ⟨(y 0).isLt, (y 1).isLt⟩]
  have hh : ∀ t : Fin cfg0.N, (grid0.coords t 0).val = t.val / 32 := fun t => (idx t).2.2.2.2.2.2.2.2
  have ht : t.val < 256 := lt_of_lt_of_eq t.isLt N_0
  rw [← hg]
  by_cases h0 : t.val % 32 = 0
  · exact block_A m c t h0 (w0_at m c t hL) (w3_at m c t hA) (w4_at m c t hA) (w5_at m c t hA) (hT t) (hb t) slabBucket_lt (hh t)
      (σ := slab (m ((c.tc : Thread nD τ).loc main_arg3)) (t.val / 32)) (fun _ _ => rfl) (slab_bias _ _) y
  · refine block_B m c t h0 (w0_at m c t hL) (w3_at m c t hA) (w4_at m c t hA) (w5_at m c t hA)
      (σ := slab (m ((c.tc : Thread nD τ).loc main_arg3)) (t.val / 32)) (fun y => ?_) (slab_bias _ _) y
    have := slab_all m c (σ := slab (m ((c.tc : Thread nD τ).loc main_arg3))) hT hb slabBucket_lt hh (fun _ _ _ => rfl) (t.val - 1) (Nat.lt_of_le_of_lt (Nat.sub_le _ _) t.isLt) y
    rw [this, show (t.val - 1) / 32 = t.val / 32 by omega]

set_option maxHeartbeats 1000000 in
/-- The output array after the run. -/
theorem final (c : Dev nD) (hA : ∀ i, Soft.Finite (m ((c.tc : Thread nD τ).loc main_arg0) i)) (hL : ∀ i, Soft.Finite (m ((c.tc : Thread nD τ).loc main_arg1) i))
    (hB : ∀ i, Soft.Finite (m ((c.tc : Thread nD τ).loc main_arg3) i)) : (dats m 0 c).arrAt 7 cfg0.N
      = value (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 7 _ (by decide +kernel) fun t hf y => ?_
  obtain ⟨e0, e1, e2, e3, e4, e5, e6, e7, e8⟩ := idx t
  have ht : t.val < 256 := lt_of_lt_of_eq t.isLt N_0
  have h0 : (y 0).val < 1 := (y 0).isLt
  have h1 : (y 1).val < 2048 := (y 1).isLt
  have h2 : (y 2).val < 128 := (y 2).isLt
  have b0 : (((cfg0.win 7).blk t).view.emb y 0).val = win0_7.index t (0 : Fin 3) * 1 + 1 * (y 0).val := rfl
  have b1 : (((cfg0.win 7).blk t).view.emb y 1).val = win0_7.index t (1 : Fin 3) * 2048 + 1 * (y 1).val := rfl
  have b2 : (((cfg0.win 7).blk t).view.emb y 2).val = win0_7.index t (2 : Fin 3) * 128 + 1 * (y 2).val := rfl
  rw [e7] at b0 b1 b2
  have c0 : (((cfg0.win 7).blk t).view.emb y 0).val = t.val % 32 := by rw [b0]; show t.val % 32 * 1 + 1 * (y 0).val = _; omega
  have c1 : (((cfg0.win 7).blk t).view.emb y 1).val = (y 1).val := by rw [b1]; show 0 * 2048 + 1 * (y 1).val = _; omega
  have c2 : (((cfg0.win 7).blk t).view.emb y 2).val = t.val / 32 * 128 + (y 2).val := by rw [b2]; show t.val / 32 * 128 + 1 * (y 2).val = _; omega
  generalize ((cfg0.win 7).blk t).view.emb y = z at c0 c1 c2 ⊢
  show (dats m 0 c).after 7 t ((cfg0.win 7).xinj (cfg0.grid.coords t) y) = _
  rw [after0_7]
  refine (block m c hA hL hB t _).trans ?_
  have d2 : (z 2).val / 128 = t.val / 32 := by omega
  have d3 : (⟨(z 2).val % 128, Nat.mod_lt _ (by decide)⟩ : Fin 128) = y 2 := Fin.ext (by show (z 2).val % 128 = (y 2).val; omega)
  unfold value
  rw [c0, c1, d2, d3]

end Cert.AttnIdeal.Val

end
-- ==== Proof.AttnClaims.lean ====
/-
  The attention: what the precondition says, entry by entry, and the value claim.
-/
module

public import proofs.«01_k».proof.Defs
public import proofs.«01_k».proof.Proof.AttnValue
public import Idealize.ShloMosaic.Lib.Quiescent

@[expose] public section

set_option maxRecDepth 16384

noncomputable section

namespace Cert.Proof.AttnPart

open Idealize.ShloMosaic Idealize.ShloMosaic.TcCoe Idealize.SL.Sem
open Cert.Soft

/-- The shape relations the precondition's operations take. -/
instance preFacts : Cert.Pre_all_finite.Facts where
  bcast_S_S32x2048x3072 := by decide
  bcast_S_S4x64 := by decide
  bcast_S_S32x8 := by decide

/-- A number whose absolute value is below infinity is a real one. -/
theorem finite_of_test (x : Ideal .f32)
    (h : FloatOps.cmpf .olt (FloatOps.hostAbsf x) (FloatOps.ofBits (F := Ideal) .f32 0x7F800000#32) = 1#1) : Soft.Finite x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  refine Finite.iff.2 ⟨fun hb => ?_, hlt.1.ne⟩
  have h2 := hlt.2
  rw [hb] at h2
  simp at h2

/-- The precondition, read entry by entry. -/
theorem finite_of_pre (m : (ℓ : Loc Cert.AttnIdeal.nD Cert.AttnIdeal.τ Cert.AttnIdeal.sig) → Buf (Elt Ideal) ℓ)
    (h : Cert.Pre_AttnIdeal_all_finite m) (c : Dev Cert.AttnIdeal.nD) :
    (∀ i, Soft.Finite (m ((c.tc : Thread Cert.AttnIdeal.nD Cert.AttnIdeal.τ).loc Cert.AttnIdeal.main_arg0) i))
    ∧ (∀ i, Soft.Finite (m ((c.tc : Thread Cert.AttnIdeal.nD Cert.AttnIdeal.τ).loc Cert.AttnIdeal.main_arg1) i))
    ∧ (∀ i, Soft.Finite (m ((c.tc : Thread Cert.AttnIdeal.nD Cert.AttnIdeal.τ).loc Cert.AttnIdeal.main_arg3) i)) := by
  obtain ⟨h0, h1, h2⟩ := h c
  exact ⟨fun i => finite_of_test _ (congrFun h0 i), fun i => finite_of_test _ (congrFun h1 i), fun i => finite_of_test _ (congrFun h2 i)⟩

/-- The reference runs to an end under the precondition too. -/
theorem frame_ref_pre : Cert.quiescent_AttnRefIdeal_pre_all_finite := fun m ρ _ =>
  (θ_run _ _ _).mono (fun r h => ⟨fun c => (h c).2, sem_eq_zero_of_no_sems (by decide) _⟩) (Cert.AttnRefIdeal.Value.run m ρ)

/-- On finite arguments the attention kernel's result is the reference's. -/
theorem algebraic : Cert.algebraic_AttnIdeal_AttnRefIdeal_pre_all_finite := fun m ρ m' ρ' hpre hag =>
  ⟨fun c => (Cert.AttnIdeal.Gen.dats m 0 c).arrAt 7 Cert.AttnIdeal.cfg0.N,
    Cert.AttnIdeal.Value.run_blocks m ρ,
    (θ_run _ _ _).mono (fun _ h c => ⟨(h c).1.trans (by
      obtain ⟨h0, h1, h2, h3⟩ := hag c
      obtain ⟨f0, f1, f3⟩ := finite_of_pre m hpre c
      refine (Cert.AttnRefIdeal.Val.res_eq (StableHlo.launchContents m' c)
        (fun i => (congrArg Soft.Finite (congrFun h0 i)).mpr (f0 i))
        (fun i => (congrArg Soft.Finite (congrFun h1 i)).mpr (f1 i))
        (fun i => (congrArg Soft.Finite (congrFun h3 i)).mpr (f3 i))).trans ?_
      refine Eq.trans ?_ (Cert.AttnIdeal.Val.final m c f0 f1 f3).symm
      show Cert.AttnRefIdeal.Val.value (m' ((c.tc : Thread Cert.AttnRefIdeal.nD Cert.AttnRefIdeal.τ).loc Cert.AttnRefIdeal.main_arg0)) (m' ((c.tc : Thread Cert.AttnRefIdeal.nD Cert.AttnRefIdeal.τ).loc Cert.AttnRefIdeal.main_arg1))
        (m' ((c.tc : Thread Cert.AttnRefIdeal.nD Cert.AttnRefIdeal.τ).loc Cert.AttnRefIdeal.main_arg2)) (m' ((c.tc : Thread Cert.AttnRefIdeal.nD Cert.AttnRefIdeal.τ).loc Cert.AttnRefIdeal.main_arg3)) = _
      rw [h0, h1, h2, h3]), (h c).2⟩) (Cert.AttnRefIdeal.Value.run m' ρ')⟩

end Cert.Proof.AttnPart

end
-- ==== Proof.RowMath.lean ====
/-
  The mathematics of one token row, over the extended reals: root-mean-square normalisation, the SwiGLU
  feed-forward block, and the splitting of its long sum into chunks. No program is mentioned here; the modules
  about each call state their values through these definitions.
-/
module

public import Idealize.ShloMosaic.Lib.Pipeline.ValueKit
public import Idealize.ShloMosaic.Lib.Pointwise

@[expose] public section

noncomputable section

namespace Cert.Row

open Idealize.ShloMosaic

/-- The row of a two-axis array. -/
abbrev row {n p : ℕ} (a : (⟨2, ![n, p]⟩ : Shape).Idx → EReal) (r : Fin n) : Fin p → EReal := fun k => a (ix2 r k)

/-- A two-axis array as a function of row and column. -/
abbrev mat {n p : ℕ} (a : (⟨2, ![n, p]⟩ : Shape).Idx → EReal) : Fin n → Fin p → EReal := fun i j => a (ix2 i j)

/-- Root-mean-square normalisation of a row of 1024 entries with gains `g`, at entry `c`. -/
def rms (x g : Fin 1024 → EReal) (c : Fin 1024) : EReal :=
  x c * Ideal.rsqrt (Ideal.div (∑ k, x k * x k) (Ideal.ofBits .f32 0x44800000#32) + Ideal.ofBits .f32 0x358637BD#32) * g c

/-- The product of a row with a matrix, at column `j`. -/
def rowMul {n p : ℕ} (x : Fin n → EReal) (w : Fin n → Fin p → EReal) (j : Fin p) : EReal := ∑ k, x k * w k j

/-- The gated hidden unit `j`: `silu (x · wg) * (x · wu)`. -/
def gated {p : ℕ} (x : Fin 1024 → EReal) (wg wu : Fin 1024 → Fin p → EReal) (j : Fin p) : EReal :=
  rowMul x wg j * Ideal.div 1 (1 + Ideal.exp (0 - rowMul x wg j)) * rowMul x wu j

/-- The feed-forward block of a normalised row, before the second normalisation. -/
def swiglu (x : Fin 1024 → EReal) (wg wu : Fin 1024 → Fin 2816 → EReal) (wd : Fin 2816 → Fin 1024 → EReal) (c : Fin 1024) : EReal :=
  ∑ j, gated x wg wu j * wd j c

/-- Half a step of the feed-forward block: `x + 0.5 * rms (swiglu (rms x))`. -/
def ffn (x g : Fin 1024 → EReal) (wg wu : Fin 1024 → Fin 2816 → EReal) (wd : Fin 2816 → Fin 1024 → EReal)
    (g' : Fin 1024 → EReal) (c : Fin 1024) : EReal :=
  x c + Ideal.ofBits .f32 0x3F000000#32 * rms (swiglu (rms x g) wg wu wd) g' c

/-- Hidden unit `j` of chunk `n` among the 2816 (eleven chunks of 256). -/
def unit (n : Fin 11) (j : Fin 256) : Fin 2816 := ⟨256 * n.val + j.val, by omega⟩

/-- What chunk `n` of the hidden units adds to the block's output. -/
def chunk (x : Fin 1024 → EReal) (wg wu : Fin 1024 → Fin 2816 → EReal) (wd : Fin 2816 → Fin 1024 → EReal)
    (c : Fin 1024) (n : Fin 11) : EReal :=
  ∑ j : Fin 256, gated x wg wu (unit n j) * wd (unit n j) c

/-- The block is the sum of its chunks. -/
theorem swiglu_eq_chunks (x : Fin 1024 → EReal) (wg wu : Fin 1024 → Fin 2816 → EReal) (wd : Fin 2816 → Fin 1024 → EReal)
    (c : Fin 1024) : swiglu x wg wu wd c = ∑ n, chunk x wg wu wd c n := by
  unfold swiglu chunk
  rw [← Fintype.sum_prod_type' fun n j => gated x wg wu (unit n j) * wd (unit n j) c]
  refine (Fintype.sum_equiv (finProdFinEquiv (m := 11) (n := 256)) _ _ fun p => ?_).symm
  have : unit p.1 p.2 = finProdFinEquiv (m := 11) (n := 256) p := by
    apply Fin.ext; simp [unit, finProdFinEquiv]; omega
  rw [this]

/-- The chunks added one after another, first to last. -/
theorem swiglu_eq_running (x : Fin 1024 → EReal) (wg wu : Fin 1024 → Fin 2816 → EReal) (wd : Fin 2816 → Fin 1024 → EReal)
    (c : Fin 1024) :
    chunk x wg wu wd c 0 + chunk x wg wu wd c 1 + chunk x wg wu wd c 2 + chunk x wg wu wd c 3 + chunk x wg wu wd c 4
      + chunk x wg wu wd c 5 + chunk x wg wu wd c 6 + chunk x wg wu wd c 7 + chunk x wg wu wd c 8 + chunk x wg wu wd c 9
      + chunk x wg wu wd c 10 = swiglu x wg wu wd c := by
  rw [swiglu_eq_chunks]
  simp only [Fin.sum_univ_succ, Fin.sum_univ_zero, add_zero, ← add_assoc]
  rfl

end Cert.Row

end
-- ==== Proof.FfnBlock.lean ====
/-
  The feed-forward call: what one grid point (512 token rows) leaves in its output block, as a function of the
  blocks it reads. The chunks of the hidden axis are accumulated one after another.
-/
module

public import proofs.«01_k».proof.Proof.Gen.FfnIdeal.Value
public import proofs.«01_k».proof.Proof.RowMath
public import Idealize.ShloMosaic.Lib.Pipeline.ReadBack

@[expose] public section

set_option maxRecDepth 16384

noncomputable section

namespace Cert.FfnIdeal.Val

open Cert.FfnIdeal Cert.FfnIdeal.Gen Idealize.ShloMosaic Idealize.ShloMosaic.TcCoe Idealize.SL.Sem
open Idealize.ShloMosaic.Pipeline (Dat)
open Cert.Row

variable (x v : Vec Ideal S512x1024 .f32) (xn : Vec Ideal S512x1024 .bf16) (g : Vec Ideal S1x1024 .f32)
variable (wg wu : Vec Ideal S1024x2816 .bf16) (wd : Vec Ideal S2816x1024 .bf16) (y : S512x1024.Idx)

/-- The first normalisation. -/
theorem pay1_apply : k0_pay1 x g y = rms (row x (y 0)) (row g 0) (y 1) := by
  pointwise [k0_pay1]
  simp only [rms, row, ix2_eta]

/-! Each chunk's store adds that chunk's term to what the accumulator held. -/

theorem step0 : k0_pay3 (k0_pay2 xn
      (View.ld wg (Rect.unit ![0, 0] ![1024, 256] inb_S1024x2816_S1024x256_0_0))
      (View.ld wu (Rect.unit ![0, 0] ![1024, 256] inb_S1024x2816_S1024x256_0_0)))
      (View.ld wd (Rect.unit ![0, 0] ![256, 1024] inb_S2816x1024_S256x1024_0_0)) y
    = chunk (row xn (y 0)) (mat wg) (mat wu) (mat wd) (y 1) 0 := by
  pointwise [k0_pay3, k0_pay2]
  simp only [chunk, gated, rowMul, unit, row, mat, Fin.val_zero, Nat.mul_zero, Nat.zero_add]

theorem step1 : k0_pay4 xn
      (View.ld wg (Rect.unit ![0, 256] ![1024, 256] inb_S1024x2816_S1024x256_0_256))
      (View.ld wu (Rect.unit ![0, 256] ![1024, 256] inb_S1024x2816_S1024x256_0_256))
      (View.ld wd (Rect.unit ![256, 0] ![256, 1024] inb_S2816x1024_S256x1024_256_0)) v y
    = v y + chunk (row xn (y 0)) (mat wg) (mat wu) (mat wd) (y 1) 1 := by
  pointwise [k0_pay4]
  rfl

theorem step2 : k0_pay5 xn
      (View.ld wg (Rect.unit ![0, 512] ![1024, 256] inb_S1024x2816_S1024x256_0_512))
      (View.ld wu (Rect.unit ![0, 512] ![1024, 256] inb_S1024x2816_S1024x256_0_512))
      (View.ld wd (Rect.unit ![512, 0] ![256, 1024] inb_S2816x1024_S256x1024_512_0)) v y
    = v y + chunk (row xn (y 0)) (mat wg) (mat wu) (mat wd) (y 1) 2 := by
  pointwise [k0_pay5]
  rfl

theorem step3 : k0_pay9 (k0_pay6 xn
      (View.ld wg (Rect.unit ![0, 768] ![1024, 256] inb_S1024x2816_S1024x256_0_768))) (k0_pay7 xn
      (View.ld wu (Rect.unit ![0, 768] ![1024, 256] inb_S1024x2816_S1024x256_0_768))) (k0_pay8 xn
      (View.ld wg (Rect.unit ![0, 768] ![1024, 256] inb_S1024x2816_S1024x256_0_768)))
      (View.ld wd (Rect.unit ![768, 0] ![256, 1024] inb_S2816x1024_S256x1024_768_0)) v y
    = v y + chunk (row xn (y 0)) (mat wg) (mat wu) (mat wd) (y 1) 3 := by
  pointwise [k0_pay9, k0_pay6, k0_pay7, k0_pay8]
  rfl

theorem step4 : k0_pay11 (k0_pay10 xn
      (View.ld wg (Rect.unit ![0, 1024] ![1024, 256] inb_S1024x2816_S1024x256_0_1024))
      (View.ld wu (Rect.unit ![0, 1024] ![1024, 256] inb_S1024x2816_S1024x256_0_1024))
      (View.ld wd (Rect.unit ![1024, 0] ![256, 1024] inb_S2816x1024_S256x1024_1024_0)) v) y
    = v y + chunk (row xn (y 0)) (mat wg) (mat wu) (mat wd) (y 1) 4 := by
  pointwise [k0_pay11, k0_pay10]
  rfl

theorem step5 : k0_pay12 xn
      (View.ld wg (Rect.unit ![0, 1280] ![1024, 256] inb_S1024x2816_S1024x256_0_1280))
      (View.ld wu (Rect.unit ![0, 1280] ![1024, 256] inb_S1024x2816_S1024x256_0_1280))
      (View.ld wd (Rect.unit ![1280, 0] ![256, 1024] inb_S2816x1024_S256x1024_1280_0)) v y
    = v y + chunk (row xn (y 0)) (mat wg) (mat wu) (mat wd) (y 1) 5 := by
  pointwise [k0_pay12]
  rfl

theorem step6 : k0_pay14 xn (k0_pay13 xn
      (View.ld wg (Rect.unit ![0, 1536] ![1024, 256] inb_S1024x2816_S1024x256_0_1536)))
      (View.ld wu (Rect.unit ![0, 1536] ![1024, 256] inb_S1024x2816_S1024x256_0_1536))
      (View.ld wd (Rect.unit ![1536, 0] ![256, 1024] inb_S2816x1024_S256x1024_1536_0)) v y
    = v y + chunk (row xn (y 0)) (mat wg) (mat wu) (mat wd) (y 1) 6 := by
  pointwise [k0_pay14, k0_pay13]
  rfl

theorem step7 : k0_pay17 (k0_pay15 xn
      (View.ld wu (Rect.unit ![0, 1792] ![1024, 256] inb_S1024x2816_S1024x256_0_1792))) (k0_pay16 xn
      (View.ld wg (Rect.unit ![0, 1792] ![1024, 256] inb_S1024x2816_S1024x256_0_1792)))
      (View.ld wd (Rect.unit ![1792, 0] ![256, 1024] inb_S2816x1024_S256x1024_1792_0)) v y
    = v y + chunk (row xn (y 0)) (mat wg) (mat wu) (mat wd) (y 1) 7 := by
  pointwise [k0_pay17, k0_pay15, k0_pay16]
  rfl

theorem step8 : k0_pay19 (k0_pay18 xn
      (View.ld wg (Rect.unit ![0, 2048] ![1024, 256] inb_S1024x2816_S1024x256_0_2048))
      (View.ld wu (Rect.unit ![0, 2048] ![1024, 256] inb_S1024x2816_S1024x256_0_2048))
      (View.ld wd (Rect.unit ![2048, 0] ![256, 1024] inb_S2816x1024_S256x1024_2048_0)) v) y
    = v y + chunk (row xn (y 0)) (mat wg) (mat wu) (mat wd) (y 1) 8 := by
  pointwise [k0_pay19, k0_pay18]
  rfl

theorem step9 : k0_pay20 xn
      (View.ld wg (Rect.unit ![0, 2304] ![1024, 256] inb_S1024x2816_S1024x256_0_2304))
      (View.ld wu (Rect.unit ![0, 2304] ![1024, 256] inb_S1024x2816_S1024x256_0_2304))
      (View.ld wd (Rect.unit ![2304, 0] ![256, 1024] inb_S2816x1024_S256x1024_2304_0)) v y
    = v y + chunk (row xn (y 0)) (mat wg) (mat wu) (mat wd) (y 1) 9 := by
  pointwise [k0_pay20]
  rfl

theorem step10 : k0_pay23 xn (k0_pay21 xn
      (View.ld wg (Rect.unit ![0, 2560] ![1024, 256] inb_S1024x2816_S1024x256_0_2560))) (k0_pay22
      (View.ld wu (Rect.unit ![0, 2560] ![1024, 256] inb_S1024x2816_S1024x256_0_2560))) (constant S512x256 FTy.f32 0#32)
      (View.ld wd (Rect.unit ![2560, 0] ![256, 1024] inb_S2816x1024_S256x1024_2560_0)) v y
    = v y + chunk (row xn (y 0)) (mat wg) (mat wu) (mat wd) (y 1) 10 := by
  pointwise [k0_pay23, k0_pay21, k0_pay22]
  rfl

/-- The last normalisation and the residual. -/
theorem pay24_apply : k0_pay24 x v g y
    = x y + Ideal.ofBits .f32 0x3F000000#32 * rms (row v (y 0)) (row g 0) (y 1) := by
  pointwise [k0_pay24]
  simp only [rms, row, ix2_eta]

variable (m : (ℓ : Loc nD τ sig) → Buf (Elt Ideal) ℓ)

/-- What grid point `t` leaves in its output block. -/
theorem outsAt0_apply (c : Dev nD) (t : Fin cfg0.N) (y : S512x1024.Idx) :
    outsAt0 m c t y = ffn (row (iblk m c 0 t) (y 0)) (row (iblk m c 1 t) 0) (mat (iblk m c 2 t)) (mat (iblk m c 3 t))
      (mat (iblk m c 4 t)) (row (iblk m c 5 t) 0) (y 1) := by
  unfold outsAt0
  frame_open
  simp (disch := decide) only [↓ View.readCov_skip, ↓ View.readCov_cons_toLoadRect, ↓ View.readCov_fill]
  frame_out
  rw [pay24_apply]
  unfold ffn
  have hx : iblk m c 0 t y = row (iblk m c 0 t) (y 0) (y 1) := by simp only [row, ix2_eta]
  rw [hx]
  have hn : row (k0_pay1 (iblk m c 0 t) (iblk m c 1 t)) (y 0) = rms (row (iblk m c 0 t) (y 0)) (row (iblk m c 1 t) 0) := by
    funext k; exact pay1_apply _ _ _
  congr 3
  funext k
  rw [← hn, ← swiglu_eq_running]
  simp only [row, step0, step1, step2, step3, step4, step5, step6, step7, step8, step9, step10]
  rfl

end Cert.FfnIdeal.Val

end
-- ==== Proof.FfnValue.lean ====
/-
  The feed-forward call's output array as a function of its arguments: every token row is `Cert.Row.ffn` of that row.
-/
module

public import proofs.«01_k».proof.Proof.FfnBlock
public import proofs.«01_k».proof.Proof.Gen.FfnRefIdeal.Run

@[expose] public section

set_option maxRecDepth 16384

noncomputable section

namespace Cert.FfnIdeal.Val

open Cert.FfnIdeal Cert.FfnIdeal.Gen Idealize.ShloMosaic Idealize.ShloMosaic.TcCoe Idealize.SL.Sem
open Idealize.ShloMosaic.Pipeline (Dat)
open Cert.Row

/-- The value both programs compute, from the six arguments. -/
def value (x : Vec Ideal S65536x1024 .f32) (g : Vec Ideal S1024 .f32) (wg wu : Vec Ideal S1024x2816 .f32)
    (wd : Vec Ideal S2816x1024 .f32) (g' : Vec Ideal S1024 .f32) : Vec Ideal S65536x1024 .f32 :=
  fun i => ffn (row x (i 0)) (fun k => g (ix1 k)) (mat wg) (mat wu) (mat wd) (fun k => g' (ix1 k)) (i 1)

variable (m : (ℓ : Loc nD τ sig) → Buf (Elt Ideal) ℓ)

/-- Which block each window shows at grid point `t`. -/
theorem idx : ∀ t : Fin grid0.N, win0_0.index t = ![(grid0.coords t 0).val, 0] ∧ win0_1.index t = ![0, 0] ∧ win0_2.index t = ![0, 0]
    ∧ win0_3.index t = ![0, 0] ∧ win0_4.index t = ![0, 0] ∧ win0_5.index t = ![0, 0] ∧ win0_6.index t = ![(grid0.coords t 0).val, 0] := by
  decide +kernel

/-- The output array after the run. -/
theorem final (c : Dev nD) : (dats m 0 c).arrAt 6 cfg0.N
    = value (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  obtain ⟨e0, e1, e2, e3, e4, e5, e6⟩ := idx t
  blk_simp
  rw [after0_6]
  erw [outsAt0_apply]
  unfold value
  congr 1
  · funext k; dsimp only [row]; blk_ext [iblk, V, e0, e6]
  · funext k; dsimp only [row]; blk_ext! [iblk, e1]
  · funext i j; dsimp only [mat]; blk_ext [iblk, V, e2]
  · funext i j; dsimp only [mat]; blk_ext [iblk, V, e3]
  · funext i j; dsimp only [mat]; blk_ext [iblk, V, e4]
  · funext k; dsimp only [row]; blk_ext! [iblk, e5]
  · apply Fin.ext; blk_simp [e6]

end Cert.FfnIdeal.Val

namespace Cert.FfnRefIdeal.Val

open Cert.FfnRefIdeal Idealize.ShloMosaic Idealize.ShloMosaic.TcCoe Idealize.SL.Sem
open Cert.Row

/-- The reference's result is the same value. -/
theorem res_eq (m : (ℓ : Loc nD τ sig) → Buf (Elt Ideal) ℓ) (c : Dev nD) : Value.res_out0 m c
    = Cert.FfnIdeal.Val.value (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  funext i
  show Value.res_main_v33 m c i = _
  pointwise [Value.res_main_v33]
  simp only [Cert.FfnIdeal.Val.value, ffn, rms, swiglu, gated, rowMul, zero_sub]
  have hi : m ((c.tc : Thread nD τ).loc main_arg0) i = row (m ((c.tc : Thread nD τ).loc main_arg0)) (i 0) (i 1) := by simp only [row, ix2_eta]
  rw [hi]

end Cert.FfnRefIdeal.Val

end
-- ==== Proof.FfnClaims.lean ====
/- The claims about the feed-forward call: the reference's frame, and the kernel against the reference over the reals. -/
module

public import proofs.«01_k».proof.Defs
public import proofs.«01_k».proof.Proof.Gen.Ffn.Frame
public import proofs.«01_k».proof.Proof.FfnValue
public import Idealize.ShloMosaic.Lib.Quiescent

@[expose] public section

noncomputable section

namespace Cert.Proof.FfnPart

open Idealize.ShloMosaic Idealize.SL.Sem

/-- The reference runs to an end, keeps its arguments and leaves no counter behind. -/
theorem frame_ref : Cert.quiescent_FfnRefIdeal := fun m ρ _ =>
  (θ_run _ _ _).mono (fun r h => ⟨fun c => (h c).2, sem_eq_zero_of_no_sems (by decide) _⟩) (Cert.FfnRefIdeal.Value.run m ρ)

/-- Kernel and reference end with the same array. -/
theorem algebraic : Cert.algebraic_FfnIdeal_FfnRefIdeal := fun m ρ m' ρ' _ hag =>
  ⟨fun c => (Cert.FfnIdeal.Gen.dats m 0 c).arrAt 6 Cert.FfnIdeal.cfg0.N,
    Cert.FfnIdeal.Value.run_blocks m ρ,
    (θ_run _ _ _).mono (fun _ h c => ⟨(h c).1.trans (by
      obtain ⟨h0, h1, h2, h3, h4, h5⟩ := hag c
      refine (Cert.FfnRefIdeal.Val.res_eq m' c).trans ?_
      rw [h0, h1, h2, h3, h4, h5]
      exact (Cert.FfnIdeal.Val.final m c).symm), (h c).2⟩) (Cert.FfnRefIdeal.Value.run m' ρ')⟩

end Cert.Proof.FfnPart

end
-- ==== Proof.MixBlock.lean ====
/-
  The mix and feed-forward call: what one grid point (512 token rows) leaves in its output block, as a function of the
  blocks it reads: the projected attention output is normalised and added to the residual, and the feed-forward block,
  its hidden axis in chunks, is applied to the sum.
-/
module

public import proofs.«01_k».proof.Proof.Gen.MixIdeal.Value
public import proofs.«01_k».proof.Proof.RowMath
public import Idealize.ShloMosaic.Lib.Pipeline.ReadBack

@[expose] public section

set_option maxRecDepth 16384

noncomputable section

namespace Cert.MixIdeal.Val

open Cert.MixIdeal Cert.MixIdeal.Gen Idealize.ShloMosaic Idealize.ShloMosaic.TcCoe Idealize.SL.Sem
open Idealize.ShloMosaic.Pipeline (Dat)
open Cert.Row

/-- The first residual step of one row: `x + rms (a · wo)`. -/
def mixed (x a : Fin 1024 → EReal) (wo : Fin 1024 → Fin 1024 → EReal) (g : Fin 1024 → EReal) (c : Fin 1024) : EReal :=
  x c + rms (rowMul a wo) g c

variable (x v : Vec Ideal S512x1024 .f32) (a xn : Vec Ideal S512x1024 .bf16) (g : Vec Ideal S1x1024 .f32)
variable (wo : Vec Ideal S1024x1024 .bf16)
variable (wg wu : Vec Ideal S1024x2816 .bf16) (wd : Vec Ideal S2816x1024 .bf16) (y : S512x1024.Idx)

/-- The first residual step. -/
theorem pay3_apply : k0_pay3 a wo x g y = mixed (row x (y 0)) (row a (y 0)) (mat wo) (row g 0) (y 1) := by
  pointwise [k0_pay3]
  simp only [mixed, rms, rowMul, row, mat, ix2_eta]
  try rfl

/-- The normalisation before the feed-forward block. -/
theorem pay6_apply : k0_pay6 (k0_pay4 g) (k0_pay5 x) y = rms (row x (y 0)) (row g 0) (y 1) := by
  pointwise [k0_pay6, k0_pay4, k0_pay5]
  simp only [rms, row, ix2_eta]
  try rfl

/-! Each chunk's store adds that chunk's term to what the accumulator held. -/

theorem step0 : k0_pay7 xn (View.ld wg (Rect.unit ![0, 0] ![1024, 256] inb_S1024x2816_S1024x256_0_0))
      (View.ld wu (Rect.unit ![0, 0] ![1024, 256] inb_S1024x2816_S1024x256_0_0))
      (View.ld wd (Rect.unit ![0, 0] ![256, 1024] inb_S2816x1024_S256x1024_0_0)) y
    = chunk (row xn (y 0)) (mat wg) (mat wu) (mat wd) (y 1) 0 := by
  pointwise [k0_pay7]
  simp only [chunk, gated, rowMul, unit, row, mat, Fin.val_zero, Nat.mul_zero, Nat.zero_add]

theorem step1 : k0_pay9 xn (k0_pay8 xn (View.ld wg (Rect.unit ![0, 256] ![1024, 256] inb_S1024x2816_S1024x256_0_256)))
      (View.ld wu (Rect.unit ![0, 256] ![1024, 256] inb_S1024x2816_S1024x256_0_256))
      (View.ld wd (Rect.unit ![256, 0] ![256, 1024] inb_S2816x1024_S256x1024_256_0)) v y
    = v y + chunk (row xn (y 0)) (mat wg) (mat wu) (mat wd) (y 1) 1 := by
  pointwise [k0_pay9, k0_pay8]
  rfl

theorem step2 : k0_pay11 (k0_pay10 xn (View.ld wg (Rect.unit ![0, 512] ![1024, 256] inb_S1024x2816_S1024x256_0_512))
      (View.ld wu (Rect.unit ![0, 512] ![1024, 256] inb_S1024x2816_S1024x256_0_512)))
      (View.ld wd (Rect.unit ![512, 0] ![256, 1024] inb_S2816x1024_S256x1024_512_0)) v y
    = v y + chunk (row xn (y 0)) (mat wg) (mat wu) (mat wd) (y 1) 2 := by
  pointwise [k0_pay11, k0_pay10]
  rfl

theorem step3 : k0_pay12 xn (View.ld wg (Rect.unit ![0, 768] ![1024, 256] inb_S1024x2816_S1024x256_0_768))
      (View.ld wu (Rect.unit ![0, 768] ![1024, 256] inb_S1024x2816_S1024x256_0_768))
      (View.ld wd (Rect.unit ![768, 0] ![256, 1024] inb_S2816x1024_S256x1024_768_0)) v y
    = v y + chunk (row xn (y 0)) (mat wg) (mat wu) (mat wd) (y 1) 3 := by
  pointwise [k0_pay12]
  rfl

theorem step4 : k0_pay13 xn (View.ld wg (Rect.unit ![0, 1024] ![1024, 256] inb_S1024x2816_S1024x256_0_1024))
      (View.ld wu (Rect.unit ![0, 1024] ![1024, 256] inb_S1024x2816_S1024x256_0_1024))
      (View.ld wd (Rect.unit ![1024, 0] ![256, 1024] inb_S2816x1024_S256x1024_1024_0)) v y
    = v y + chunk (row xn (y 0)) (mat wg) (mat wu) (mat wd) (y 1) 4 := by
  pointwise [k0_pay13]
  rfl

theorem step5 : k0_pay16 (k0_pay14 xn (View.ld wg (Rect.unit ![0, 1280] ![1024, 256] inb_S1024x2816_S1024x256_0_1280)))
      (k0_pay15 xn (View.ld wu (Rect.unit ![0, 1280] ![1024, 256] inb_S1024x2816_S1024x256_0_1280)))
      (View.ld wd (Rect.unit ![1280, 0] ![256, 1024] inb_S2816x1024_S256x1024_1280_0)) v y
    = v y + chunk (row xn (y 0)) (mat wg) (mat wu) (mat wd) (y 1) 5 := by
  pointwise [k0_pay16, k0_pay14, k0_pay15]
  rfl

theorem step6 : k0_pay18 (k0_pay17 xn (View.ld wg (Rect.unit ![0, 1536] ![1024, 256] inb_S1024x2816_S1024x256_0_1536))
      (View.ld wu (Rect.unit ![0, 1536] ![1024, 256] inb_S1024x2816_S1024x256_0_1536)))
      (View.ld wd (Rect.unit ![1536, 0] ![256, 1024] inb_S2816x1024_S256x1024_1536_0)) v y
    = v y + chunk (row xn (y 0)) (mat wg) (mat wu) (mat wd) (y 1) 6 := by
  pointwise [k0_pay18, k0_pay17]
  rfl

theorem step7 : k0_pay19 xn (View.ld wg (Rect.unit ![0, 1792] ![1024, 256] inb_S1024x2816_S1024x256_0_1792))
      (View.ld wu (Rect.unit ![0, 1792] ![1024, 256] inb_S1024x2816_S1024x256_0_1792))
      (View.ld wd (Rect.unit ![1792, 0] ![256, 1024] inb_S2816x1024_S256x1024_1792_0)) v y
    = v y + chunk (row xn (y 0)) (mat wg) (mat wu) (mat wd) (y 1) 7 := by
  pointwise [k0_pay19]
  rfl

theorem step8 : k0_pay20 xn (View.ld wg (Rect.unit ![0, 2048] ![1024, 256] inb_S1024x2816_S1024x256_0_2048))
      (View.ld wu (Rect.unit ![0, 2048] ![1024, 256] inb_S1024x2816_S1024x256_0_2048))
      (View.ld wd (Rect.unit ![2048, 0] ![256, 1024] inb_S2816x1024_S256x1024_2048_0)) v y
    = v y + chunk (row xn (y 0)) (mat wg) (mat wu) (mat wd) (y 1) 8 := by
  pointwise [k0_pay20]
  rfl

theorem step9 : k0_pay24 (k0_pay21 xn (View.ld wg (Rect.unit ![0, 2304] ![1024, 256] inb_S1024x2816_S1024x256_0_2304)))
      (k0_pay22 xn (View.ld wu (Rect.unit ![0, 2304] ![1024, 256] inb_S1024x2816_S1024x256_0_2304)))
      (k0_pay23 xn (View.ld wg (Rect.unit ![0, 2304] ![1024, 256] inb_S1024x2816_S1024x256_0_2304)))
      (View.ld wd (Rect.unit ![2304, 0] ![256, 1024] inb_S2816x1024_S256x1024_2304_0)) v y
    = v y + chunk (row xn (y 0)) (mat wg) (mat wu) (mat wd) (y 1) 9 := by
  pointwise [k0_pay24, k0_pay21, k0_pay22, k0_pay23]
  rfl

theorem step10 : k0_pay1 (k0_pay25 xn (View.ld wg (Rect.unit ![0, 2560] ![1024, 256] inb_S1024x2816_S1024x256_0_2560))
      (View.ld wu (Rect.unit ![0, 2560] ![1024, 256] inb_S1024x2816_S1024x256_0_2560))
      (View.ld wd (Rect.unit ![2560, 0] ![256, 1024] inb_S2816x1024_S256x1024_2560_0))) v y
    = v y + chunk (row xn (y 0)) (mat wg) (mat wu) (mat wd) (y 1) 10 := by
  pointwise [k0_pay1, k0_pay25]
  rfl

/-- The last normalisation and the residual. -/
theorem pay2_apply : k0_pay2 x v g y
    = x y + Ideal.ofBits .f32 0x3F000000#32 * rms (row v (y 0)) (row g 0) (y 1) := by
  pointwise [k0_pay2]
  simp only [rms, row, ix2_eta]

variable (m : (ℓ : Loc nD τ sig) → Buf (Elt Ideal) ℓ)

/-- What grid point `t` leaves in its output block. -/
theorem outsAt0_apply (c : Dev nD) (t : Fin cfg0.N) (y : S512x1024.Idx) :
    outsAt0 m c t y = ffn (mixed (row (iblk m c 0 t) (y 0)) (row (iblk m c 1 t) (y 0)) (mat (iblk m c 2 t)) (row (iblk m c 3 t) 0))
      (row (iblk m c 4 t) 0) (mat (iblk m c 5 t)) (mat (iblk m c 6 t)) (mat (iblk m c 7 t)) (row (iblk m c 8 t) 0) (y 1) := by
  unfold outsAt0
  frame_open
  simp (disch := decide) only [↓ View.readCov_skip, ↓ View.readCov_cons_toLoadRect, ↓ View.readCov_fill]
  frame_out
  rw [pay2_apply]
  unfold ffn
  rw [pay3_apply]
  have hx : row (k0_pay3 (iblk m c 1 t) (iblk m c 2 t) (iblk m c 0 t) (iblk m c 3 t)) (y 0)
      = mixed (row (iblk m c 0 t) (y 0)) (row (iblk m c 1 t) (y 0)) (mat (iblk m c 2 t)) (row (iblk m c 3 t) 0) := by
    funext k; exact pay3_apply _ _ _ _ _
  have hn : row (k0_pay6 (k0_pay4 (iblk m c 4 t)) (k0_pay5 (k0_pay3 (iblk m c 1 t) (iblk m c 2 t) (iblk m c 0 t) (iblk m c 3 t)))) (y 0)
      = rms (mixed (row (iblk m c 0 t) (y 0)) (row (iblk m c 1 t) (y 0)) (mat (iblk m c 2 t)) (row (iblk m c 3 t) 0)) (row (iblk m c 4 t) 0) := by
    funext k; rw [← hx]; exact pay6_apply _ _ _
  congr 3
  funext k
  rw [← hn, ← swiglu_eq_running]
  simp only [row, step0, step1, step2, step3, step4, step5, step6, step7, step8, step9, step10]
  rfl

end Cert.MixIdeal.Val

end
-- ==== Proof.MixValue.lean ====
/-
  The mix and feed-forward call's output array as a function of its arguments, and the reference's result as the same
  function: every token row is the feed-forward half step of the first residual step of that row.
-/
module

public import proofs.«01_k».proof.Proof.MixBlock
public import proofs.«01_k».proof.Proof.Gen.MixRefIdeal.Run

@[expose] public section

set_option maxRecDepth 16384

noncomputable section

namespace Cert.MixIdeal.Val

open Cert.MixIdeal Cert.MixIdeal.Gen Idealize.ShloMosaic Idealize.ShloMosaic.TcCoe Idealize.SL.Sem
open Idealize.ShloMosaic.Pipeline (Dat)
open Cert.Row

/-- The value both programs compute, from the nine arguments. -/
def value (x a : Vec Ideal S65536x1024 .f32) (wo : Vec Ideal S1024x1024 .f32) (gm g : Vec Ideal S1024 .f32)
    (wg wu : Vec Ideal S1024x2816 .f32) (wd : Vec Ideal S2816x1024 .f32) (g' : Vec Ideal S1024 .f32) : Vec Ideal S65536x1024 .f32 :=
  fun i => ffn (mixed (row x (i 0)) (row a (i 0)) (mat wo) (fun k => gm (ix1 k))) (fun k => g (ix1 k)) (mat wg) (mat wu) (mat wd)
    (fun k => g' (ix1 k)) (i 1)

variable (m : (ℓ : Loc nD τ sig) → Buf (Elt Ideal) ℓ)

/-- Which block each window shows at grid point `t`. -/
theorem idx : ∀ t : Fin grid0.N, win0_0.index t = ![(grid0.coords t 0).val, 0] ∧ win0_1.index t = ![(grid0.coords t 0).val, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![(grid0.coords t 0).val, 0] := by
  decide +kernel

set_option maxHeartbeats 1000000 in
/-- The output array after the run. -/
theorem final (c : Dev nD) : (dats m 0 c).arrAt 9 cfg0.N
    = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 9 _ (by decide +kernel) fun t hf y => ?_
  obtain ⟨e0, e1, e2, e3, e4, e5, e6, e7, e8, e9⟩ := idx t
  blk_simp
  rw [after0_9]
  erw [outsAt0_apply]
  unfold value
  congr 1
  · congr 1
    · funext k; dsimp only [row]; blk_ext [iblk, V, e0, e9]
    · funext k; dsimp only [row]; blk_ext [iblk, V, e1, e9]
    · funext i j; dsimp only [mat]; blk_ext [iblk, V, e2]
    · funext k; dsimp only [row]; blk_ext! [iblk, e3]
  · funext k; dsimp only [row]; blk_ext! [iblk, e4]
  · funext i j; dsimp only [mat]; blk_ext [iblk, V, e5]
  · funext i j; dsimp only [mat]; blk_ext [iblk, V, e6]
  · funext i j; dsimp only [mat]; blk_ext [iblk, V, e7]
  · funext k; dsimp only [row]; blk_ext! [iblk, e8]
  · apply Fin.ext; blk_simp [e9]

end Cert.MixIdeal.Val

namespace Cert.MixRefIdeal.Val

open Cert.MixRefIdeal Idealize.ShloMosaic Idealize.ShloMosaic.TcCoe Idealize.SL.Sem
open Cert.Row

set_option maxHeartbeats 1000000 in
/-- The reference's result is the same value. -/
theorem res_eq (m : (ℓ : Loc nD τ sig) → Buf (Elt Ideal) ℓ) (c : Dev nD) : Value.res_out0 m c
    = Cert.MixIdeal.Val.value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  show Value.res_main_v48 m c i = _
  pointwise [Value.res_main_v48]
  simp only [Cert.MixIdeal.Val.value, ffn, Cert.MixIdeal.Val.mixed, rms, swiglu, gated, rowMul, zero_sub]
  have hi : m ((c.tc : Thread nD τ).loc main_arg0) i = row (m ((c.tc : Thread nD τ).loc main_arg0)) (i 0) (i 1) := by simp only [row, ix2_eta]
  rw [hi]

end Cert.MixRefIdeal.Val

end
-- ==== Proof.MixClaims.lean ====
/- The claims about the mix and feed-forward call: the reference's frame, and the kernel against the reference over the reals. -/
module

public import proofs.«01_k».proof.Defs
public import proofs.«01_k».proof.Proof.MixValue
public import Idealize.ShloMosaic.Lib.Quiescent

@[expose] public section

noncomputable section

namespace Cert.Proof.MixPart

open Idealize.ShloMosaic Idealize.SL.Sem

/-- The reference runs to an end, keeps its arguments and leaves no counter behind. -/
theorem frame_ref : Cert.quiescent_MixRefIdeal := fun m ρ _ =>
  (θ_run _ _ _).mono (fun r h => ⟨fun c => (h c).2, sem_eq_zero_of_no_sems (by decide) _⟩) (Cert.MixRefIdeal.Value.run m ρ)

/-- Kernel and reference end with the same array. -/
theorem algebraic : Cert.algebraic_MixIdeal_MixRefIdeal := fun m ρ m' ρ' _ hag =>
  ⟨fun c => (Cert.MixIdeal.Gen.dats m 0 c).arrAt 9 Cert.MixIdeal.cfg0.N,
    Cert.MixIdeal.Value.run_blocks m ρ,
    (θ_run _ _ _).mono (fun _ h c => ⟨(h c).1.trans (by
      obtain ⟨h0, h1, h2, h3, h4, h5, h6, h7, h8⟩ := hag c
      refine (Cert.MixRefIdeal.Val.res_eq m' c).trans ?_
      rw [h0, h1, h2, h3, h4, h5, h6, h7, h8]
      exact (Cert.MixIdeal.Val.final m c).symm), (h c).2⟩) (Cert.MixRefIdeal.Value.run m' ρ')⟩

end Cert.Proof.MixPart

end
-- ==== Proof.QkvValue.lean ====
/-
  The projection to queries, keys and values: every token row is normalised and multiplied by the weights, in the kernel
  as in the reference.
-/
module

public import proofs.«01_k».proof.Defs
public import proofs.«01_k».proof.Proof.Gen.QkvIdeal.Value
public import proofs.«01_k».proof.Proof.Gen.QkvRefIdeal.Run
public import proofs.«01_k».proof.Proof.RowMath
public import Idealize.ShloMosaic.Lib.Pipeline.ReadBack
public import Idealize.ShloMosaic.Lib.Quiescent

@[expose] public section

set_option maxRecDepth 16384

noncomputable section

namespace Cert.QkvIdeal.Val

open Cert.QkvIdeal Cert.QkvIdeal.Gen Idealize.ShloMosaic Idealize.ShloMosaic.TcCoe Idealize.SL.Sem
open Idealize.ShloMosaic.Pipeline (Dat)
open Cert.Row

/-- The value both programs compute. -/
def value (x : Vec Ideal S65536x1024 .f32) (g : Vec Ideal S1024 .f32) (w : Vec Ideal S1024x3072 .f32) : Vec Ideal S65536x3072 .bf16 :=
  fun i => rowMul (rms (row x (i 0)) (fun k => g (ix1 k))) (mat w) (i 1)

/-- The payload of one grid point. -/
theorem pay1_apply (x : Vec Ideal S512x1024 .f32) (g : Vec Ideal S1x1024 .f32) (w : Vec Ideal S1024x3072 .bf16) (y : S512x3072.Idx) :
    k0_pay1 x g w y = rowMul (rms (row x (y 0)) (row g 0)) (mat w) (y 1) := by
  pointwise [k0_pay1]
  try rfl

variable (m : (ℓ : Loc nD τ sig) → Buf (Elt Ideal) ℓ)

/-- Which block each window shows at grid point `t`. -/
theorem idx : ∀ t : Fin grid0.N, win0_0.index t = ![(grid0.coords t 0).val, 0] ∧ win0_1.index t = ![0, 0] ∧ win0_2.index t = ![0, 0]
    ∧ win0_3.index t = ![(grid0.coords t 0).val, 0] := by
  decide +kernel

set_option maxHeartbeats 1000000 in
/-- The output array after the run. -/
theorem final (c : Dev nD) : (dats m 0 c).arrAt 3 cfg0.N = value (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨e0, e1, e2, e3⟩ := idx t
  blk_simp
  rw [after0_3]
  unfold out0_3
  frame_out
  erw [pay1_apply]
  unfold value
  congr 1
  · congr 1
    · funext k; dsimp only [row]; blk_ext [iblk, V, e0, e3]
    · funext k; dsimp only [row]; blk_ext! [iblk, e1]
  · funext i j; dsimp only [mat]; blk_ext [iblk, V, e2]
  · apply Fin.ext; blk_simp [e3]

end Cert.QkvIdeal.Val

namespace Cert.QkvRefIdeal.Val

open Cert.QkvRefIdeal Idealize.ShloMosaic Idealize.ShloMosaic.TcCoe Idealize.SL.Sem
open Cert.Row

set_option maxHeartbeats 1000000 in
/-- The reference's run leaves the same value. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = Cert.QkvIdeal.Val.value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans (by
    funext i
    pointwise []
    simp only [Cert.QkvIdeal.Val.value, rms, rowMul]
    try rfl), (h c).2⟩) (Value.run m ρ)

end Cert.QkvRefIdeal.Val

namespace Cert.Proof.QkvPart

open Idealize.ShloMosaic Idealize.SL.Sem

/-- The reference runs to an end, keeps its arguments and leaves no counter behind. -/
theorem frame_ref : Cert.quiescent_QkvRefIdeal := fun m ρ _ =>
  (θ_run _ _ _).mono (fun r h => ⟨fun c => (h c).2, sem_eq_zero_of_no_sems (by decide) _⟩) (Cert.QkvRefIdeal.Value.run m ρ)

/-- Kernel and reference end with the same array. -/
theorem algebraic : Cert.algebraic_QkvIdeal_QkvRefIdeal := fun m ρ m' ρ' _ hag =>
  ⟨fun c => (Cert.QkvIdeal.Gen.dats m 0 c).arrAt 3 Cert.QkvIdeal.cfg0.N,
    Cert.QkvIdeal.Value.run_blocks m ρ,
    (θ_run _ _ _).mono (fun _ h c => ⟨(h c).1.trans (by
      obtain ⟨h0, h1, h2⟩ := hag c
      rw [h0, h1, h2]
      exact (Cert.QkvIdeal.Val.final m c).symm), (h c).2⟩) (Cert.QkvRefIdeal.Val.run_value m' ρ')⟩

end Cert.Proof.QkvPart

end
-- ==== Proof.SsmInValue.lean ====
/-
  The mixer's input projections: every token row is normalised and multiplied by the columns of one weight matrix. The gate's
  columns, the convolution's columns and the step columns go to arrays of their own, the step columns twice, once transposed.
-/
module

public import proofs.«01_k».proof.Defs
public import proofs.«01_k».proof.Proof.Gen.SsmInIdeal.Value
public import proofs.«01_k».proof.Proof.Gen.SsmInRefIdeal.Run
public import proofs.«01_k».proof.Proof.RowMath
public import Idealize.ShloMosaic.Lib.Pipeline.ReadBack
public import Idealize.ShloMosaic.Lib.Quiescent

@[expose] public section

set_option maxRecDepth 16384

noncomputable section

namespace Cert.SsmInIdeal.Val

open Cert.SsmInIdeal Cert.SsmInIdeal.Gen Idealize.ShloMosaic Idealize.ShloMosaic.TcCoe Idealize.SL.Sem
open Idealize.ShloMosaic.Pipeline (Dat)
open Cert.Row

/-- The normalised row of token `s` of sample `b`. -/
def tokenRow (x : Vec Ideal S32x2048x1024 .f32) (g : Vec Ideal S1024 .f32) (b : Fin 32) (s : Fin 2048) : Fin 1024 → EReal :=
  rms (fun k => x (ix3 b s k)) (fun k => g (ix1 k))

/-- The gate's projection. -/
def gateValue (x : Vec Ideal S32x2048x1024 .f32) (g : Vec Ideal S1024 .f32) (w : Vec Ideal S1024x5184 .f32) : Vec Ideal S32x2048x2048 .bf16 :=
  fun i => rowMul (tokenRow x g (i 0) (i 1)) (fun k (j : Fin 2048) => w (ix2 k ⟨j.val, by omega⟩)) (i 2)

/-- The convolution's projection. -/
def convValue (x : Vec Ideal S32x2048x1024 .f32) (g : Vec Ideal S1024 .f32) (w : Vec Ideal S1024x5184 .f32) : Vec Ideal S32x2048x3072 .bf16 :=
  fun i => rowMul (tokenRow x g (i 0) (i 1)) (fun k (j : Fin 3072) => w (ix2 k ⟨2048 + j.val, by omega⟩)) (i 2)

/-- The step projection. -/
def stepValue (x : Vec Ideal S32x2048x1024 .f32) (g : Vec Ideal S1024 .f32) (w : Vec Ideal S1024x5184 .f32) : Vec Ideal S32x2048x64 .f32 :=
  fun i => rowMul (tokenRow x g (i 0) (i 1)) (fun k (j : Fin 64) => w (ix2 k ⟨5120 + j.val, by omega⟩)) (i 2)

/-- The step projection with heads before tokens. -/
def stepValueT (x : Vec Ideal S32x2048x1024 .f32) (g : Vec Ideal S1024 .f32) (w : Vec Ideal S1024x5184 .f32) : Vec Ideal S32x64x2048 .f32 :=
  fun i => rowMul (tokenRow x g (i 0) (i 2)) (fun k (j : Fin 64) => w (ix2 k ⟨5120 + j.val, by omega⟩)) (i 1)

/-- The normalised rows of a block. -/
theorem pay3_apply (x : Vec Ideal S1x512x1024 .f32) (g : Vec Ideal S1x1024 .f32) (r : Fin 512) (k : Fin 1024) :
    k0_pay3 x g (ix2 r k) = rms (fun k => x (ix3 0 r k)) (row g 0) k := by
  pointwise [k0_pay3]
  try rfl

/-- The gate's block. -/
theorem pay4_apply (x : Vec Ideal S1x512x1024 .f32) (g : Vec Ideal S1x1024 .f32) (w : Vec Ideal S1024x2048 .bf16) (y : S1x512x2048.Idx) :
    k0_pay4 x g w y = rowMul (rms (fun k => x (ix3 0 (y 1) k)) (row g 0)) (mat w) (y 2) := by
  have h := pay3_apply x g (y 1)
  pointwise [k0_pay4]
  unfold rowMul
  exact Finset.sum_congr rfl fun k _ => congrArg (· * _) (h k)

/-- The convolution's block. -/
theorem pay5_apply (x : Vec Ideal S1x512x1024 .f32) (g : Vec Ideal S1x1024 .f32) (w : Vec Ideal S1024x3072 .bf16) (y : S1x512x3072.Idx) :
    k0_pay5 x g w y = rowMul (rms (fun k => x (ix3 0 (y 1) k)) (row g 0)) (mat w) (y 2) := by
  have h := pay3_apply x g (y 1)
  pointwise [k0_pay5]
  unfold rowMul
  exact Finset.sum_congr rfl fun k _ => congrArg (· * _) (h k)

/-- The steps' block. -/
theorem pay1_apply (x : Vec Ideal S1x512x1024 .f32) (g : Vec Ideal S1x1024 .f32) (w : Vec Ideal S1024x64 .bf16) (y : S1x512x64.Idx) :
    k0_pay1 (k0_pay3 x g) (k0_pay6 w) (constant S512x64 .f32 0x00000000#32) y
      = rowMul (rms (fun k => x (ix3 0 (y 1) k)) (row g 0)) (mat w) (y 2) := by
  have h := pay3_apply x g (y 1)
  pointwise [k0_pay1, k0_pay6]
  unfold rowMul
  exact Finset.sum_congr rfl fun k _ => congrArg (· * _) (h k)

/-- The steps' block with heads before tokens: the weights stand on the left of the product. -/
theorem pay2_apply (x : Vec Ideal S1x512x1024 .f32) (g : Vec Ideal S1x1024 .f32) (w : Vec Ideal S64x1024 .bf16) (y : S1x64x512.Idx) :
    k0_pay2 (k0_pay3 x g) w y = rowMul (rms (fun k => x (ix3 0 (y 2) k)) (row g 0)) (fun k j => w (ix2 j k)) (y 1) := by
  have h := pay3_apply x g (y 2)
  pointwise [k0_pay2]
  unfold rowMul
  exact Finset.sum_congr rfl fun k _ => (mul_comm _ _).trans (congrArg (· * _) (h k))

variable (m : (ℓ : Loc nD τ sig) → Buf (Elt Ideal) ℓ)

/-- Which block each window shows at grid point `t`. -/
theorem idx : ∀ t : Fin grid0.N, win0_0.index t = ![(grid0.coords t 0).val, (grid0.coords t 1).val, 0] ∧ win0_1.index t = ![0, 0]
    ∧ win0_2.index t = ![0, 0] ∧ win0_3.index t = ![0, 0] ∧ win0_4.index t = ![0, 0] ∧ win0_5.index t = ![0, 0]
    ∧ win0_6.index t = ![(grid0.coords t 0).val, (grid0.coords t 1).val, 0]
    ∧ win0_7.index t = ![(grid0.coords t 0).val, (grid0.coords t 1).val, 0]
    ∧ win0_8.index t = ![(grid0.coords t 0).val, (grid0.coords t 1).val, 0]
    ∧ win0_9.index t = ![(grid0.coords t 0).val, 0, (grid0.coords t 1).val] := by
  decide +kernel

set_option maxHeartbeats 1000000 in
/-- Output window 6's array after the run. -/
theorem final6 (c : Dev nD) : (dats m 0 c).arrAt 6 cfg0.N = gateValue (m ((c.tc : Thread nD τ).loc main_arg0)) (m ((c.tc : Thread nD τ).loc main_arg1)) (m ((c.tc : Thread nD τ).loc main_arg2)) := by
  refine (dats m 0 c).arrAt_eq_of_covers 6 _ (by decide +kernel) fun t hf y => ?_
  obtain ⟨e0, e1, e2, e3, e4, e5, e6, e7, e8, e9⟩ := idx t
  blk_simp
  rw [after0_6]
  unfold out0_6
  frame_out
  erw [pay4_apply]
  unfold gateValue
  congr 1
  · congr 1
    · funext k; blk_ext [iblk, V, e0, e6]
    · funext k; dsimp only [row]; blk_ext! [iblk, e1]
  · funext i j; dsimp only [mat]; blk_ext! [iblk, e2]
  · apply Fin.ext; blk_simp [e6]

set_option maxHeartbeats 1000000 in
/-- Output window 7's array after the run. -/
theorem final7 (c : Dev nD) : (dats m 0 c).arrAt 7 cfg0.N = convValue (m ((c.tc : Thread nD τ).loc main_arg0)) (m ((c.tc : Thread nD τ).loc main_arg1)) (m ((c.tc : Thread nD τ).loc main_arg2)) := by
  refine (dats m 0 c).arrAt_eq_of_covers 7 _ (by decide +kernel) fun t hf y => ?_
  obtain ⟨e0, e1, e2, e3, e4, e5, e6, e7, e8, e9⟩ := idx t
  blk_simp
  rw [after0_7]
  unfold out0_7
  frame_out
  erw [pay5_apply]
  unfold convValue
  congr 1
  · congr 1
    · funext k; blk_ext [iblk, V, e0, e7]
    · funext k; dsimp only [row]; blk_ext! [iblk, e1]
  · funext i j; dsimp only [mat]; blk_ext! [iblk, e3]
  · apply Fin.ext; blk_simp [e7]

set_option maxHeartbeats 1000000 in
/-- Output window 8's array after the run. -/
theorem final8 (c : Dev nD) : (dats m 0 c).arrAt 8 cfg0.N = stepValue (m ((c.tc : Thread nD τ).loc main_arg0)) (m ((c.tc : Thread nD τ).loc main_arg1)) (m ((c.tc : Thread nD τ).loc main_arg2)) := by
  refine (dats m 0 c).arrAt_eq_of_covers 8 _ (by decide +kernel) fun t hf y => ?_
  obtain ⟨e0, e1, e2, e3, e4, e5, e6, e7, e8, e9⟩ := idx t
  blk_simp
  rw [after0_8]
  unfold out0_8 k0_pay7
  frame_out
  erw [pay1_apply]
  unfold stepValue
  congr 1
  · congr 1
    · funext k; blk_ext [iblk, V, e0, e8]
    · funext k; dsimp only [row]; blk_ext! [iblk, e1]
  · funext i j; dsimp only [mat]; blk_ext! [iblk, e4]
  · apply Fin.ext; blk_simp [e8]

set_option maxHeartbeats 1000000 in
/-- Output window 9's array after the run. -/
theorem final9 (c : Dev nD) : (dats m 0 c).arrAt 9 cfg0.N = stepValueT (m ((c.tc : Thread nD τ).loc main_arg0)) (m ((c.tc : Thread nD τ).loc main_arg1)) (m ((c.tc : Thread nD τ).loc main_arg2)) := by
  refine (dats m 0 c).arrAt_eq_of_covers 9 _ (by decide +kernel) fun t hf y => ?_
  obtain ⟨e0, e1, e2, e3, e4, e5, e6, e7, e8, e9⟩ := idx t
  blk_simp
  rw [after0_9]
  unfold out0_9 k0_pay7
  frame_out
  erw [pay2_apply]
  unfold stepValueT
  congr 1
  · congr 1
    · funext k; blk_ext [iblk, V, e0, e9]
    · funext k; dsimp only [row]; blk_ext! [iblk, e1]
  · funext i j; blk_ext! [iblk, e5]
  · apply Fin.ext; blk_simp [e9]

end Cert.SsmInIdeal.Val

namespace Cert.SsmInRefIdeal.Val

open Cert.SsmInRefIdeal Idealize.ShloMosaic Idealize.ShloMosaic.TcCoe Idealize.SL.Sem
open Cert.Row Cert.SsmInIdeal.Val

set_option maxHeartbeats 2000000 in
/-- The reference's run leaves the same values. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = gateValue (m ((c.tc : Thread nD τ).loc main_arg0)) (m ((c.tc : Thread nD τ).loc main_arg1)) (m ((c.tc : Thread nD τ).loc main_arg2))
      ∧ r.2.mem ((c.tc : Thread nD τ).loc main_v18) = convValue (m ((c.tc : Thread nD τ).loc main_arg0)) (m ((c.tc : Thread nD τ).loc main_arg1)) (m ((c.tc : Thread nD τ).loc main_arg2))
      ∧ r.2.mem ((c.tc : Thread nD τ).loc main_v16) = stepValue (m ((c.tc : Thread nD τ).loc main_arg0)) (m ((c.tc : Thread nD τ).loc main_arg1)) (m ((c.tc : Thread nD τ).loc main_arg2))
      ∧ r.2.mem ((c.tc : Thread nD τ).loc main_v19) = stepValueT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => by
    obtain ⟨h0, h1, h2, h3, hk⟩ := h c
    refine ⟨h0.trans ?_, h1.trans ?_, h2.trans ?_, h3.trans ?_, hk⟩
    · funext i; pointwise []; simp only [gateValue, tokenRow, rms, rowMul]; try rfl
    · funext i; pointwise []; simp only [convValue, tokenRow, rms, rowMul]; try rfl
    · funext i; pointwise []; simp only [stepValue, tokenRow, rms, rowMul]; try rfl
    · funext i; pointwise []; simp only [stepValueT, tokenRow, rms, rowMul]; try rfl) (Value.run m ρ)

end Cert.SsmInRefIdeal.Val

namespace Cert.Proof.SsmInPart

open Idealize.ShloMosaic Idealize.SL.Sem

/-- The reference runs to an end, keeps its arguments and leaves no counter behind. -/
theorem frame_ref : Cert.quiescent_SsmInRefIdeal := fun m ρ _ =>
  (θ_run _ _ _).mono (fun r h => ⟨fun c => (h c).2.2.2.2, sem_eq_zero_of_no_sems (by decide) _⟩) (Cert.SsmInRefIdeal.Value.run m ρ)

/-- Kernel and reference end with the same four arrays. -/
theorem algebraic : Cert.algebraic_SsmInIdeal_SsmInRefIdeal := fun m ρ m' ρ' _ hag =>
  ⟨fun c => (Cert.SsmInIdeal.Gen.dats m 0 c).arrAt 6 Cert.SsmInIdeal.cfg0.N,
    fun c => (Cert.SsmInIdeal.Gen.dats m 0 c).arrAt 7 Cert.SsmInIdeal.cfg0.N,
    fun c => (Cert.SsmInIdeal.Gen.dats m 0 c).arrAt 8 Cert.SsmInIdeal.cfg0.N,
    fun c => (Cert.SsmInIdeal.Gen.dats m 0 c).arrAt 9 Cert.SsmInIdeal.cfg0.N,
    Cert.SsmInIdeal.Value.run_blocks m ρ,
    (θ_run _ _ _).mono (fun _ h c => by
      obtain ⟨a0, a1, a2⟩ := hag c
      obtain ⟨h0, h1, h2, h3, hk⟩ := h c
      refine ⟨h0.trans ?_, h1.trans ?_, h2.trans ?_, h3.trans ?_, hk⟩ <;> rw [a0, a1, a2]
      · exact (Cert.SsmInIdeal.Val.final6 m c).symm
      · exact (Cert.SsmInIdeal.Val.final7 m c).symm
      · exact (Cert.SsmInIdeal.Val.final8 m c).symm
      · exact (Cert.SsmInIdeal.Val.final9 m c).symm) (Cert.SsmInRefIdeal.Val.run_value m' ρ')⟩

end Cert.Proof.SsmInPart

end
-- ==== Proof.SsmOutValue.lean ====
/-
  The mixer's gated norm and output projection: every token row is gated, normalised in four groups of 512 columns,
  multiplied by the weights, normalised again and added to the residual, in the kernel as in the reference.
-/
module

public import proofs.«01_k».proof.Defs
public import proofs.«01_k».proof.Proof.Gen.SsmOutIdeal.Value
public import proofs.«01_k».proof.Proof.Gen.SsmOutRefIdeal.Run
public import proofs.«01_k».proof.Proof.RowMath
public import Idealize.ShloMosaic.Lib.Pipeline.ReadBack
public import Idealize.ShloMosaic.Lib.Quiescent

@[expose] public section

set_option maxRecDepth 16384

noncomputable section

namespace Cert.SsmOutIdeal.Val

open Cert.SsmOutIdeal Cert.SsmOutIdeal.Gen Idealize.ShloMosaic Idealize.ShloMosaic.TcCoe Idealize.SL.Sem
open Idealize.ShloMosaic.Pipeline (Dat)
open Cert.Row

/-- The scanned row times the gate's `silu`. -/
def gate (y z : Fin 2048 → EReal) (j : Fin 2048) : EReal := y j * (z j * Ideal.div 1 (1 + Ideal.exp (0 - z j)))

/-- Column `k` of the group of 512 columns that holds column `j`. -/
def mate (j : Fin 2048) (k : Fin 512) : Fin 2048 := ⟨j.val / 512 * 512 + k.val, by omega⟩

/-- Root-mean-square normalisation within each group of 512 columns, without gains. -/
def grouped (u : Fin 2048 → EReal) (j : Fin 2048) : EReal :=
  u j * Ideal.rsqrt (Ideal.div (∑ k, u (mate j k) * u (mate j k)) (Ideal.ofBits .f32 0x44000000#32) + Ideal.ofBits .f32 0x358637BD#32)

/-- One token row of the call. -/
def outRow (x : Fin 1024 → EReal) (y z g : Fin 2048 → EReal) (w : Fin 2048 → Fin 1024 → EReal) (g' : Fin 1024 → EReal) (c : Fin 1024) : EReal :=
  x c + rms (rowMul (fun j => grouped (gate y z) j * g j) w) g' c

/-- The value both programs compute. -/
def value (x : Vec Ideal S65536x1024 .f32) (y z : Vec Ideal S65536x2048 .f32) (g : Vec Ideal S2048 .f32)
    (w : Vec Ideal S2048x1024 .f32) (g' : Vec Ideal S1024 .f32) : Vec Ideal S65536x1024 .f32 :=
  fun i => outRow (row x (i 0)) (row y (i 0)) (row z (i 0)) (fun k => g (ix1 k)) (mat w) (fun k => g' (ix1 k)) (i 1)

/-- The gated rows of a block. -/
theorem pay1_apply (a b : Vec Ideal S512x2048 .bf16) (i : S512x2048.Idx) : k0_pay1 a b i = gate (row a (i 0)) (row b (i 0)) (i 1) := by
  pointwise [k0_pay1]
  simp only [gate, row, ix2_eta]

/-- The group's column range, once its start is known. -/
theorem grouped_at (u : Fin 2048 → EReal) (j : Fin 2048) {o : ℕ} (ho : o + 512 ≤ 2048) (hj : j.val / 512 * 512 = o) :
    grouped u j = u j * Ideal.rsqrt (Ideal.div (∑ k : Fin 512, u ⟨o + k.val, by omega⟩ * u ⟨o + k.val, by omega⟩)
      (Ideal.ofBits .f32 0x44000000#32) + Ideal.ofBits .f32 0x358637BD#32) := by
  subst hj; rfl

/-- Four groups normalised one by one and laid side by side. -/
theorem pieces (u : Fin 2048 → EReal) (j : Fin 2048) :
    (if h : j.val < 512 then u j * Ideal.rsqrt (Ideal.div (∑ k : Fin 512, u ⟨k.val, by omega⟩ * u ⟨k.val, by omega⟩)
        (Ideal.ofBits .f32 0x44000000#32) + Ideal.ofBits .f32 0x358637BD#32)
      else if h : j.val - 512 < 512 then u ⟨512 + (j.val - 512), by omega⟩ * Ideal.rsqrt (Ideal.div
          (∑ k : Fin 512, u ⟨512 + k.val, by omega⟩ * u ⟨512 + k.val, by omega⟩)
        (Ideal.ofBits .f32 0x44000000#32) + Ideal.ofBits .f32 0x358637BD#32)
      else if h : j.val - 512 - 512 < 512 then u ⟨1024 + (j.val - 512 - 512), by omega⟩ * Ideal.rsqrt (Ideal.div
          (∑ k : Fin 512, u ⟨1024 + k.val, by omega⟩ * u ⟨1024 + k.val, by omega⟩)
        (Ideal.ofBits .f32 0x44000000#32) + Ideal.ofBits .f32 0x358637BD#32)
      else u ⟨1536 + (j.val - 512 - 512 - 512), by omega⟩ * Ideal.rsqrt (Ideal.div
          (∑ k : Fin 512, u ⟨1536 + k.val, by omega⟩ * u ⟨1536 + k.val, by omega⟩)
        (Ideal.ofBits .f32 0x44000000#32) + Ideal.ofBits .f32 0x358637BD#32)) = grouped u j := by
  have hj := j.isLt
  split_ifs with h1 h2 h3
  · rw [grouped_at u j (o := 0) (by omega) (by omega)]
    simp only [Nat.zero_add]
  · rw [grouped_at u j (o := 512) (by omega) (by omega)]
    congr 2
    exact Fin.ext (by dsimp only; omega)
  · rw [grouped_at u j (o := 1024) (by omega) (by omega)]
    congr 2
    exact Fin.ext (by dsimp only; omega)
  · rw [grouped_at u j (o := 1536) (by omega) (by omega)]
    congr 2
    exact Fin.ext (by dsimp only; omega)

/-- The payload of one grid point, at a row and a column. -/
theorem pay6_at (a b : Vec Ideal S512x2048 .bf16) (x : Vec Ideal S512x1024 .f32) (g : Vec Ideal S1x2048 .f32)
    (w : Vec Ideal S2048x1024 .bf16) (g' : Vec Ideal S1x1024 .f32) (r : Fin 512) (q : Fin 1024) :
    k0_pay6 (k0_pay1 a b) (k0_pay2 a b) (k0_pay3 a b) (k0_pay4 a b) (k0_pay5 a b) (Scalar.ofBits .f32 0x358637BD#32) g w x g' (ix2 r q)
      = outRow (row x r) (row a r) (row b r) (row g 0) (mat w) (row g' 0) q := by
  pointwise [k0_pay6, k0_pay2, k0_pay3, k0_pay4, k0_pay5]
  have key := fun j : Fin 2048 => pieces (fun j => k0_pay1 a b (ix2 r j)) j
  simp only [key]
  have hu : (fun j => k0_pay1 a b (ix2 r j)) = gate (row a r) (row b r) := funext fun j => pay1_apply a b (ix2 r j)
  simp only [hu]
  simp only [outRow, rms, rowMul, row, mat, ix2_eta]

/-- The payload of one grid point. -/
theorem pay6_apply (a b : Vec Ideal S512x2048 .bf16) (x : Vec Ideal S512x1024 .f32) (g : Vec Ideal S1x2048 .f32)
    (w : Vec Ideal S2048x1024 .bf16) (g' : Vec Ideal S1x1024 .f32) (y : S512x1024.Idx) :
    k0_pay6 (k0_pay1 a b) (k0_pay2 a b) (k0_pay3 a b) (k0_pay4 a b) (k0_pay5 a b) (Scalar.ofBits .f32 0x358637BD#32) g w x g' y
      = outRow (row x (y 0)) (row a (y 0)) (row b (y 0)) (row g 0) (mat w) (row g' 0) (y 1) :=
  (congrArg _ (ix2_eta y).symm).trans (pay6_at a b x g w g' (y 0) (y 1))

variable (m : (ℓ : Loc nD τ sig) → Buf (Elt Ideal) ℓ)

/-- Which block each window shows at grid point `t`. -/
theorem idx : ∀ t : Fin grid0.N, win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0] ∧ win0_5.index t = ![0, 0]
    ∧ win0_6.index t = ![(grid0.coords t 0).val, 0] := by
  decide +kernel

set_option maxHeartbeats 1000000 in
/-- The output array after the run. -/
theorem final (c : Dev nD) : (dats m 0 c).arrAt 6 cfg0.N = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  obtain ⟨e0, e1, e2, e3, e4, e5, e6⟩ := idx t
  blk_simp
  rw [after0_6]
  unfold out0_6
  frame_out
  erw [pay6_apply]
  unfold value
  congr 1
  · funext k; dsimp only [row]; blk_ext [iblk, V, e0, e6]
  · funext k; dsimp only [row]; blk_ext [iblk, V, e1, e6]
  · funext k; dsimp only [row]; blk_ext [iblk, V, e2, e6]
  · funext k; dsimp only [row]; blk_ext! [iblk, e3]
  · funext i j; dsimp only [mat]; blk_ext [iblk, V, e4]
  · funext k; dsimp only [row]; blk_ext! [iblk, e5]
  · apply Fin.ext; blk_simp [e6]

end Cert.SsmOutIdeal.Val

namespace Cert.SsmOutRefIdeal.Val

open Cert.SsmOutRefIdeal Idealize.ShloMosaic Idealize.ShloMosaic.TcCoe Idealize.SL.Sem
open Cert.Row Cert.SsmOutIdeal.Val

set_option maxHeartbeats 1000000 in
/-- The reference's result is the same value. -/
theorem res_eq (m : (ℓ : Loc nD τ sig) → Buf (Elt Ideal) ℓ) (c : Dev nD) : Value.res_out0 m c = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  show Value.res_main_v31 m c i = _
  pointwise [Value.res_main_v31]
  simp only [value, outRow, rms, rowMul, grouped, gate, mate, zero_sub, row, mat, ix2_eta]

end Cert.SsmOutRefIdeal.Val

namespace Cert.Proof.SsmOutPart

open Idealize.ShloMosaic Idealize.SL.Sem

/-- The reference runs to an end, keeps its arguments and leaves no counter behind. -/
theorem frame_ref : Cert.quiescent_SsmOutRefIdeal := fun m ρ _ =>
  (θ_run _ _ _).mono (fun r h => ⟨fun c => (h c).2, sem_eq_zero_of_no_sems (by decide) _⟩) (Cert.SsmOutRefIdeal.Value.run m ρ)

/-- Kernel and reference end with the same array. -/
theorem algebraic : Cert.algebraic_SsmOutIdeal_SsmOutRefIdeal := fun m ρ m' ρ' _ hag =>
  ⟨fun c => (Cert.SsmOutIdeal.Gen.dats m 0 c).arrAt 6 Cert.SsmOutIdeal.cfg0.N,
    Cert.SsmOutIdeal.Value.run_blocks m ρ,
    (θ_run _ _ _).mono (fun _ h c => ⟨(h c).1.trans (by
      obtain ⟨h0, h1, h2, h3, h4, h5⟩ := hag c
      refine (Cert.SsmOutRefIdeal.Val.res_eq m' c).trans ?_
      rw [h0, h1, h2, h3, h4, h5]
      exact (Cert.SsmOutIdeal.Val.final m c).symm), (h c).2⟩) (Cert.SsmOutRefIdeal.Value.run m' ρ')⟩

end Cert.Proof.SsmOutPart

end
-- ==== Proof.lean ====
/- The claims of this certificate, assembled: the modules beside this file prove them. -/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.SsmIn
public import proofs.«01_k».proof.Proof.Gen.SsmIn.Skeleton
public import proofs.«01_k».proof.Proof.Gen.SsmIn.Launch
public import proofs.«01_k».proof.Proof.Gen.SsmIn.Points
public import proofs.«01_k».proof.Proof.Gen.SsmIn.Frame
public import proofs.«01_k».proof.Proof.Gen.SsmInIdeal
public import proofs.«01_k».proof.Proof.Gen.SsmInIdeal.Skeleton
public import proofs.«01_k».proof.Proof.Gen.SsmInIdeal.Launch
public import proofs.«01_k».proof.Proof.Gen.SsmInIdeal.Points
public import proofs.«01_k».proof.Proof.Gen.SsmInIdeal.Frame
public import proofs.«01_k».proof.Proof.Gen.SsmInRefIdeal
public import proofs.«01_k».proof.Proof.Gen.SsmOut
public import proofs.«01_k».proof.Proof.Gen.SsmOut.Skeleton
public import proofs.«01_k».proof.Proof.Gen.SsmOut.Launch
public import proofs.«01_k».proof.Proof.Gen.SsmOut.Points
public import proofs.«01_k».proof.Proof.Gen.SsmOut.Frame
public import proofs.«01_k».proof.Proof.Gen.SsmOutIdeal
public import proofs.«01_k».proof.Proof.Gen.SsmOutIdeal.Skeleton
public import proofs.«01_k».proof.Proof.Gen.SsmOutIdeal.Launch
public import proofs.«01_k».proof.Proof.Gen.SsmOutIdeal.Points
public import proofs.«01_k».proof.Proof.Gen.SsmOutIdeal.Frame
public import proofs.«01_k».proof.Proof.Gen.SsmOutRefIdeal
public import proofs.«01_k».proof.Proof.Gen.AttnIdeal.Value
public import proofs.«01_k».proof.Proof.Gen.AttnRefIdeal.Run
public import proofs.«01_k».proof.Proof.Gen.FfnIdeal.Value
public import proofs.«01_k».proof.Proof.Gen.FfnRefIdeal.Run
public import proofs.«01_k».proof.Proof.Gen.MixIdeal.Value
public import proofs.«01_k».proof.Proof.Gen.MixRefIdeal.Run
public import proofs.«01_k».proof.Proof.Gen.QkvIdeal.Value
public import proofs.«01_k».proof.Proof.Gen.QkvRefIdeal.Run
public import proofs.«01_k».proof.Proof.Gen.SsmInIdeal.Value
public import proofs.«01_k».proof.Proof.Gen.SsmInRefIdeal.Run
public import proofs.«01_k».proof.Proof.Gen.SsmOutIdeal.Value
public import proofs.«01_k».proof.Proof.Gen.SsmOutRefIdeal.Run
public import proofs.«01_k».proof.Proof.AttnClaims
public import proofs.«01_k».proof.Proof.FfnClaims
public import proofs.«01_k».proof.Proof.MixClaims
public import proofs.«01_k».proof.Proof.QkvValue
public import proofs.«01_k».proof.Proof.SsmInValue
public import proofs.«01_k».proof.Proof.SsmOutValue
public import Idealize.ShloMosaic.Lib.Quiescent
public import Idealize.ShloMosaic.Adequacy
public import Idealize.ShloMosaic.Init

@[expose] public section

noncomputable section

namespace Cert.Proof

open Idealize.ShloMosaic Idealize.SL.Sem

/-- The attention's reference runs to an end, keeps its arguments and leaves no counter behind. -/
theorem attn_frame_ref : Cert.quiescent_AttnRefIdeal := fun m ρ _ =>
  (θ_run _ _ _).mono (fun r h => ⟨fun c => (h c).2, sem_eq_zero_of_no_sems (by decide) _⟩) (Cert.AttnRefIdeal.Value.run m ρ)

/-- The two constants the attention names are the numbers they stand for. -/
theorem attn_preserves : Cert.preserves_Attn_AttnIdeal :=
  ⟨IdealRules.named_const.statement Cert.AttnIdeal.κ "log2_e" .f32 0x3FB8AA3B#32 (((Real.log 2)⁻¹ : ℝ) : EReal) rfl,
    IdealRules.named_const.statement Cert.AttnIdeal.κ "query_scale" .f32 0x3E38AA3B#32 (((8 * (Real.log 2))⁻¹ : ℝ) : EReal) rfl⟩

/-- Every claim, in the order they are stated. -/
theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts, Cert.Mix.Gen.facts, Cert.MixIdeal.Gen.facts, Cert.MixRefIdeal.Gen.facts, Cert.Qkv.Gen.facts, Cert.QkvIdeal.Gen.facts, Cert.QkvRefIdeal.Gen.facts, Cert.SsmIn.Gen.facts, Cert.SsmInIdeal.Gen.facts, Cert.SsmInRefIdeal.Gen.facts, Cert.SsmOut.Gen.facts, Cert.SsmOutIdeal.Gen.facts, Cert.SsmOutRefIdeal.Gen.facts,
  AttnPart.preFacts,
  fun m ρ _ => Cert.Attn.Gen.frame m ρ, fun m ρ _ => Cert.AttnIdeal.Gen.frame m ρ, fun m ρ _ => Cert.AttnIdeal.Gen.frame m ρ,
  attn_frame_ref, AttnPart.frame_ref_pre,
  fun m ρ _ => Cert.Ffn.Gen.frame m ρ, fun m ρ _ => Cert.FfnIdeal.Gen.frame m ρ, FfnPart.frame_ref,
  fun m ρ _ => Cert.Mix.Gen.frame m ρ, fun m ρ _ => Cert.MixIdeal.Gen.frame m ρ, MixPart.frame_ref,
  fun m ρ _ => Cert.Qkv.Gen.frame m ρ, fun m ρ _ => Cert.QkvIdeal.Gen.frame m ρ, QkvPart.frame_ref,
  fun m ρ _ => Cert.SsmIn.Gen.frame m ρ, fun m ρ _ => Cert.SsmInIdeal.Gen.frame m ρ, SsmInPart.frame_ref,
  fun m ρ _ => Cert.SsmOut.Gen.frame m ρ, fun m ρ _ => Cert.SsmOutIdeal.Gen.frame m ρ, SsmOutPart.frame_ref,
  attn_preserves, AttnPart.algebraic,
  trivial, FfnPart.algebraic,
  trivial, MixPart.algebraic,
  trivial, QkvPart.algebraic,
  trivial, SsmInPart.algebraic,
  trivial, SsmOutPart.algebraic⟩

end Cert.Proof

end
